-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_v1_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S32x2048x1536 : Shape := ⟨3, ![32, 2048, 1536]⟩
abbrev S32x2048 : Shape := ⟨2, ![32, 2048]⟩
abbrev S32x2048x192 : Shape := ⟨3, ![32, 2048, 192]⟩
abbrev S1536 : Shape := ⟨1, ![1536]⟩
abbrev S_ : Shape := ⟨0, ![]⟩

class Facts : Prop where
  natLt_8_32 : 8 < 32
  bcast_S_S32x2048x1536 : S_.BroadcastsInDim S32x2048x1536 (![] : Fin 0 → Fin S32x2048x1536.rank)
  reducesTo_S32x2048x1536_S_d0_1_2 : S32x2048x1536.ReducesTo [0, 1, 2] S_
  h_S_ : 0 < S_.numel
  bcast_S_S32x2048 : S_.BroadcastsInDim S32x2048 (![] : Fin 0 → Fin S32x2048.rank)
  reducesTo_S32x2048_S_d0_1 : S32x2048.ReducesTo [0, 1] S_
  bitsLt_bf16_f32 : FTy.bits .bf16 < FTy.bits .f32
  bcast_S_S1536 : S_.BroadcastsInDim S1536 (![] : Fin 0 → Fin S1536.rank)
  reducesTo_S1536_S_d0 : S1536.ReducesTo [0] S_

variable [Facts]

def fn_part2 {F : FTy → Type} [FloatOps F] (main_v32 : IVec S_ 1) (main_v33 : FVec F S1536 .f32) (main_cst_11 : FVec F S_ .f32) : IVec S_ 1 :=
  let main_v34 : FVec F S1536 .f32 := broadcastInDim S1536 ![] bcast_S_S1536 main_cst_11
  let main_v35 : IVec S1536 1 := cmpf .ole main_v33 main_v34
  let main_c_12 : IVec S_ 1 := constantI S_ 1 1#1
  let main_v36 : IVec S_ 1 := (fun x v => Host.reduce IntOp.andi x v reducesTo_S1536_S_d0 h_S_) main_v35 main_c_12
  let main_v37 : IVec S_ 1 := andi main_v32 main_v36
  main_v37

def fn_part1 {F : FTy → Type} [FloatOps F] (main_arg4 : FVec F S32x2048x1536 .bf16) (main_arg5 : FVec F S32x2048 .f32) (main_arg6 : FVec F S32x2048 .f32) (main_arg7 : FVec F S1536 .f32) (main_v16 : IVec S_ 1) : IVec S_ 1 :=
  let main_v17 : FVec F S32x2048x1536 .f32 := (extf .f32 · bitsLt_bf16_f32) main_arg4
  let main_v18 : FVec F S32x2048x1536 .f32 := Host.absf main_v17
  let main_cst_5 : FVec F S_ .f32 := constant S_ .f32 0x47800000#32
  let main_v19 : FVec F S32x2048x1536 .f32 := broadcastInDim S32x2048x1536 ![] bcast_S_S32x2048x1536 main_cst_5
  let main_v20 : IVec S32x2048x1536 1 := cmpf .ole main_v18 main_v19
  let main_c_6 : IVec S_ 1 := constantI S_ 1 1#1
  let main_v21 : IVec S_ 1 := (fun x v => Host.reduce IntOp.andi x v reducesTo_S32x2048x1536_S_d0_1_2 h_S_) main_v20 main_c_6
  let main_v22 : IVec S_ 1 := andi main_v16 main_v21
  let main_v23 : FVec F S32x2048 .f32 := Host.absf main_arg5
  let main_cst_7 : FVec F S_ .f32 := constant S_ .f32 0x47800000#32
  let main_v24 : FVec F S32x2048 .f32 := broadcastInDim S32x2048 ![] bcast_S_S32x2048 main_cst_7
  let main_v25 : IVec S32x2048 1 := cmpf .ole main_v23 main_v24
  let main_c_8 : IVec S_ 1 := constantI S_ 1 1#1
  let main_v26 : IVec S_ 1 := (fun x v => Host.reduce IntOp.andi x v reducesTo_S32x2048_S_d0_1 h_S_) main_v25 main_c_8
  let main_v27 : IVec S_ 1 := andi main_v22 main_v26
  let main_v28 : FVec F S32x2048 .f32 := Host.absf main_arg6
  let main_cst_9 : FVec F S_ .f32 := constant S_ .f32 0x47800000#32
  let main_v29 : FVec F S32x2048 .f32 := broadcastInDim S32x2048 ![] bcast_S_S32x2048 main_cst_9
  let main_v30 : IVec S32x2048 1 := cmpf .ole main_v28 main_v29
  let main_c_10 : IVec S_ 1 := constantI S_ 1 1#1
  let main_v31 : IVec S_ 1 := (fun x v => Host.reduce IntOp.andi x v reducesTo_S32x2048_S_d0_1 h_S_) main_v30 main_c_10
  let main_v32 : IVec S_ 1 := andi main_v27 main_v31
  let main_v33 : FVec F S1536 .f32 := Host.absf main_arg7
  let main_cst_11 : FVec F S_ .f32 := constant S_ .f32 0x47800000#32
  fn_part2 (F := F) main_v32 main_v33 main_cst_11

def fn {F : FTy → Type} [FloatOps F] (main_arg0 : IVec S32x2048x1536 8) (main_arg1 : FVec F S32x2048 .f32) (main_arg2 : FVec F S32x2048x1536 .bf16) (main_arg3 : IVec S32x2048x192 8) (main_arg4 : FVec F S32x2048x1536 .bf16) (main_arg5 : FVec F S32x2048 .f32) (main_arg6 : FVec F S32x2048 .f32) (main_arg7 : FVec F S1536 .f32) : IVec S_ 1 :=
  let main_v0 : IVec S32x2048x1536 32 := (extui 32 · natLt_8_32) main_arg0
  let main_c : IVec S_ 32 := constantI S_ 32 124#32
  let main_v1 : IVec S32x2048x1536 32 := broadcastInDim S32x2048x1536 ![] bcast_S_S32x2048x1536 main_c
  let main_v2 : IVec S32x2048x1536 32 := andi main_v0 main_v1
  let main_c_0 : IVec S_ 32 := constantI S_ 32 124#32
  let main_v3 : IVec S32x2048x1536 32 := broadcastInDim S32x2048x1536 ![] bcast_S_S32x2048x1536 main_c_0
  let main_v4 : IVec S32x2048x1536 1 := cmpi .ne main_v2 main_v3
  let main_c_1 : IVec S_ 1 := constantI S_ 1 1#1
  let main_v5 : IVec S_ 1 := (fun x v => Host.reduce IntOp.andi x v reducesTo_S32x2048x1536_S_d0_1_2 h_S_) main_v4 main_c_1
  let main_v6 : FVec F S32x2048 .f32 := Host.absf main_arg1
  let main_cst : FVec F S_ .f32 := constant S_ .f32 0x47800000#32
  let main_v7 : FVec F S32x2048 .f32 := broadcastInDim S32x2048 ![] bcast_S_S32x2048 main_cst
  let main_v8 : IVec S32x2048 1 := cmpf .ole main_v6 main_v7
  let main_c_2 : IVec S_ 1 := constantI S_ 1 1#1
  let main_v9 : IVec S_ 1 := (fun x v => Host.reduce IntOp.andi x v reducesTo_S32x2048_S_d0_1 h_S_) main_v8 main_c_2
  let main_v10 : IVec S_ 1 := andi main_v5 main_v9
  let main_v11 : FVec F S32x2048x1536 .f32 := (extf .f32 · bitsLt_bf16_f32) main_arg2
  let main_v12 : FVec F S32x2048x1536 .f32 := Host.absf main_v11
  let main_cst_3 : FVec F S_ .f32 := constant S_ .f32 0x47800000#32
  let main_v13 : FVec F S32x2048x1536 .f32 := broadcastInDim S32x2048x1536 ![] bcast_S_S32x2048x1536 main_cst_3
  let main_v14 : IVec S32x2048x1536 1 := cmpf .ole main_v12 main_v13
  let main_c_4 : IVec S_ 1 := constantI S_ 1 1#1
  let main_v15 : IVec S_ 1 := (fun x v => Host.reduce IntOp.andi x v reducesTo_S32x2048x1536_S_d0_1_2 h_S_) main_v14 main_c_4
  let main_v16 : IVec S_ 1 := andi main_v10 main_v15
  fn_part1 (F := F) main_arg4 main_arg5 main_arg6 main_arg7 main_v16
-- ==== Kernel.lean ====
abbrev S32x2048x1536 : Shape := ⟨3, ![32, 2048, 1536]⟩
abbrev S32x2048 : Shape := ⟨2, ![32, 2048]⟩
abbrev S32x2048x192 : Shape := ⟨3, ![32, 2048, 192]⟩
abbrev S1536 : Shape := ⟨1, ![1536]⟩
abbrev S1x1536 : Shape := ⟨2, ![1, 1536]⟩
abbrev S1x256x1536 : Shape := ⟨3, ![1, 256, 1536]⟩
abbrev S1x256x192 : Shape := ⟨3, ![1, 256, 192]⟩
abbrev S256x128 : Shape := ⟨2, ![256, 128]⟩
abbrev S256x1536 : Shape := ⟨2, ![256, 1536]⟩
abbrev S8x1536 : Shape := ⟨2, ![8, 1536]⟩
abbrev S16x1536 : Shape := ⟨2, ![16, 1536]⟩
abbrev S1x256 : Shape := ⟨2, ![1, 256]⟩
abbrev S1x128 : Shape := ⟨2, ![1, 128]⟩
abbrev S128x128 : Shape := ⟨2, ![128, 128]⟩
abbrev S6x256 : Shape := ⟨2, ![6, 256]⟩
abbrev S10x256 : Shape := ⟨2, ![10, 256]⟩
abbrev S16x256 : Shape := ⟨2, ![16, 256]⟩
abbrev S32x128 : Shape := ⟨2, ![32, 128]⟩
abbrev S1x32x128 : Shape := ⟨3, ![1, 32, 128]⟩
abbrev S8x128 : Shape := ⟨2, ![8, 128]⟩
abbrev S4x8x128 : Shape := ⟨3, ![4, 8, 128]⟩
abbrev S128 : Shape := ⟨1, ![128]⟩
abbrev S1x32x64 : Shape := ⟨3, ![1, 32, 64]⟩
abbrev S32x64 : Shape := ⟨2, ![32, 64]⟩
abbrev S8x128x1 : Shape := ⟨3, ![8, 128, 1]⟩

abbrev nBuf : Space → Nat
  | .hbm => 16
  | .vmem => 32
  | .smem => 0
  | _ => 0

abbrev bufTy : (tb : Table) → Fin (tcTables nBuf tb) → BufTy
  | .hbm, ⟨0, _⟩ => ⟨S32x2048x1536, .i8⟩
  | .hbm, ⟨1, _⟩ => ⟨S32x2048, .f32⟩
  | .hbm, ⟨2, _⟩ => ⟨S32x2048x1536, .bf16⟩
  | .hbm, ⟨3, _⟩ => ⟨S32x2048x192, .i8⟩
  | .hbm, ⟨4, _⟩ => ⟨S32x2048x1536, .bf16⟩
  | .hbm, ⟨5, _⟩ => ⟨S32x2048, .f32⟩
  | .hbm, ⟨6, _⟩ => ⟨S32x2048, .f32⟩
  | .hbm, ⟨7, _⟩ => ⟨S1536, .f32⟩
  | .hbm, ⟨8, _⟩ => ⟨S32x2048x1536, .fp8e5m2⟩
  | .hbm, ⟨9, _⟩ => ⟨S1x1536, .f32⟩
  | .hbm, ⟨10, _⟩ => ⟨S32x2048x1536, .bf16⟩
  | .hbm, ⟨11, _⟩ => ⟨S1x1536, .f32⟩
  | .hbm, ⟨12, _⟩ => ⟨S1x1536, .f32⟩
  | .hbm, ⟨13, _⟩ => ⟨S1x1536, .f32⟩
  | .hbm, ⟨14, _⟩ => ⟨S32x2048x1536, .fp8e5m2⟩
  | .hbm, ⟨15, _⟩ => ⟨S32x2048, .f32⟩
  | .local _ .vmem, ⟨0, _⟩ => ⟨S1x256x1536, .fp8e5m2⟩
  | .local _ .vmem, ⟨1, _⟩ => ⟨S1x256x1536, .fp8e5m2⟩
  | .local _ .vmem, ⟨2, _⟩ => ⟨S32x2048, .f32⟩
  | .local _ .vmem, ⟨3, _⟩ => ⟨S1x256x1536, .bf16⟩
  | .local _ .vmem, ⟨4, _⟩ => ⟨S1x256x1536, .bf16⟩
  | .local _ .vmem, ⟨5, _⟩ => ⟨S1x256x192, .i8⟩
  | .local _ .vmem, ⟨6, _⟩ => ⟨S1x256x192, .i8⟩
  | .local _ .vmem, ⟨7, _⟩ => ⟨S1x256x1536, .bf16⟩
  | .local _ .vmem, ⟨8, _⟩ => ⟨S1x256x1536, .bf16⟩
  | .local _ .vmem, ⟨9, _⟩ => ⟨S32x2048, .f32⟩
  | .local _ .vmem, ⟨10, _⟩ => ⟨S32x2048, .f32⟩
  | .local _ .vmem, ⟨11, _⟩ => ⟨S1x1536, .f32⟩
  | .local _ .vmem, ⟨12, _⟩ => ⟨S1x256x1536, .bf16⟩
  | .local _ .vmem, ⟨13, _⟩ => ⟨S1x256x1536, .bf16⟩
  | .local _ .vmem, ⟨14, _⟩ => ⟨S1x1536, .f32⟩
  | .local _ .vmem, ⟨15, _⟩ => ⟨S1x1536, .f32⟩
  | .local _ .vmem, ⟨16, _⟩ => ⟨S1x1536, .f32⟩
  | .local _ .vmem, ⟨17, _⟩ => ⟨S1x256x1536, .fp8e5m2⟩
  | .local _ .vmem, ⟨18, _⟩ => ⟨S1x256x1536, .fp8e5m2⟩
  | .local _ .vmem, ⟨19, _⟩ => ⟨S32x2048, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x1536, .f32⟩
  | .local _ .vmem, ⟨28, _⟩ => ⟨S256x1536, .f32⟩
  | .local _ .vmem, ⟨29, _⟩ => ⟨S8x1536, .f32⟩
  | .local _ .vmem, ⟨30, _⟩ => ⟨S8x1536, .f32⟩
  | .local _ .vmem, ⟨31, _⟩ => ⟨S16x1536, .f32⟩
  | _, _ => ⟨S32x2048x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_scratch10 : Ref sig .tc := ⟨.vmem, 30, rfl⟩
abbrev cc0_scratch11 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c256_i32 : BitVec 32 := 256#32
  let v5 : BitVec 32 := Scalar.muli arg1 c256_i32
  v5
def k0_off1 (i : grid0.Coords) : Fin 2 → Nat :=
  let arg0 : BitVec 32 := BitVec.ofNat 32 (i 0).val
  let v7 : Index := Scalar.indexCast arg0
  let arg1 : BitVec 32 := BitVec.ofNat 32 (i 1).val
  let c256_i32 : BitVec 32 := 256#32
  let v5 : BitVec 32 := Scalar.muli arg1 c256_i32
  let v6 : BitVec 32 := v5
  let v8 : Index := Scalar.indexCast v6
  ![v7.toNat, v8.toNat]
def k0_cond2 (i : grid0.Coords) : BitVec 1 :=
  let arg0 : BitVec 32 := BitVec.ofNat 32 (i 0).val
  let c31_i32 : BitVec 32 := 31#32
  let v10261 : BitVec 1 := Scalar.cmpi .eq arg0 c31_i32
  let arg1 : BitVec 32 := BitVec.ofNat 32 (i 1).val
  let c7_i32_5187 : BitVec 32 := 7#32
  let v10262 : BitVec 1 := Scalar.cmpi .eq arg1 c7_i32_5187
  let v10263 : BitVec 1 := Scalar.andi v10261 v10262
  let v10264 : BitVec 32 := Scalar.extui v10263
  let c0_i32_5188 : BitVec 32 := 0#32
  let v10265 : BitVec 1 := Scalar.cmpi .ne v10264 c0_i32_5188
  v10265

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1536 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x192 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S32x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1536 .fp8e5m2 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S32x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== ReferenceIdeal.lean ====
abbrev S32x2048x1536 : Shape := ⟨3, ![32, 2048, 1536]⟩
abbrev S32x2048 : Shape := ⟨2, ![32, 2048]⟩
abbrev S32x2048x192 : Shape := ⟨3, ![32, 2048, 192]⟩
abbrev S1536 : Shape := ⟨1, ![1536]⟩
abbrev S1x1536 : Shape := ⟨2, ![1, 1536]⟩
abbrev S32x2048x1 : Shape := ⟨3, ![32, 2048, 1]⟩
abbrev S1x1x1536 : Shape := ⟨3, ![1, 1, 1536]⟩
abbrev S32x2048x192x1 : Shape := ⟨4, ![32, 2048, 192, 1]⟩
abbrev S1x8 : Shape := ⟨2, ![1, 8]⟩
abbrev S8 : Shape := ⟨1, ![8]⟩
abbrev S1x1x1x8 : Shape := ⟨4, ![1, 1, 1, 8]⟩
abbrev S32x2048x192x8 : Shape := ⟨4, ![32, 2048, 192, 8]⟩
abbrev S1x254 : Shape := ⟨2, ![1, 254]⟩
abbrev S254 : Shape := ⟨1, ![254]⟩
abbrev S1x1x254 : Shape := ⟨3, ![1, 1, 254]⟩
abbrev S32x2048x254 : Shape := ⟨3, ![32, 2048, 254]⟩

abbrev nBuf : Space → Nat
  | .hbm => 15
  | .vmem => 14
  | .smem => 0
  | _ => 0

abbrev bufTy : (tb : Table) → Fin (tcTables nBuf tb) → BufTy
  | .hbm, ⟨0, _⟩ => ⟨S32x2048x1536, .i8⟩
  | .hbm, ⟨1, _⟩ => ⟨S32x2048, .f32⟩
  | .hbm, ⟨2, _⟩ => ⟨S32x2048x1536, .bf16⟩
  | .hbm, ⟨3, _⟩ => ⟨S32x2048x192, .i8⟩
  | .hbm, ⟨4, _⟩ => ⟨S32x2048x1536, .bf16⟩
  | .hbm, ⟨5, _⟩ => ⟨S32x2048, .f32⟩
  | .hbm, ⟨6, _⟩ => ⟨S32x2048, .f32⟩
  | .hbm, ⟨7, _⟩ => ⟨S1536, .f32⟩
  | .hbm, ⟨8, _⟩ => ⟨S32x2048x1536, .fp8e5m2⟩
  | .hbm, ⟨9, _⟩ => ⟨S32x2048x1536, .bf16⟩
  | .hbm, ⟨10, _⟩ => ⟨S1x1536, .f32⟩
  | .hbm, ⟨11, _⟩ => ⟨S1x1536, .f32⟩
  | .hbm, ⟨12, _⟩ => ⟨S1x1536, .f32⟩
  | .hbm, ⟨13, _⟩ => ⟨S32x2048x1536, .fp8e5m2⟩
  | .hbm, ⟨14, _⟩ => ⟨S32x2048, .f32⟩
  | .local _ .vmem, ⟨0, _⟩ => ⟨S32x2048x1536, .fp8e5m2⟩
  | .local _ .vmem, ⟨1, _⟩ => ⟨S32x2048, .f32⟩
  | .local _ .vmem, ⟨2, _⟩ => ⟨S32x2048x1536, .bf16⟩
  | .local _ .vmem, ⟨3, _⟩ => ⟨S32x2048x192, .i8⟩
  | .local _ .vmem, ⟨4, _⟩ => ⟨S32x2048x1536, .bf16⟩
  | .local _ .vmem, ⟨5, _⟩ => ⟨S32x2048, .f32⟩
  | .local _ .vmem, ⟨6, _⟩ => ⟨S32x2048, .f32⟩
  | .local _ .vmem, ⟨7, _⟩ => ⟨S1536, .f32⟩
  | .local _ .vmem, ⟨8, _⟩ => ⟨S32x2048x1536, .bf16⟩
  | .local _ .vmem, ⟨9, _⟩ => ⟨S1x1536, .f32⟩
  | .local _ .vmem, ⟨10, _⟩ => ⟨S1x1536, .f32⟩
  | .local _ .vmem, ⟨11, _⟩ => ⟨S1x1536, .f32⟩
  | .local _ .vmem, ⟨12, _⟩ => ⟨S32x2048x1536, .fp8e5m2⟩
  | .local _ .vmem, ⟨13, _⟩ => ⟨S32x2048, .f32⟩
  | _, _ => ⟨S32x2048x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32x2048x1536 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2048x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x2048x192 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x2048x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x2048x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x2048x1536 .fp8e5m2 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.KernelFrame.Runs.lean ====
/-
  What the runs of the kernel's body share: the way up to the region, the arrays there, the windows' blocks and the scratch arrays. It is the text that the
  generator writes for a directory without modules of its own.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      ((h c).2 main_arg7 (Pipeline.mem_restRefs_of main_arg7 (by decide) (by decide))).trans (V_main_arg7 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 256 = 0 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 256 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 256 = 255 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 256 = 255)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x256x1536 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x1536 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x192 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x1536 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1536 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x1536 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1536 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1536 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1536 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256x1536 .fp8e5m2 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S32x2048 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S256x128 .f32 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x128 .f32 := Memref.whole cc0_scratch3
abbrev scM0_4 : Memref sig .tc .vmem S256x128 .f32 := Memref.whole cc0_scratch4
abbrev scM0_5 : Memref sig .tc .vmem S256x128 .f32 := Memref.whole cc0_scratch5
abbrev scM0_6 : Memref sig .tc .vmem S256x128 .f32 := Memref.whole cc0_scratch6
abbrev scM0_7 : Memref sig .tc .vmem S256x1536 .f32 := Memref.whole cc0_scratch7
abbrev scM0_8 : Memref sig .tc .vmem S256x1536 .f32 := Memref.whole cc0_scratch8
abbrev scM0_9 : Memref sig .tc .vmem S8x1536 .f32 := Memref.whole cc0_scratch9
abbrev scM0_10 : Memref sig .tc .vmem S8x1536 .f32 := Memref.whole cc0_scratch10
abbrev scM0_11 : Memref sig .tc .vmem S16x1536 .f32 := Memref.whole cc0_scratch11
/-- The scratch `arg25` the kernel carries between points, as a view: what it holds is stated through it. -/
abbrev VS0_9 : View sig .tc .vmem S8x1536 .f32 := scM0_9.view
/-- The scratch `arg26` the kernel carries between points, as a view: what it holds is stated through it. -/
abbrev VS0_10 : View sig .tc .vmem S8x1536 .f32 := scM0_10.view
/-- The scratch `arg27` the kernel carries between points, as a view: what it holds is stated through it. -/
abbrev VS0_11 : View sig .tc .vmem S16x1536 .f32 := scM0_11.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, owns_whole]; try rfl

end Cert.Kernel.Gen

end
-- ==== Proof.KernelFrame.RunA.lean ====
/-
  The body's run at the first grid point: every operation is executed, and each buffer ends with the pieces stored in it.
-/
module

public import proofs.«01_k».proof.Proof.KernelFrame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 14200000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10, 11, 12, 13) at anything, handed back at some contents nothing names. -/
noncomputable def kernelRun0_A (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : cond0_0 i) (hc1 : ¬cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) :
    Σ' (LS9 : List (View.Piece (Elt F) S8x1536 .f32)), Σ' (LS10 : List (View.Piece (Elt F) S8x1536 .f32)), Σ' (LS11 : List (View.Piece (Elt F) S16x1536 .f32)), Σ' (LT0 : List (View.Piece (Elt F) S256x128 .f32)), Σ' (LT1 : List (View.Piece (Elt F) S256x128 .f32)), Σ' (LT2 : List (View.Piece (Elt F) S256x128 .f32)), Σ' (LT3 : List (View.Piece (Elt F) S256x128 .f32)), Σ' (LT4 : List (View.Piece (Elt F) S256x128 .f32)), { LT7 : List (View.Piece (Elt F) S256x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LT0) ∗ (∃ f, arg17.view.loc (c : Thread nD τ) ↦[arg17.view.set]{fullShare} arg17.view.writes (Elt F) f LT1) ∗ (∃ f, arg18.view.loc (c : Thread nD τ) ↦[arg18.view.set]{fullShare} arg18.view.writes (Elt F) f LT2) ∗ (∃ f, arg19.view.loc (c : Thread nD τ) ↦[arg19.view.set]{fullShare} arg19.view.writes (Elt F) f LT3) ∗ (∃ f, arg20.view.loc (c : Thread nD τ) ↦[arg20.view.set]{fullShare} arg20.view.writes (Elt F) f LT4) ∗ (∃ d, owns (c : Thread nD τ) arg21 fullShare d) ∗ (∃ d, owns (c : Thread nD τ) arg22 fullShare d) ∗ (∃ f, arg23.view.loc (c : Thread nD τ) ↦[arg23.view.set]{fullShare} arg23.view.writes (Elt F) f LT7) ∗ (∃ d, owns (c : Thread nD τ) arg24 fullShare d) ∗ (∃ f, arg25.view.loc (c : Thread nD τ) ↦[arg25.view.set]{fullShare} arg25.view.writes (Elt F) f LS9) ∗ (∃ f, arg26.view.loc (c : Thread nD τ) ↦[arg26.view.set]{fullShare} arg26.view.writes (Elt F) f LS10) ∗ (∃ f, arg27.view.loc (c : Thread nD τ) ↦[arg27.view.set]{fullShare} arg27.view.writes (Elt F) f LS11)) -∗ K ⟨⟩))
          ⊢ wp frame (wpE (defs₀ (F := F)) Variants.none c none) E (cc0_ln_dropout_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, fun E K => ?run⟩
  case run =>
    simp only [cc0_ln_dropout_bwd_eq_skeleton]; unfold cc0_ln_dropout_bwd_skel
    simp only [k0_part269_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part270_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part271_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part272_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]
    · iexists _, _; isplitr; swap; · iexact HS5
      ipureintro; rfl
    isplitl [HS6]
    · iexists _, _; isplitr; swap; · iexact HS6
      ipureintro; rfl
    isplitl [HS7]; · iexists _; iexact HS7
    isplitl [HS8]
    · iexists _, _; isplitr; swap; · iexact HS8
      ipureintro; rfl
    isplitl [HS9]; · iexists _; iexact HS9
    isplitl [HS10]; · iexists _; iexact HS10
    iexists _; iexact HS11

end Cert.Kernel.Gen

end
-- ==== Proof.KernelFrame.RunB.lean ====
/-
  The body's run at a grid point that is neither the first nor the last.
-/
module

public import proofs.«01_k».proof.Proof.KernelFrame.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 14164000 in
/-- What the body's stores leave in each output's staging memref, as pieces (last first) IN CASE B (`scf.if` 0 not taken, `scf.if` 1 not taken: points 1, 2, … 254: 254 of 256), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10, 11, 12, 13) at anything, handed back at some contents nothing names. -/
noncomputable def kernelRun0_B (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : ¬cond0_0 i) (hc1 : ¬cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) (xs9 : Vec F S8x1536 .f32) (xs10 : Vec F S8x1536 .f32) (xs11 : Vec F S16x1536 .f32) :
    Σ' (LS9 : List (View.Piece (Elt F) S8x1536 .f32)), Σ' (LS10 : List (View.Piece (Elt F) S8x1536 .f32)), Σ' (LS11 : List (View.Piece (Elt F) S16x1536 .f32)), Σ' (LT0 : List (View.Piece (Elt F) S256x128 .f32)), Σ' (LT1 : List (View.Piece (Elt F) S256x128 .f32)), Σ' (LT2 : List (View.Piece (Elt F) S256x128 .f32)), Σ' (LT3 : List (View.Piece (Elt F) S256x128 .f32)), Σ' (LT4 : List (View.Piece (Elt F) S256x128 .f32)), { LT7 : List (View.Piece (Elt F) S256x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare xs9 ∗ owns (c : Thread nD τ) arg26 fullShare xs10 ∗ owns (c : Thread nD τ) arg27 fullShare xs11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LT0) ∗ (∃ f, arg17.view.loc (c : Thread nD τ) ↦[arg17.view.set]{fullShare} arg17.view.writes (Elt F) f LT1) ∗ (∃ f, arg18.view.loc (c : Thread nD τ) ↦[arg18.view.set]{fullShare} arg18.view.writes (Elt F) f LT2) ∗ (∃ f, arg19.view.loc (c : Thread nD τ) ↦[arg19.view.set]{fullShare} arg19.view.writes (Elt F) f LT3) ∗ (∃ f, arg20.view.loc (c : Thread nD τ) ↦[arg20.view.set]{fullShare} arg20.view.writes (Elt F) f LT4) ∗ (∃ d, owns (c : Thread nD τ) arg21 fullShare d) ∗ (∃ d, owns (c : Thread nD τ) arg22 fullShare d) ∗ (∃ f, arg23.view.loc (c : Thread nD τ) ↦[arg23.view.set]{fullShare} arg23.view.writes (Elt F) f LT7) ∗ (∃ d, owns (c : Thread nD τ) arg24 fullShare d) ∗ (∃ f, arg25.view.loc (c : Thread nD τ) ↦[arg25.view.set]{fullShare} arg25.view.writes (Elt F) f LS9) ∗ (∃ f, arg26.view.loc (c : Thread nD τ) ↦[arg26.view.set]{fullShare} arg26.view.writes (Elt F) f LS10) ∗ (∃ f, arg27.view.loc (c : Thread nD τ) ↦[arg27.view.set]{fullShare} arg27.view.writes (Elt F) f LS11)) -∗ K ⟨⟩))
          ⊢ wp frame (wpE (defs₀ (F := F)) Variants.none c none) E (cc0_ln_dropout_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, fun E K => ?run⟩
  case run =>
    simp only [cc0_ln_dropout_bwd_eq_skeleton]; unfold cc0_ln_dropout_bwd_skel
    simp only [k0_part269_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part270_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part271_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part272_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%fs9, %hfs9, HS9⟩, ⟨%fs10, %hfs10, HS10⟩, ⟨%fs11, %hfs11, HS11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg25.eq_unread hfs9; obtain rfl := harg26.eq_unread hfs10; obtain rfl := harg27.eq_unread hfs11
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]
    · iexists _, _; isplitr; swap; · iexact HS5
      ipureintro; rfl
    isplitl [HS6]
    · iexists _, _; isplitr; swap; · iexact HS6
      ipureintro; rfl
    isplitl [HS7]; · iexists _; iexact HS7
    isplitl [HS8]
    · iexists _, _; isplitr; swap; · iexact HS8
      ipureintro; rfl
    isplitl [HS9]; · iexists _; iexact HS9
    isplitl [HS10]; · iexists _; iexact HS10
    iexists _; iexact HS11

end Cert.Kernel.Gen

end
-- ==== Proof.KernelFrame.RunC.lean ====
/-
  The body's run at the last grid point.
-/
module

public import proofs.«01_k».proof.Proof.KernelFrame.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 14208000 in
/-- What the body's stores leave in each output's staging memref, as pieces (last first) IN CASE C (`scf.if` 0 not taken, `scf.if` 1 taken: points 255), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10, 11, 12, 13) at anything, handed back at some contents nothing names. -/
noncomputable def kernelRun0_C (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : ¬cond0_0 i) (hc1 : cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) (xs9 : Vec F S8x1536 .f32) (xs10 : Vec F S8x1536 .f32) (xs11 : Vec F S16x1536 .f32) :
    Σ' (LS9 : List (View.Piece (Elt F) S8x1536 .f32)), Σ' (LS10 : List (View.Piece (Elt F) S8x1536 .f32)), Σ' (LS11 : List (View.Piece (Elt F) S16x1536 .f32)), Σ' (LT0 : List (View.Piece (Elt F) S256x128 .f32)), Σ' (LT1 : List (View.Piece (Elt F) S256x128 .f32)), Σ' (LT2 : List (View.Piece (Elt F) S256x128 .f32)), Σ' (LT3 : List (View.Piece (Elt F) S256x128 .f32)), Σ' (LT4 : List (View.Piece (Elt F) S256x128 .f32)), { LT7 : List (View.Piece (Elt F) S256x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare xs9 ∗ owns (c : Thread nD τ) arg26 fullShare xs10 ∗ owns (c : Thread nD τ) arg27 fullShare xs11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LT0) ∗ (∃ f, arg17.view.loc (c : Thread nD τ) ↦[arg17.view.set]{fullShare} arg17.view.writes (Elt F) f LT1) ∗ (∃ f, arg18.view.loc (c : Thread nD τ) ↦[arg18.view.set]{fullShare} arg18.view.writes (Elt F) f LT2) ∗ (∃ f, arg19.view.loc (c : Thread nD τ) ↦[arg19.view.set]{fullShare} arg19.view.writes (Elt F) f LT3) ∗ (∃ f, arg20.view.loc (c : Thread nD τ) ↦[arg20.view.set]{fullShare} arg20.view.writes (Elt F) f LT4) ∗ (∃ d, owns (c : Thread nD τ) arg21 fullShare d) ∗ (∃ d, owns (c : Thread nD τ) arg22 fullShare d) ∗ (∃ f, arg23.view.loc (c : Thread nD τ) ↦[arg23.view.set]{fullShare} arg23.view.writes (Elt F) f LT7) ∗ (∃ d, owns (c : Thread nD τ) arg24 fullShare d) ∗ (∃ f, arg25.view.loc (c : Thread nD τ) ↦[arg25.view.set]{fullShare} arg25.view.writes (Elt F) f LS9) ∗ (∃ f, arg26.view.loc (c : Thread nD τ) ↦[arg26.view.set]{fullShare} arg26.view.writes (Elt F) f LS10) ∗ (∃ f, arg27.view.loc (c : Thread nD τ) ↦[arg27.view.set]{fullShare} arg27.view.writes (Elt F) f LS11)) -∗ K ⟨⟩))
          ⊢ wp frame (wpE (defs₀ (F := F)) Variants.none c none) E (cc0_ln_dropout_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, fun E K => ?run⟩
  case run =>
    simp only [cc0_ln_dropout_bwd_eq_skeleton]; unfold cc0_ln_dropout_bwd_skel
    simp only [k0_part269_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part270_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part271_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part272_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%fs9, %hfs9, HS9⟩, ⟨%fs10, %hfs10, HS10⟩, ⟨%fs11, %hfs11, HS11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg25.eq_unread hfs9; obtain rfl := harg26.eq_unread hfs10; obtain rfl := harg27.eq_unread hfs11
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]
    · iexists _, _; isplitr; swap; · iexact HS5
      ipureintro; rfl
    isplitl [HS6]
    · iexists _, _; isplitr; swap; · iexact HS6
      ipureintro; rfl
    isplitl [HS7]; · iexists _; iexact HS7
    isplitl [HS8]
    · iexists _, _; isplitr; swap; · iexact HS8
      ipureintro; rfl
    isplitl [HS9]; · iexists _; iexact HS9
    isplitl [HS10]; · iexists _; iexact HS10
    iexists _; iexact HS11

end Cert.Kernel.Gen

end
-- ==== Proof.KernelFrame.lean ====
/-
  The kernel's frame at any float instance: the body at every grid point, the run over the grid, the arguments kept and the counters at zero. Nothing is said of the
  outputs. It is the text that the generator writes for a directory without modules of its own.
-/
module

public import proofs.«01_k».proof.Proof.KernelFrame.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg25`, which the kernel carries between points, cover it: one of them a store of the WHOLE buffer (Lib/Ring.lean `sl_whole_mem`). -/
theorem scover0_A_9 (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : cond0_0 i) (hc1 : ¬cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) (y : S8x1536.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7).1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7).1 (by sl_whole_mem) y

/-- What case A leaves in scratch `arg25`: its pieces read back over junk. -/
def sout0_A_9 (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : cond0_0 i) (hc1 : ¬cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) : Vec F S8x1536 .f32 :=
  VS0_9.read (Elt F) (VS0_9.writes (Elt F) VS0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7).1)

/-- Case A's pieces for scratch `arg26`, which the kernel carries between points, cover it: one of them a store of the WHOLE buffer (Lib/Ring.lean `sl_whole_mem`). -/
theorem scover0_A_10 (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : cond0_0 i) (hc1 : ¬cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) (y : S8x1536.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7).2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7).2.1 (by sl_whole_mem) y

/-- What case A leaves in scratch `arg26`: its pieces read back over junk. -/
def sout0_A_10 (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : cond0_0 i) (hc1 : ¬cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) : Vec F S8x1536 .f32 :=
  VS0_10.read (Elt F) (VS0_10.writes (Elt F) VS0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7).2.1)

/-- Case A's pieces for scratch `arg27`, which the kernel carries between points, cover it: 2 pieces of `S16x1536` tiling it (Lib/Ring.lean `Piece.tiledL`). -/
theorem scover0_A_11 (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : cond0_0 i) (hc1 : ¬cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) (y : S16x1536.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7).2.2.1 S16x1536.size (by sl_kernel_rfl) y

/-- What case A leaves in scratch `arg27`: its pieces read back over junk. -/
def sout0_A_11 (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : cond0_0 i) (hc1 : ¬cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) : Vec F S16x1536 .f32 :=
  VS0_11.read (Elt F) (VS0_11.writes (Elt F) VS0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7).2.2.1)

/-- Case B's pieces for scratch `arg25`, which the kernel carries between points, cover it: 96 pieces of `S8x128` tiling it (Lib/Ring.lean `Piece.tiledL`). -/
theorem scover0_B_9 (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : ¬cond0_0 i) (hc1 : ¬cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) (xs9 : Vec F S8x1536 .f32) (xs10 : Vec F S8x1536 .f32) (xs11 : Vec F S16x1536 .f32) (y : S8x1536.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 xs9 xs10 xs11).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 xs9 xs10 xs11).1 S8x128.size (by sl_kernel_rfl) y

/-- What case B leaves in scratch `arg25`: its pieces read back over junk. -/
def sout0_B_9 (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : ¬cond0_0 i) (hc1 : ¬cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) (xs9 : Vec F S8x1536 .f32) (xs10 : Vec F S8x1536 .f32) (xs11 : Vec F S16x1536 .f32) : Vec F S8x1536 .f32 :=
  VS0_9.read (Elt F) (VS0_9.writes (Elt F) VS0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 xs9 xs10 xs11).1)

/-- Case B's pieces for scratch `arg26`, which the kernel carries between points, cover it: 96 pieces of `S8x128` tiling it (Lib/Ring.lean `Piece.tiledL`). -/
theorem scover0_B_10 (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : ¬cond0_0 i) (hc1 : ¬cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) (xs9 : Vec F S8x1536 .f32) (xs10 : Vec F S8x1536 .f32) (xs11 : Vec F S16x1536 .f32) (y : S8x1536.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 xs9 xs10 xs11).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 xs9 xs10 xs11).2.1 S8x128.size (by sl_kernel_rfl) y

/-- What case B leaves in scratch `arg26`: its pieces read back over junk. -/
def sout0_B_10 (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : ¬cond0_0 i) (hc1 : ¬cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) (xs9 : Vec F S8x1536 .f32) (xs10 : Vec F S8x1536 .f32) (xs11 : Vec F S16x1536 .f32) : Vec F S8x1536 .f32 :=
  VS0_10.read (Elt F) (VS0_10.writes (Elt F) VS0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 xs9 xs10 xs11).2.1)

/-- Case B's pieces for scratch `arg27`, which the kernel carries between points, cover it: 1 piece of `S16x1536` tiling it (Lib/Ring.lean `Piece.tiledL`). -/
theorem scover0_B_11 (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : ¬cond0_0 i) (hc1 : ¬cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) (xs9 : Vec F S8x1536 .f32) (xs10 : Vec F S8x1536 .f32) (xs11 : Vec F S16x1536 .f32) (y : S16x1536.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 xs9 xs10 xs11).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 xs9 xs10 xs11).2.2.1 S16x1536.size (by sl_kernel_rfl) y

/-- What case B leaves in scratch `arg27`: its pieces read back over junk. -/
def sout0_B_11 (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : ¬cond0_0 i) (hc1 : ¬cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) (xs9 : Vec F S8x1536 .f32) (xs10 : Vec F S8x1536 .f32) (xs11 : Vec F S16x1536 .f32) : Vec F S16x1536 .f32 :=
  VS0_11.read (Elt F) (VS0_11.writes (Elt F) VS0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 xs9 xs10 xs11).2.2.1)

/-- Case C's pieces for scratch `arg25`, which the kernel carries between points, cover it: 96 pieces of `S8x128` tiling it (Lib/Ring.lean `Piece.tiledL`). -/
theorem scover0_C_9 (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : ¬cond0_0 i) (hc1 : cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) (xs9 : Vec F S8x1536 .f32) (xs10 : Vec F S8x1536 .f32) (xs11 : Vec F S16x1536 .f32) (y : S8x1536.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 xs9 xs10 xs11).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 xs9 xs10 xs11).1 S8x128.size (by sl_kernel_rfl) y

/-- What case C leaves in scratch `arg25`: its pieces read back over junk. -/
def sout0_C_9 (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : ¬cond0_0 i) (hc1 : cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) (xs9 : Vec F S8x1536 .f32) (xs10 : Vec F S8x1536 .f32) (xs11 : Vec F S16x1536 .f32) : Vec F S8x1536 .f32 :=
  VS0_9.read (Elt F) (VS0_9.writes (Elt F) VS0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 xs9 xs10 xs11).1)

/-- Case C's pieces for scratch `arg26`, which the kernel carries between points, cover it: 96 pieces of `S8x128` tiling it (Lib/Ring.lean `Piece.tiledL`). -/
theorem scover0_C_10 (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : ¬cond0_0 i) (hc1 : cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) (xs9 : Vec F S8x1536 .f32) (xs10 : Vec F S8x1536 .f32) (xs11 : Vec F S16x1536 .f32) (y : S8x1536.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 xs9 xs10 xs11).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 xs9 xs10 xs11).2.1 S8x128.size (by sl_kernel_rfl) y

/-- What case C leaves in scratch `arg26`: its pieces read back over junk. -/
def sout0_C_10 (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : ¬cond0_0 i) (hc1 : cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) (xs9 : Vec F S8x1536 .f32) (xs10 : Vec F S8x1536 .f32) (xs11 : Vec F S16x1536 .f32) : Vec F S8x1536 .f32 :=
  VS0_10.read (Elt F) (VS0_10.writes (Elt F) VS0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 xs9 xs10 xs11).2.1)

/-- Case C's pieces for scratch `arg27`, which the kernel carries between points, cover it: 1 piece of `S16x1536` tiling it (Lib/Ring.lean `Piece.tiledL`). -/
theorem scover0_C_11 (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : ¬cond0_0 i) (hc1 : cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) (xs9 : Vec F S8x1536 .f32) (xs10 : Vec F S8x1536 .f32) (xs11 : Vec F S16x1536 .f32) (y : S16x1536.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 xs9 xs10 xs11).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 xs9 xs10 xs11).2.2.1 S16x1536.size (by sl_kernel_rfl) y

/-- What case C leaves in scratch `arg27`: its pieces read back over junk. -/
def sout0_C_11 (c : Dev nD) (i : grid0.Coords) (arg2 : Memref sig .tc .vmem S1x256x1536 .fp8e5m2) (harg2 : arg2.IsWhole) (arg3 : Memref sig .tc .vmem S32x2048 .f32) (harg3 : arg3.IsWhole) (arg4 : Memref sig .tc .vmem S1x256x1536 .bf16) (harg4 : arg4.IsWhole) (arg5 : Memref sig .tc .vmem S1x256x192 .i8) (harg5 : arg5.IsWhole) (arg6 : Memref sig .tc .vmem S1x256x1536 .bf16) (harg6 : arg6.IsWhole) (arg7 : Memref sig .tc .vmem S32x2048 .f32) (harg7 : arg7.IsWhole) (arg8 : Memref sig .tc .vmem S32x2048 .f32) (harg8 : arg8.IsWhole) (arg9 : Memref sig .tc .vmem S1x1536 .f32) (harg9 : arg9.IsWhole) (arg10 : Memref sig .tc .vmem S1x256x1536 .bf16) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x256x1536 .fp8e5m2) (harg14 : arg14.IsWhole) (arg15 : Memref sig .tc .vmem S32x2048 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1536 .f32) (harg23 : arg23.IsWhole) (arg24 : Memref sig .tc .vmem S256x1536 .f32) (harg24 : arg24.IsWhole) (arg25 : Memref sig .tc .vmem S8x1536 .f32) (harg25 : arg25.IsWhole) (arg26 : Memref sig .tc .vmem S8x1536 .f32) (harg26 : arg26.IsWhole) (arg27 : Memref sig .tc .vmem S16x1536 .f32) (harg27 : arg27.IsWhole) (hc0 : ¬cond0_0 i) (hc1 : cond0_1 i)
    (x0 : Vec F S1x256x1536 .fp8e5m2) (x1 : Vec F S32x2048 .f32) (x2 : Vec F S1x256x1536 .bf16) (x3 : Vec F S1x256x192 .i8) (x4 : Vec F S1x256x1536 .bf16) (x5 : Vec F S32x2048 .f32) (x6 : Vec F S32x2048 .f32) (x7 : Vec F S1x1536 .f32) (xs9 : Vec F S8x1536 .f32) (xs10 : Vec F S8x1536 .f32) (xs11 : Vec F S16x1536 .f32) : Vec F S16x1536 .f32 :=
  VS0_11.read (Elt F) (VS0_11.writes (Elt F) VS0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 xs9 xs10 xs11).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x1536 .f32 × Vec F S8x1536 .f32 × Vec F S16x1536 .f32
  | 0, hn => (sout0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 256 = 0 then
      if h1 : (n + 1) % 256 = 255 then
        False.elim (by have hN : n + 1 < 256 := lt_of_lt_of_eq hn (show cfg0.N = 256 from N_0); omega)
      else
        (sout0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 256 = 255 then
        (sout0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2, sout0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2, sout0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2)
      else
        (sout0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2, sout0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2, sout0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 256 = 0) (h1 : ¬t.val % 256 = 255) :
    outsAt0 m c t.val t.isLt = (sout0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 256 = 0) (h1 : ¬t.val % 256 = 255) :
    outsAt0 m c t.val t.isLt = (sout0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 256 = 0) (h1 : t.val % 256 = 255) :
    outsAt0 m c t.val t.isLt = (sout0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ owns (c : Thread nD τ) scM0_9 fullShare ((outsAt0 m c n hn).1) ∗ owns (c : Thread nD τ) scM0_10 fullShare ((outsAt0 m c n hn).2.1) ∗ owns (c : Thread nD τ) scM0_11 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ owns (c : Thread nD τ) scM0_9 fullShare ((outsAt0 m c n hn).1) ∗ owns (c : Thread nD τ) scM0_10 fullShare ((outsAt0 m c n hn).2.1) ∗ owns (c : Thread nD τ) scM0_11 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ owns (c : Thread nD τ) scM0_9 fullShare ((outsAt0 m c (n - 1) (by omega)).1) ∗ owns (c : Thread nD τ) scM0_10 fullShare ((outsAt0 m c (n - 1) (by omega)).2.1) ∗ owns (c : Thread nD τ) scM0_11 fullShare ((outsAt0 m c (n - 1) (by omega)).2.2)) ∗ (∃ r, prngReg c r)) := by
  cases n with
  | zero => exact absurd rfl hz
  | succ n => rfl

/-! ## The pipeline's proof data -/

/-- The output windows this certificate FORGETS (8, 9, 10, 11, 12, 13): nothing reads what the kernel leaves in them, so nothing
    of it is named (Lib/Pipeline/Dat.lean `Dat.toRForget`). -/
def forgets0 : Fin 14 → Bool := fun w => w.val == 8 || w.val == 9 || w.val == 10 || w.val == 11 || w.val == 12 || w.val == 13

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 256 = 0
  · by_cases h1 : t.val % 256 = 255
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      by_cases hz : t.val = 0
      · rw [PhiS_castSucc m c t, PhiS_zero m c _ _ hz, PhiA0_eq]
        rw [outsAt0_A m c t h0 h1]
        unfold sout0_A_9 sout0_A_10 sout0_A_11; (try dsimp only)
        iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        iintro ⟨H0, H1, H2, H3, H4, H5, H6, H7, H8, H9, H10, H11, H12, H13, ⟨%fT0, HS0⟩, ⟨%fT1, HS1⟩, ⟨%fT2, HS2⟩, ⟨%fT3, HS3⟩, ⟨%fT4, HS4⟩, HS5, HS6, ⟨%fT7, HS7⟩, HS8, ⟨%es9, HS9⟩, ⟨%es10, HS10⟩, ⟨%es11, HS11⟩⟩
        isplitl [HS0 HS1 HS2 HS3 HS4 HS5 HS6 HS7 HS8 HS9 HS10 HS11 Hg]
        · isplitl [HS0 HS1 HS2 HS3 HS4 HS5 HS6 HS7 HS8 HS9 HS10 HS11]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · iexists _; unfold owns; iexists _; isplitr
              swap; · iexact HS3
              ipureintro; rfl
            isplitl [HS4]
            · iexists _; unfold owns; iexists _; isplitr
              swap; · iexact HS4
              ipureintro; rfl
            isplitl [HS5]
            · iexact HS5
            isplitl [HS6]
            · iexact HS6
            isplitl [HS7]
            · iexists _; unfold owns; iexists _; isplitr
              swap; · iexact HS7
              ipureintro; rfl
            isplitl [HS8]
            · iexact HS8
            isplitl [HS9]
            · unfold owns; iexists _; isplitr
              swap; · iexact HS9
              ipureintro; exact View.read_writes_of_cover _ _ _ _ _ (scover0_A_9 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS10]
            · unfold owns; iexists _; isplitr
              swap; · iexact HS10
              ipureintro; exact View.read_writes_of_cover _ _ _ _ _ (scover0_A_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS11
            ipureintro; exact View.read_writes_of_cover _ _ _ _ _ (scover0_A_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexact H13
      · exfalso; have hN : t.val < 256 := lt_of_lt_of_eq t.isLt (show cfg0.N = 256 from N_0); omega
  · by_cases h1 : t.val % 256 = 255
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      by_cases hz : t.val = 0
      · exfalso; have hN : t.val < 256 := lt_of_lt_of_eq t.isLt (show cfg0.N = 256 from N_0); omega
      · rw [PhiS_castSucc m c t, PhiS_pos m c _ _ hz]
        rw [outsAt0_C m c t h0 h1]
        unfold sout0_C_9 sout0_C_10 sout0_C_11; (try dsimp only)
        iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _ _).2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        iintro ⟨H0, H1, H2, H3, H4, H5, H6, H7, H8, H9, H10, H11, H12, H13, ⟨%fT0, HS0⟩, ⟨%fT1, HS1⟩, ⟨%fT2, HS2⟩, ⟨%fT3, HS3⟩, ⟨%fT4, HS4⟩, HS5, HS6, ⟨%fT7, HS7⟩, HS8, ⟨%es9, HS9⟩, ⟨%es10, HS10⟩, ⟨%es11, HS11⟩⟩
        isplitl [HS0 HS1 HS2 HS3 HS4 HS5 HS6 HS7 HS8 HS9 HS10 HS11 Hg]
        · isplitl [HS0 HS1 HS2 HS3 HS4 HS5 HS6 HS7 HS8 HS9 HS10 HS11]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · iexists _; unfold owns; iexists _; isplitr
              swap; · iexact HS3
              ipureintro; rfl
            isplitl [HS4]
            · iexists _; unfold owns; iexists _; isplitr
              swap; · iexact HS4
              ipureintro; rfl
            isplitl [HS5]
            · iexact HS5
            isplitl [HS6]
            · iexact HS6
            isplitl [HS7]
            · iexists _; unfold owns; iexists _; isplitr
              swap; · iexact HS7
              ipureintro; rfl
            isplitl [HS8]
            · iexact HS8
            isplitl [HS9]
            · unfold owns; iexists _; isplitr
              swap; · iexact HS9
              ipureintro; exact View.read_writes_of_cover _ _ _ _ _ (scover0_C_9 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS10]
            · unfold owns; iexists _; isplitr
              swap; · iexact HS10
              ipureintro; exact View.read_writes_of_cover _ _ _ _ _ (scover0_C_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS11
            ipureintro; exact View.read_writes_of_cover _ _ _ _ _ (scover0_C_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexact H13
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      by_cases hz : t.val = 0
      · exfalso; have hN : t.val < 256 := lt_of_lt_of_eq t.isLt (show cfg0.N = 256 from N_0); omega
      · rw [PhiS_castSucc m c t, PhiS_pos m c _ _ hz]
        rw [outsAt0_B m c t h0 h1]
        unfold sout0_B_9 sout0_B_10 sout0_B_11; (try dsimp only)
        iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _ _).2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        iintro ⟨H0, H1, H2, H3, H4, H5, H6, H7, H8, H9, H10, H11, H12, H13, ⟨%fT0, HS0⟩, ⟨%fT1, HS1⟩, ⟨%fT2, HS2⟩, ⟨%fT3, HS3⟩, ⟨%fT4, HS4⟩, HS5, HS6, ⟨%fT7, HS7⟩, HS8, ⟨%es9, HS9⟩, ⟨%es10, HS10⟩, ⟨%es11, HS11⟩⟩
        isplitl [HS0 HS1 HS2 HS3 HS4 HS5 HS6 HS7 HS8 HS9 HS10 HS11 Hg]
        · isplitl [HS0 HS1 HS2 HS3 HS4 HS5 HS6 HS7 HS8 HS9 HS10 HS11]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · iexists _; unfold owns; iexists _; isplitr
              swap; · iexact HS3
              ipureintro; rfl
            isplitl [HS4]
            · iexists _; unfold owns; iexists _; isplitr
              swap; · iexact HS4
              ipureintro; rfl
            isplitl [HS5]
            · iexact HS5
            isplitl [HS6]
            · iexact HS6
            isplitl [HS7]
            · iexists _; unfold owns; iexists _; isplitr
              swap; · iexact HS7
              ipureintro; rfl
            isplitl [HS8]
            · iexact HS8
            isplitl [HS9]
            · unfold owns; iexists _; isplitr
              swap; · iexact HS9
              ipureintro; exact View.read_writes_of_cover _ _ _ _ _ (scover0_B_9 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS10]
            · unfold owns; iexists _; isplitr
              swap; · iexact HS10
              ipureintro; exact View.read_writes_of_cover _ _ _ _ _ (scover0_B_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS11
            ipureintro; exact View.read_writes_of_cover _ _ _ _ _ (scover0_B_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9, HS10, HS11⟩, Hg⟩
  isplitl [HS0 HS1 HS2 HS3 HS4 HS5 HS6 HS7 HS8 HS9 HS10 HS11]
  · isplitl [HS0]
    · iexact HS0
    isplitl [HS1]
    · iexact HS1
    isplitl [HS2]
    · iexact HS2
    isplitl [HS3]
    · iexact HS3
    isplitl [HS4]
    · iexact HS4
    isplitl [HS5]
    · iexact HS5
    isplitl [HS6]
    · iexact HS6
    isplitl [HS7]
    · iexact HS7
    isplitl [HS8]
    · iexact HS8
    isplitl [HS9]
    · iexists _; iexact HS9
    isplitl [HS10]
    · iexists _; iexact HS10
    iexists _; iexact HS11
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 8, 9, 10, 11, 12, 13) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Gen

end
-- ==== Proof.Struct.lean ====
/-
  The kernel's body as loops. The printed body is one long sequence of loads and stores; here it is written as what it
  is: three passes over the tiles of a block, each tile a 32 by 128 window at row `32 u`, column `128 k`. `body_eq_first`
  and `body_eq_next` say that the printed body is this program, by definition.
-/
module

public import proofs.«01_k».proof.Proof.Gen.KernelIdeal.Skeleton
public import Idealize.ShloMosaic.Lib.Pipeline.Regions

@[expose] public section

set_option maxRecDepth 16384

noncomputable section

namespace Cert.KernelIdeal.Hand

open Cert.KernelIdeal Cert.KernelIdeal.Gen
open Idealize.ShloMosaic Idealize.SL.Sem

variable {F : FTy → Type} [FloatOps F]

/-- The memory references the body is called with, each the whole of its buffer. -/
structure Refs where
  a2 : Memref sig .tc .vmem S1x256x1536 .fp8e5m2
  h2 : a2.IsWhole
  a3 : Memref sig .tc .vmem S32x2048 .f32
  h3 : a3.IsWhole
  a4 : Memref sig .tc .vmem S1x256x1536 .bf16
  h4 : a4.IsWhole
  a5 : Memref sig .tc .vmem S1x256x192 .i8
  h5 : a5.IsWhole
  a6 : Memref sig .tc .vmem S1x256x1536 .bf16
  h6 : a6.IsWhole
  a7 : Memref sig .tc .vmem S32x2048 .f32
  h7 : a7.IsWhole
  a8 : Memref sig .tc .vmem S32x2048 .f32
  h8 : a8.IsWhole
  a9 : Memref sig .tc .vmem S1x1536 .f32
  h9 : a9.IsWhole
  a10 : Memref sig .tc .vmem S1x256x1536 .bf16
  h10 : a10.IsWhole
  a11 : Memref sig .tc .vmem S1x1536 .f32
  h11 : a11.IsWhole
  a12 : Memref sig .tc .vmem S1x1536 .f32
  h12 : a12.IsWhole
  a13 : Memref sig .tc .vmem S1x1536 .f32
  h13 : a13.IsWhole
  a14 : Memref sig .tc .vmem S1x256x1536 .fp8e5m2
  h14 : a14.IsWhole
  a15 : Memref sig .tc .vmem S32x2048 .f32
  h15 : a15.IsWhole
  a16 : Memref sig .tc .vmem S256x128 .f32
  h16 : a16.IsWhole
  a17 : Memref sig .tc .vmem S256x128 .f32
  h17 : a17.IsWhole
  a18 : Memref sig .tc .vmem S256x128 .f32
  h18 : a18.IsWhole
  a19 : Memref sig .tc .vmem S256x128 .f32
  h19 : a19.IsWhole
  a20 : Memref sig .tc .vmem S256x128 .f32
  h20 : a20.IsWhole
  a21 : Memref sig .tc .vmem S256x128 .f32
  h21 : a21.IsWhole
  a22 : Memref sig .tc .vmem S256x128 .f32
  h22 : a22.IsWhole
  a23 : Memref sig .tc .vmem S256x1536 .f32
  h23 : a23.IsWhole
  a24 : Memref sig .tc .vmem S256x1536 .f32
  h24 : a24.IsWhole
  a25 : Memref sig .tc .vmem S8x1536 .f32
  h25 : a25.IsWhole
  a26 : Memref sig .tc .vmem S8x1536 .f32
  h26 : a26.IsWhole
  a27 : Memref sig .tc .vmem S16x1536 .f32
  h27 : a27.IsWhole

/-- What lies in them. -/
structure St (F : FTy → Type) where
  a2 : Vec F S1x256x1536 .fp8e5m2
  a3 : Vec F S32x2048 .f32
  a4 : Vec F S1x256x1536 .bf16
  a5 : Vec F S1x256x192 .i8
  a6 : Vec F S1x256x1536 .bf16
  a7 : Vec F S32x2048 .f32
  a8 : Vec F S32x2048 .f32
  a9 : Vec F S1x1536 .f32
  a10 : Vec F S1x256x1536 .bf16
  a11 : Vec F S1x1536 .f32
  a12 : Vec F S1x1536 .f32
  a13 : Vec F S1x1536 .f32
  a14 : Vec F S1x256x1536 .fp8e5m2
  a15 : Vec F S32x2048 .f32
  a16 : Vec F S256x128 .f32
  a17 : Vec F S256x128 .f32
  a18 : Vec F S256x128 .f32
  a19 : Vec F S256x128 .f32
  a20 : Vec F S256x128 .f32
  a21 : Vec F S256x128 .f32
  a22 : Vec F S256x128 .f32
  a23 : Vec F S256x1536 .f32
  a24 : Vec F S256x1536 .f32
  a25 : Vec F S8x1536 .f32
  a26 : Vec F S8x1536 .f32
  a27 : Vec F S16x1536 .f32

/-- A program of the body. -/
abbrev P (F : FTy → Type) (α : Type) := Prog (TpuEff nD τ sig (Elt F) Λ₀ .tc) α

/-- Load the window of sizes `size` at `off`, then go on. -/
abbrev ld {S : Shape} {e : EltTy} {α : Type} (m : Memref sig .tc .vmem S e) (off size : Fin S.rank → ℕ)
    (inb : ∀ a, off a + size a ≤ S.size a) (h : 0 < (Rect.unit (s := S) off size inb).toLoadRect.shape.numel)
    (K : ((Rect.unit (s := S) off size inb).toLoadRect.shape.Idx → Elt F e) → P F α) : P F α :=
  Prog.op (.load m (Rect.unit (s := S) off size inb).toLoadRect (View.loadsAt_vmem h)) K

/-- Store `w` over the window of sizes `size` at `off`, then go on. -/
abbrev st {S : Shape} {e : EltTy} {α : Type} (m : Memref sig .tc .vmem S e) (off size : Fin S.rank → ℕ)
    (inb : ∀ a, off a + size a ≤ S.size a) (w : (Rect.unit (s := S) off size inb).shape.Idx → Elt F e)
    (hs : (m.access (Rect.unit (s := S) off size inb)).Stores Finset.univ) (K : P F α) : P F α :=
  Prog.op (.store m (Rect.unit (s := S) off size inb) w Finset.univ hs (.inl rfl)) fun _ => K

/-- `n` rounds of `body`, from index `i` and accumulator `a`. -/
def loop {A α : Type} : (n i : ℕ) → A → (ℕ → A → (A → P F α) → P F α) → (A → P F α) → P F α
  | 0, _, a, _, K => K a
  | n + 1, i, a, body, K => body i a fun a' => loop n (i + 1) a' body K

/-! ## The tiles' windows -/

/-- The tile at row tile `u`, column tile `k` of a 256 by 1536 buffer. -/
abbrev o2 (u k : ℕ) : Fin 2 → ℕ := ![32 * (u % 8), 128 * (k % 12)]
/-- The same of a block with a leading axis of one. -/
abbrev o3 (u k : ℕ) : Fin 3 → ℕ := ![0, 32 * (u % 8), 128 * (k % 12)]
/-- The row tile `u` of a 256 by 128 buffer. -/
abbrev oR (u : ℕ) : Fin 2 → ℕ := ![32 * (u % 8), 0]
/-- The column tile `k` of a buffer whose rows are taken whole. -/
abbrev oC (k : ℕ) : Fin 2 → ℕ := ![0, 128 * (k % 12)]
/-- The row tile `u` of the packed mask, from byte 0 and from byte 128. -/
abbrev oMa (u : ℕ) : Fin 3 → ℕ := ![0, 32 * (u % 8), 0]
abbrev oMb (u : ℕ) : Fin 3 → ℕ := ![0, 32 * (u % 8), 128]

theorem in2 (u k : ℕ) : ∀ a, o2 u k a + S32x128.size a ≤ S256x1536.size a := by
  refine Fin.forall_fin_two.mpr ⟨?_, ?_⟩
  · show 32 * (u % 8) + 32 ≤ 256; omega
  · show 128 * (k % 12) + 128 ≤ 1536; omega
theorem in3 (u k : ℕ) : ∀ a, o3 u k a + S1x32x128.size a ≤ S1x256x1536.size a := by
  intro a; fin_cases a
  · show 0 + 1 ≤ 1; omega
  · show 32 * (u % 8) + 32 ≤ 256; omega
  · show 128 * (k % 12) + 128 ≤ 1536; omega
theorem inR (u : ℕ) : ∀ a, oR u a + S32x128.size a ≤ S256x128.size a := by
  refine Fin.forall_fin_two.mpr ⟨?_, ?_⟩
  · show 32 * (u % 8) + 32 ≤ 256; omega
  · show 0 + 128 ≤ 128; omega
theorem inC8 (k : ℕ) : ∀ a, oC k a + S8x128.size a ≤ S8x1536.size a := by
  refine Fin.forall_fin_two.mpr ⟨?_, ?_⟩
  · show 0 + 8 ≤ 8; omega
  · show 128 * (k % 12) + 128 ≤ 1536; omega
theorem inC1 (k : ℕ) : ∀ a, oC k a + S1x128.size a ≤ S1x1536.size a := by
  refine Fin.forall_fin_two.mpr ⟨?_, ?_⟩
  · show 0 + 1 ≤ 1; omega
  · show 128 * (k % 12) + 128 ≤ 1536; omega
theorem inMa (u : ℕ) : ∀ a, oMa u a + S1x32x128.size a ≤ S1x256x192.size a := by
  intro a; fin_cases a
  · show 0 + 1 ≤ 1; omega
  · show 32 * (u % 8) + 32 ≤ 256; omega
  · show 0 + 128 ≤ 192; omega
theorem inMb (u : ℕ) : ∀ a, oMb u a + S1x32x64.size a ≤ S1x256x192.size a := by
  intro a; fin_cases a
  · show 0 + 1 ≤ 1; omega
  · show 32 * (u % 8) + 32 ≤ 256; omega
  · show 128 + 64 ≤ 192; omega

theorem packBf (u k : ℕ) : (Rect.unit (s := S1x256x1536) (o3 u k) S1x32x128.size (in3 u k)).PackedRows (EltTy.packing .bf16) :=
  .inr ⟨by decide, rfl, .inl ⟨⟨16 * (u % 8), by show 32 * (u % 8) = 2 * (16 * (u % 8)); omega⟩, ⟨16, rfl⟩⟩⟩
theorem packFp (u k : ℕ) : (Rect.unit (s := S1x256x1536) (o3 u k) S1x32x128.size (in3 u k)).PackedRows (EltTy.packing .fp8e5m2) :=
  .inr ⟨by decide, rfl, .inl ⟨⟨8 * (u % 8), by show 32 * (u % 8) = 4 * (8 * (u % 8)); omega⟩, ⟨8, rfl⟩⟩⟩

/-! ## What the tiles compute -/

/-- A tile of gradient codes as numbers. -/
def tC (c : Vec F S1x32x128 .fp8e5m2) : FVec F S32x128 .f32 :=
  extf .f32 (shapeCast S32x128 c shapeCasts_S1x32x128_S32x128) bitsLt_fp8e5m2_f32
/-- A tile of bf16 values as f32. -/
def tH (h : Vec F S1x32x128 .bf16) : FVec F S32x128 .f32 :=
  extf .f32 (shapeCast S32x128 h shapeCasts_S1x32x128_S32x128) bitsLt_bf16_f32
/-- Codes times the row weights. -/
def tU (w : Vec F S32x128 .f32) (c : Vec F S1x32x128 .fp8e5m2) : FVec F S32x128 .f32 := mulf (tC c) w
/-- The sums of a tile over its rows eight apart, added to `a`. -/
def tAcc (a : Vec F S8x128 .f32) (x : FVec F S32x128 .f32) : FVec F S8x128 .f32 :=
  shapeCast S8x128 (addf a (multiReduction .add [0] S8x128 (shapeCast S4x8x128 x shapeCasts_S32x128_S4x8x128) 0x00000000#32 reduces_S4x8x128_S8x128 (.inl rfl) rfl)) shapeCasts_S8x128_S8x128
/-- Codes times weights times gamma. -/
def tV (w : Vec F S32x128 .f32) (c : Vec F S1x32x128 .fp8e5m2) (g : Vec F S1x128 .f32) : FVec F S32x128 .f32 :=
  mulf (tU w c) (broadcastTo S32x128 (shapeCast S1x128 g shapeCasts_S1x128_S1x128) broadcasts_S1x128_S32x128)
/-- A 32 by 128 value as it is stored. -/
def t2 (x : FVec F S32x128 .f32) : FVec F S32x128 .f32 := shapeCast S32x128 x shapeCasts_S32x128_S32x128
/-- The gradient of the layer's input on a tile. -/
def tD (cc ee : Vec F S32x128 .f32) (h r : Vec F S1x32x128 .bf16) (v : Vec F S32x128 .f32) : FVec F S32x128 .f32 :=
  addf (subf v (mulf cc (tH h))) (addf (tH r) ee)
/-- It as it is stored, rounded to bf16. -/
def tX (d : FVec F S32x128 .f32) : FVec F S1x32x128 .bf16 :=
  shapeCast S1x32x128 (truncf .bf16 d bitsLt_bf16_f32) shapeCasts_S32x128_S1x32x128

/-- The lane numbers. -/
def tLane : IVec S8x128 32 := iota .tc S8x128 32 [1] iota_S8x128_d1_w32
/-- How far each lane's mask bit is below the sign bit of its byte. -/
def tShift : IVec S8x128 32 := subi (broadcast S8x128 7#32) (andi tLane (broadcast S8x128 7#32))
/-- The lane numbers divided by eight, rounding down. -/
def tDiv : IVec S8x128 32 :=
  select (andi (cmpi .ne (subi (extui 32 (cmpi .sgt tLane (broadcast S8x128 0#32)) natLt_1_32) (extui 32 (cmpi .slt tLane (broadcast S8x128 0#32)) natLt_1_32))
      (broadcast S8x128 (Scalar.subi (Scalar.extui (Scalar.cmpi .sgt 8#32 0#32)) (Scalar.extui (Scalar.cmpi .slt 8#32 0#32)))))
    (cmpi .ne (remsi tLane (broadcast S8x128 8#32)) (broadcast S8x128 0#32)))
    (subi (divsi tLane (broadcast S8x128 8#32)) (broadcast S8x128 1#32)) (divsi tLane (broadcast S8x128 8#32))
/-- The first mask byte of a row tile's lanes. -/
def tBase (k : ℕ) : IVec S8x128 32 := addi (broadcast S8x128 (BitVec.ofNat 32 (16 * (k % 8)))) tDiv
/-- The mask byte of each lane of tile `k`. -/
def tIdx (k : ℕ) : IVec S8x128 32 :=
  shapeCast S8x128 (shapeCast S8x128x1 (select (cmpi .slt (tBase k) (broadcast S8x128 0#32)) (addi (tBase k) (broadcast S8x128 128#32)) (tBase k)) shapeCasts_S8x128_S8x128x1) shapeCasts_S8x128x1_S8x128
/-- The words of four mask bytes each, of a row tile's first 128 bytes. -/
def tMa (x : Vec F S1x32x128 .i8) : IVec S8x128 32 :=
  bitcast S8x128 32 (shapeCast S32x128 x shapeCasts_S1x32x128_S32x128) bitcasts_S32x128_w8_S8x128_w32
/-- The same of its last 64 bytes, twice over. -/
def tMb (x : Vec F S1x32x64 .i8) : IVec S8x128 32 :=
  bitcast S8x128 32 (concatenate S32x128 1 [⟨S32x64, shapeCast S32x64 x shapeCasts_S1x32x64_S32x64⟩, ⟨S32x64, shapeCast S32x64 x shapeCasts_S1x32x64_S32x64⟩] concatenates_S32x64_S32x64_S32x128_d1) bitcasts_S32x128_w8_S8x128_w32
/-- The gradient where the mask bit is set, zero elsewhere. -/
def tMask (k : ℕ) (ma mb : IVec S8x128 32) (d : FVec F S32x128 .f32) : FVec F S32x128 .f32 :=
  select (cmpi .slt (extsi 32 (bitcast S32x128 8 (shli (dynamicGather 1 (bif Nat.blt k 8 then ma else mb) (tIdx k)) tShift) bitcasts_S8x128_w32_S32x128_w8) natLt_8_32) (broadcast S32x128 0#32))
    d (broadcast S32x128 (Scalar.ofBits .f32 0x00000000#32))
/-- The codes of a tile. -/
def tQ (q d : Vec F S32x128 .f32) : FVec F S1x32x128 .fp8e5m2 :=
  shapeCast S1x32x128 (truncf .fp8e5m2 (minimumf (broadcast S32x128 (Scalar.ofBits .f32 0x47600000#32)) (maximumf (broadcast S32x128 (Scalar.ofBits .f32 0xC7600000#32)) (mulf d q))) bitsLt_fp8e5m2_f32) shapeCasts_S32x128_S1x32x128

/-! ## The passes -/

variable (M : Refs)

/-- First pass, one tile: the products, their sums into the gamma gradient, the products with gamma kept. `K` goes on with the
    products with gamma and those times `h`. -/
def tile1 {α : Type} (u k : ℕ) (w : Vec F S32x128 .f32) (K : FVec F S32x128 .f32 → FVec F S32x128 .f32 → P F α) : P F α :=
  ld M.a2 (o3 u k) S1x32x128.size (in3 u k) h_S1x32x128 fun c =>
  ld M.a6 (o3 u k) S1x32x128.size (in3 u k) h_S1x32x128 fun h =>
  ld M.a25 (oC k) S8x128.size (inC8 k) h_S8x128 fun a =>
  ld M.a25 (oC k) S8x128.size (inC8 k) h_S8x128 fun _ =>
  st M.a25 (oC k) S8x128.size (inC8 k) (tAcc a (mulf (tU w c) (tH h))) (View.stores_vmem_bits_univ h_S8x128 rfl) <|
  ld M.a9 (oC k) S1x128.size (inC1 k) h_S1x128 fun g =>
  ld M.a23 (o2 u k) S32x128.size (in2 u k) h_S32x128 fun _ =>
  st M.a23 (o2 u k) S32x128.size (in2 u k) (t2 (tV w c g)) (View.stores_vmem_bits_univ h_S32x128 rfl) <|
  K (tV w c g) (mulf (tV w c g) (tH h))

/-- First pass, one row of tiles: the two sums along the row kept. -/
def row1 {α : Type} (u : ℕ) (K : P F α) : P F α :=
  ld M.a16 (oR u) S32x128.size (inR u) h_S32x128 fun w =>
  tile1 M u 0 w fun s1 s2 =>
  loop 11 1 (s1, s2) (fun k a K' => tile1 M u k w fun v vh => K' (addf a.1 v, addf a.2 vh)) fun a =>
  ld M.a17 (oR u) S32x128.size (inR u) h_S32x128 fun _ =>
  st M.a17 (oR u) S32x128.size (inR u) (t2 a.1) (View.stores_vmem_bits_univ h_S32x128 rfl) <|
  ld M.a18 (oR u) S32x128.size (inR u) h_S32x128 fun _ =>
  st M.a18 (oR u) S32x128.size (inR u) (t2 a.2) (View.stores_vmem_bits_univ h_S32x128 rfl) K

/-- Second pass, one tile: the gradient stored, masked, its sums into the bias gradient. `K` goes on with its size. -/
def tile2 {α : Type} (u k : ℕ) (cc ee : Vec F S32x128 .f32) (ma mb : IVec S8x128 32) (K : FVec F S32x128 .f32 → P F α) : P F α :=
  ld M.a6 (o3 u k) S1x32x128.size (in3 u k) h_S1x32x128 fun h =>
  ld M.a4 (o3 u k) S1x32x128.size (in3 u k) h_S1x32x128 fun r =>
  ld M.a23 (o2 u k) S32x128.size (in2 u k) h_S32x128 fun v =>
  ld M.a10 (o3 u k) S1x32x128.size (in3 u k) h_S1x32x128 fun _ =>
  st M.a10 (o3 u k) S1x32x128.size (in3 u k) (tX (tD cc ee h r v)) (View.stores_vmem h_S1x32x128 (M.h10.storeExact_slice rfl _ (packBf u k)) (fun _ => rfl)) <|
  ld M.a24 (o2 u k) S32x128.size (in2 u k) h_S32x128 fun _ =>
  st M.a24 (o2 u k) S32x128.size (in2 u k) (t2 (tMask k ma mb (tD cc ee h r v))) (View.stores_vmem_bits_univ h_S32x128 rfl) <|
  ld M.a26 (oC k) S8x128.size (inC8 k) h_S8x128 fun a =>
  ld M.a26 (oC k) S8x128.size (inC8 k) h_S8x128 fun _ =>
  st M.a26 (oC k) S8x128.size (inC8 k) (tAcc a (tMask k ma mb (tD cc ee h r v))) (View.stores_vmem_bits_univ h_S8x128 rfl) <|
  K (absf (tMask k ma mb (tD cc ee h r v)))

/-- Second pass, one row of tiles: the largest size along the row kept. -/
def row2 {α : Type} (u : ℕ) (K : P F α) : P F α :=
  ld M.a19 (oR u) S32x128.size (inR u) h_S32x128 fun cc =>
  ld M.a20 (oR u) S32x128.size (inR u) h_S32x128 fun ee =>
  ld M.a5 (oMa u) S1x32x128.size (inMa u) h_S1x32x128 fun xa =>
  ld M.a5 (oMb u) S1x32x64.size (inMb u) h_S1x32x64 fun xb =>
  tile2 M u 0 cc ee (tMa xa) (tMb xb) fun s =>
  loop 11 1 s (fun k a K' => tile2 M u k cc ee (tMa xa) (tMb xb) fun v => K' (maximumf a v)) fun a =>
  ld M.a21 (oR u) S32x128.size (inR u) h_S32x128 fun _ =>
  st M.a21 (oR u) S32x128.size (inR u) (t2 a) (View.stores_vmem_bits_univ h_S32x128 rfl) K

/-- Third pass, one tile: the codes. -/
def tile3 {α : Type} (u k : ℕ) (q : Vec F S32x128 .f32) (K : P F α) : P F α :=
  ld M.a24 (o2 u k) S32x128.size (in2 u k) h_S32x128 fun d =>
  ld M.a14 (o3 u k) S1x32x128.size (in3 u k) h_S1x32x128 fun _ =>
  st M.a14 (o3 u k) S1x32x128.size (in3 u k) (tQ q d) (View.stores_vmem h_S1x32x128 (M.h14.storeExact_slice rfl _ (packFp u k)) (fun _ => rfl)) K

/-- Third pass, one row of tiles. -/
def row3 {α : Type} (u : ℕ) (K : P F α) : P F α :=
  ld M.a22 (oR u) S32x128.size (inR u) h_S32x128 fun q =>
  loop 12 0 PUnit.unit (fun k _ K' => tile3 M u k q (K' PUnit.unit)) fun _ => K

/-- The end of the last point: the accumulators read out. -/
def fin (i : grid0.Coords) : P F PUnit := do
  if h2 : k0_cond2 i = 1#1 then do
    let mm : Vec F S16x1536 .f32 ← Prog.lift (.load M.a27 (Rect.unit (s := S16x1536) ![0, 0] S16x1536.size inb_S16x1536_S16x1536_0_0).toLoadRect (View.loadsAt_vmem h_S16x1536))
    let _x : Vec F S1x1536 .f32 ← Prog.lift (.load M.a12 (Rect.unit (s := S1x1536) ![0, 0] S1x1536.size inb_S1x1536_S1x1536_0_0).toLoadRect (View.loadsAt_vmem h_S1x1536))
    Prog.lift (.store M.a12 (Rect.unit (s := S1x1536) ![0, 0] S1x1536.size inb_S1x1536_S1x1536_0_0) (k0_pay2 mm) Finset.univ (View.stores_vmem_bits_univ h_S1x1536 rfl) (.inl rfl))
    let dg : Vec F S8x1536 .f32 ← Prog.lift (.load M.a25 (Rect.unit (s := S8x1536) ![0, 0] S8x1536.size inb_S8x1536_S8x1536_0_0).toLoadRect (View.loadsAt_vmem h_S8x1536))
    let _y : Vec F S1x1536 .f32 ← Prog.lift (.load M.a11 (Rect.unit (s := S1x1536) ![0, 0] S1x1536.size inb_S1x1536_S1x1536_0_0).toLoadRect (View.loadsAt_vmem h_S1x1536))
    Prog.lift (.store M.a11 (Rect.unit (s := S1x1536) ![0, 0] S1x1536.size inb_S1x1536_S1x1536_0_0) (k0_pay3 mm dg) Finset.univ (View.stores_vmem_bits_univ h_S1x1536 rfl) (.inl rfl))
    let db : Vec F S8x1536 .f32 ← Prog.lift (.load M.a26 (Rect.unit (s := S8x1536) ![0, 0] S8x1536.size inb_S8x1536_S8x1536_0_0).toLoadRect (View.loadsAt_vmem h_S8x1536))
    let _z : Vec F S1x1536 .f32 ← Prog.lift (.load M.a13 (Rect.unit (s := S1x1536) ![0, 0] S1x1536.size inb_S1x1536_S1x1536_0_0).toLoadRect (View.loadsAt_vmem h_S1x1536))
    Prog.lift (.store M.a13 (Rect.unit (s := S1x1536) ![0, 0] S1x1536.size inb_S1x1536_S1x1536_0_0) (k0_pay4 db) Finset.univ (View.stores_vmem_bits_univ h_S1x1536 rfl) (.inl rfl))
    pure ⟨⟩
  else do
    pure ⟨⟩
  pure ⟨⟩

/-- The scale and its reciprocal from the largest sizes, through the exponent found. -/
def pE1 (am : Vec F S256x128 .f32) : IVec S1x256 32 := k0_pay1503 (k0_pay1499 am) (k0_pay1500 am) (k0_pay1501 am) k0_pay1502
def pE2 (am : Vec F S256x128 .f32) : IVec S1x256 1 := k0_pay1504 (k0_pay1499 am) (k0_pay1500 am) (k0_pay1501 am) k0_pay1502
def pScale (am : Vec F S256x128 .f32) : FVec F S1x256 .f32 := k0_pay1507 (k0_pay1499 am) (pE1 am) (pE2 am) k0_pay1505
def pQs (am : Vec F S256x128 .f32) : FVec F S256x128 .f32 := k0_pay1509 (k0_pay1508 (k0_pay1499 am) (pE1 am) (pE2 am) k0_pay1505)

/-- The body after the accumulators' clearing. -/
def body1 (i : grid0.Coords) : P F PUnit :=
  ld M.a3 (k0_off1 i) S1x256.size (k0_off1_inb i) h_S1x256 fun s =>
  ld M.a7 (k0_off1 i) S1x256.size (k0_off1_inb i) h_S1x256 fun μ =>
  ld M.a8 (k0_off1 i) S1x256.size (k0_off1_inb i) h_S1x256 fun r =>
  ld M.a16 ![0, 0] S256x128.size inb_S256x128_S256x128_0_0 h_S256x128 fun _ =>
  st M.a16 ![0, 0] S256x128.size inb_S256x128_S256x128_0_0 (k0_pay9 s r) (View.stores_vmem_bits_univ h_S256x128 rfl) <|
  ld M.a27 ![0, 0] S16x1536.size inb_S16x1536_S16x1536_0_0 h_S16x1536 fun mm =>
  ld M.a2 ![0, 0, 0] S1x256x1536.size inb_S1x256x1536_S1x256x1536_0_0_0 h_S1x256x1536 fun c =>
  ld M.a27 ![0, 0] S16x1536.size inb_S16x1536_S16x1536_0_0 h_S16x1536 fun _ =>
  st M.a27 ![0, 0] S16x1536.size inb_S16x1536_S16x1536_0_0 (k0_pay11 (k0_pay10 s μ r) mm c) (View.stores_vmem_bits_univ h_S16x1536 rfl) <|
  loop 8 0 PUnit.unit (fun u _ K => row1 M u (K PUnit.unit)) fun _ =>
  ld M.a17 ![0, 0] S256x128.size inb_S256x128_S256x128_0_0 h_S256x128 fun p =>
  ld M.a18 ![0, 0] S256x128.size inb_S256x128_S256x128_0_0 h_S256x128 fun q =>
  ld M.a19 ![0, 0] S256x128.size inb_S256x128_S256x128_0_0 h_S256x128 fun _ =>
  st M.a19 ![0, 0] S256x128.size inb_S256x128_S256x128_0_0 (k0_pay672 (k0_pay671 μ r p q)) (View.stores_vmem_bits_univ h_S256x128 rfl) <|
  ld M.a20 ![0, 0] S256x128.size inb_S256x128_S256x128_0_0 h_S256x128 fun _ =>
  st M.a20 ![0, 0] S256x128.size inb_S256x128_S256x128_0_0 (k0_pay673 μ (k0_pay669 p) (k0_pay670 μ r p q)) (View.stores_vmem_bits_univ h_S256x128 rfl) <|
  loop 8 0 PUnit.unit (fun u _ K => row2 M u (K PUnit.unit)) fun _ =>
  ld M.a21 ![0, 0] S256x128.size inb_S256x128_S256x128_0_0 h_S256x128 fun am =>
  ld M.a15 (k0_off1 i) S1x256.size (k0_off1_inb i) h_S1x256 fun _ =>
  st M.a15 (k0_off1 i) S1x256.size (k0_off1_inb i) (pScale am) (View.stores_vmem_bits_univ h_S1x256 rfl) <|
  ld M.a22 ![0, 0] S256x128.size inb_S256x128_S256x128_0_0 h_S256x128 fun _ =>
  st M.a22 ![0, 0] S256x128.size inb_S256x128_S256x128_0_0 (pQs am) (View.stores_vmem_bits_univ h_S256x128 rfl) <|
  loop 8 0 PUnit.unit (fun u _ K => row3 M u (K PUnit.unit)) fun _ =>
  fin M i

/-- The clearing of the accumulators, then the body. -/
def body0 (i : grid0.Coords) : P F PUnit :=
  ld M.a25 ![0, 0] S8x1536.size inb_S8x1536_S8x1536_0_0 h_S8x1536 fun _ =>
  st M.a25 ![0, 0] S8x1536.size inb_S8x1536_S8x1536_0_0 (k0_pay5 (F := F)) (View.stores_vmem_bits_univ h_S8x1536 rfl) <|
  ld M.a26 ![0, 0] S8x1536.size inb_S8x1536_S8x1536_0_0 h_S8x1536 fun _ =>
  st M.a26 ![0, 0] S8x1536.size inb_S8x1536_S8x1536_0_0 (k0_pay6 (F := F)) (View.stores_vmem_bits_univ h_S8x1536 rfl) <|
  ld M.a27 ![0, 0] S16x1536.size inb_S16x1536_S16x1536_0_0 h_S16x1536 fun _ =>
  st M.a27 ![0, 0] S16x1536.size inb_S16x1536_S16x1536_0_0 (k0_pay7 (F := F)) (View.stores_vmem_bits_univ h_S16x1536 rfl) <|
  body1 M i

/-- Whether the point is the first: the condition the body clears the accumulators under. -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

theorem part1_next (i : grid0.Coords) (h : ¬ cond1 i) : k0_part1 (F := F) i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 M.a27 M.h27 =
    (ld M.a3 (k0_off1 i) S1x256.size (k0_off1_inb i) h_S1x256 fun s =>
     ld M.a7 (k0_off1 i) S1x256.size (k0_off1_inb i) h_S1x256 fun μ =>
     ld M.a8 (k0_off1 i) S1x256.size (k0_off1_inb i) h_S1x256 fun r =>
     ld M.a16 ![0, 0] S256x128.size inb_S256x128_S256x128_0_0 h_S256x128 fun _ =>
     st M.a16 ![0, 0] S256x128.size inb_S256x128_S256x128_0_0 (k0_pay9 s r) (View.stores_vmem_bits_univ h_S256x128 rfl) <|
     Prog.ret ⟨BitVec.ofNat 32 (i 0).val, BitVec.ofNat 32 (i 1).val, Scalar.muli (BitVec.ofNat 32 (i 1).val) 256#32, μ, r, k0_pay10 s μ r⟩) := by
  rw [k0_part1_eq_skeleton]
  unfold k0_part1_skel
  dsimp only
  rw [dif_neg h]
  chain_rfl

theorem part1_first (i : grid0.Coords) (h : cond1 i) : k0_part1 (F := F) i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 M.a27 M.h27 =
    (ld M.a25 ![0, 0] S8x1536.size inb_S8x1536_S8x1536_0_0 h_S8x1536 fun _ =>
     st M.a25 ![0, 0] S8x1536.size inb_S8x1536_S8x1536_0_0 (k0_pay5 (F := F)) (View.stores_vmem_bits_univ h_S8x1536 rfl) <|
     ld M.a26 ![0, 0] S8x1536.size inb_S8x1536_S8x1536_0_0 h_S8x1536 fun _ =>
     st M.a26 ![0, 0] S8x1536.size inb_S8x1536_S8x1536_0_0 (k0_pay6 (F := F)) (View.stores_vmem_bits_univ h_S8x1536 rfl) <|
     ld M.a27 ![0, 0] S16x1536.size inb_S16x1536_S16x1536_0_0 h_S16x1536 fun _ =>
     st M.a27 ![0, 0] S16x1536.size inb_S16x1536_S16x1536_0_0 (k0_pay7 (F := F)) (View.stores_vmem_bits_univ h_S16x1536 rfl) <|
     ld M.a3 (k0_off1 i) S1x256.size (k0_off1_inb i) h_S1x256 fun s =>
     ld M.a7 (k0_off1 i) S1x256.size (k0_off1_inb i) h_S1x256 fun μ =>
     ld M.a8 (k0_off1 i) S1x256.size (k0_off1_inb i) h_S1x256 fun r =>
     ld M.a16 ![0, 0] S256x128.size inb_S256x128_S256x128_0_0 h_S256x128 fun _ =>
     st M.a16 ![0, 0] S256x128.size inb_S256x128_S256x128_0_0 (k0_pay9 s r) (View.stores_vmem_bits_univ h_S256x128 rfl) <|
     Prog.ret ⟨BitVec.ofNat 32 (i 0).val, BitVec.ofNat 32 (i 1).val, Scalar.muli (BitVec.ofNat 32 (i 1).val) 256#32, μ, r, k0_pay10 s μ r⟩) := by
  rw [k0_part1_eq_skeleton]
  unfold k0_part1_skel
  dsimp only
  rw [dif_pos h]
  chain_rfl

theorem body_eq_next (i : grid0.Coords) (h : ¬ cond1 i) :
    cc0_ln_dropout_bwd (F := F) i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 M.a27 M.h27 = body1 M i := by
  rw [cc0_ln_dropout_bwd_eq_skeleton]
  unfold cc0_ln_dropout_bwd_skel
  rw [k0_part269_eq_skeleton]
  unfold k0_part269_skel
  rw [part1_next M i h]
  chain_rfl

theorem body_eq_first (i : grid0.Coords) (h : cond1 i) :
    cc0_ln_dropout_bwd (F := F) i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 M.a27 M.h27 = body0 M i := by
  rw [cc0_ln_dropout_bwd_eq_skeleton]
  unfold cc0_ln_dropout_bwd_skel
  rw [k0_part269_eq_skeleton]
  unfold k0_part269_skel
  rw [part1_first M i h]
  chain_rfl

end Cert.KernelIdeal.Hand

end
-- ==== Proof.Rules.lean ====
/-
  The rules of the body's programs. All the buffers the body touches are owned together (`own`), at the contents of an `St`;
  a load reads a window of one field, a store puts one over a field. Each pass is then a function of the contents: the
  theorems named `…_ok` say that the program goes on from what the function returns.
-/
module

public import proofs.«01_k».proof.Proof.Struct
public import proofs.«01_k».proof.Proof.Gen.KernelIdeal.Frame
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F]

local notation "𝕄" => MT nD τ sig Unit (Elt F) ℕ (UR sig nD τ) ℕ

/-- A buffer and what lies in it. -/
structure Cell (F : FTy → Type) where
  S : Shape
  e : EltTy
  m : Memref sig .tc .vmem S e
  X : Vec F S e

/-- The buffers of a list owned at their contents, and `R`. -/
def ownL (c : Dev nD) (R : sProp 𝕄) : List (Cell F) → sProp 𝕄
  | [] => R
  | x :: l => iprop(owns (c : Thread nD τ) x.m fullShare x.X ∗ ownL c R l)

/-- One buffer of the list taken out, and put back at other contents. -/
theorem ownL_get (c : Dev nD) (R : sProp 𝕄) (S : Shape) (e : EltTy) (m : Memref sig .tc .vmem S e) (X : Vec F S e) :
    ∀ (l : List (Cell F)) (n : ℕ), l[n]? = some ⟨S, e, m, X⟩ →
      ownL c R l ⊢ iprop(owns (c : Thread nD τ) m fullShare X ∗ ∀ Y : Vec F S e, owns (c : Thread nD τ) m fullShare Y -∗ ownL c R (l.set n ⟨S, e, m, Y⟩))
  | [], n, h => by simp at h
  | x :: l, 0, h => by
    obtain rfl : x = ⟨S, e, m, X⟩ := by simpa using h
    unfold ownL
    iintro ⟨H, HR⟩
    isplitl [H]; · iexact H
    iintro %Y HY
    simp only [List.set_cons_zero]
    isplitl [HY]; · iexact HY
    iexact HR
  | x :: l, n + 1, h => by
    have ih := ownL_get c R S e m X l n (by simpa using h)
    unfold ownL
    iintro ⟨H, HR⟩
    ihave HR := ih $$ HR
    icases HR with ⟨HX, HR⟩
    isplitl [HX]; · iexact HX
    iintro %Y HY
    simp only [List.set_cons_succ]
    isplitl [H]; · iexact H
    iapply HR; iexact HY

/-- The program's obligation: it runs to `Q`. -/
abbrev runs (c : Dev nD) (p : P F PUnit) (Q : PUnit → sProp 𝕄) : sProp 𝕄 :=
  wp frame (wpE (defs₀ (F := F)) Variants.none (c : Thread nD τ) none) Set.univ p Q

theorem ld_rule (c : Dev nD) (R : sProp 𝕄) (l : List (Cell F)) (n : ℕ) {S : Shape} {e : EltTy} {m : Memref sig .tc .vmem S e} {X : Vec F S e}
    (hn : l[n]? = some ⟨S, e, m, X⟩) (off size : Fin S.rank → ℕ) (inb : ∀ a, off a + size a ≤ S.size a) (h)
    (K : ((Rect.unit (s := S) off size inb).toLoadRect.shape.Idx → Elt F e) → P F PUnit) (Q : PUnit → sProp 𝕄)
    (hK : ownL c R l ⊢ runs c (K (window X off size inb)) Q) : ownL c R l ⊢ runs c (ld m off size inb h K) Q := by
  have hl : l.set n ⟨S, e, m, X⟩ = l := by
    apply List.ext_getElem?; intro i
    rw [List.getElem?_set]; split
    · next hi => subst hi; rw [hn]; split <;> rename_i hlt
                 · rfl
                 · rw [List.getElem?_eq_none (by omega)] at hn; cases hn
    · rfl
  refine (ownL_get c R S e m X l n hn).trans ?_
  unfold owns
  iintro ⟨⟨%f, %hf, H⟩, HR⟩
  have hw := wp_load (defs := defs₀ (F := F)) Variants.none (c : Thread nD τ) none Set.univ (Q := Q) (m := m) (Γ := .empty)
    (r := (Rect.unit (s := S) off size inb).toLoadRect) (hl := View.loadsAt_vmem h) (k := K) (q := fullShare) (f := f) (S := m.view.set) (View.setOn_subset_set _ _)
  rw [View.readAt_unit m.view f inb rfl inb, hf] at hw
  iapply hw $$ H
  iintro H
  iapply hK
  ihave HR := HR $$ %X [H]
  · iexists f; isplitr; · ipureintro; exact hf
    iexact H
  rw [hl]; iexact HR

theorem st_rule (c : Dev nD) (R : sProp 𝕄) (l l' : List (Cell F)) (n : ℕ) {S : Shape} {e : EltTy} {m : Memref sig .tc .vmem S e} {X : Vec F S e}
    (hn : l[n]? = some ⟨S, e, m, X⟩) (off size : Fin S.rank → ℕ) (inb : ∀ a, off a + size a ≤ S.size a)
    (w : (Rect.unit (s := S) off size inb).shape.Idx → Elt F e) (hs) (K : P F PUnit) (Q : PUnit → sProp 𝕄)
    (hl : l.set n ⟨S, e, m, put X off size w⟩ = l')
    (hK : ownL c R l' ⊢ runs c K Q) : ownL c R l ⊢ runs c (st m off size inb w hs K) Q := by
  subst hl
  refine (ownL_get c R S e m X l n hn).trans ?_
  unfold owns
  iintro ⟨⟨%f, %hf, H⟩, HR⟩
  have hw := wp_store (defs := defs₀ (F := F)) Variants.none (c : Thread nD τ) none Set.univ (Q := Q) (m := m) (Γ := .empty) (r := Rect.unit (s := S) off size inb)
    (w := w) (Mk := Finset.univ) (hx := hs) (hm := .inl rfl) (k := fun _ => K) (f := f)
    ((View.setOn_subset_set _ _).trans (View.set_slice_subset m.view _))
  iapply hw $$ H
  iintro H
  iapply hK
  iapply HR $$ %(put X off size w)
  iexists _; isplitr; swap; · iexact H
  ipureintro
  subst hf
  exact View.read_writes_cons_put m.view f inb w [] rfl

/-! ## The state and its rules -/

/-- The buffers with their contents. -/
def cells (M : Refs) (σ : St F) : List (Cell F) :=
  [⟨_, _, M.a2, σ.a2⟩, ⟨_, _, M.a3, σ.a3⟩, ⟨_, _, M.a4, σ.a4⟩, ⟨_, _, M.a5, σ.a5⟩, ⟨_, _, M.a6, σ.a6⟩, ⟨_, _, M.a7, σ.a7⟩, ⟨_, _, M.a8, σ.a8⟩, ⟨_, _, M.a9, σ.a9⟩, ⟨_, _, M.a10, σ.a10⟩, ⟨_, _, M.a11, σ.a11⟩, ⟨_, _, M.a12, σ.a12⟩, ⟨_, _, M.a13, σ.a13⟩, ⟨_, _, M.a14, σ.a14⟩, ⟨_, _, M.a15, σ.a15⟩, ⟨_, _, M.a16, σ.a16⟩, ⟨_, _, M.a17, σ.a17⟩, ⟨_, _, M.a18, σ.a18⟩, ⟨_, _, M.a19, σ.a19⟩, ⟨_, _, M.a20, σ.a20⟩, ⟨_, _, M.a21, σ.a21⟩, ⟨_, _, M.a22, σ.a22⟩, ⟨_, _, M.a23, σ.a23⟩, ⟨_, _, M.a24, σ.a24⟩, ⟨_, _, M.a25, σ.a25⟩, ⟨_, _, M.a26, σ.a26⟩, ⟨_, _, M.a27, σ.a27⟩]

/-- All the buffers owned at the contents `σ`. -/
abbrev own (c : Dev nD) (R : sProp 𝕄) (M : Refs) (σ : St F) : sProp 𝕄 := ownL c R (cells M σ)

/-- A piece of the body that changes the contents by `f` and goes on with its value. -/
def Ok {A : Type} (c : Dev nD) (M : Refs) (p : (A → P F PUnit) → P F PUnit) (f : St F → A × St F) : Prop :=
  ∀ (R : sProp 𝕄) (σ : St F) (K : A → P F PUnit) (Q : PUnit → sProp 𝕄),
    (own c R M (f σ).2 ⊢ runs c (K (f σ).1) Q) → own c R M σ ⊢ runs c (p K) Q

/-- `n` rounds of `f`, from index `i` and accumulator `a`. -/
def itr {A B : Type} : (n i : ℕ) → A → (ℕ → A → B → A × B) → B → A × B
  | 0, _, a, _, σ => (a, σ)
  | n + 1, i, a, f, σ => itr n (i + 1) (f i a σ).1 f (f i a σ).2

theorem loop_ok {A : Type} (c : Dev nD) (M : Refs) (body : ℕ → A → (A → P F PUnit) → P F PUnit) (f : ℕ → A → St F → A × St F)
    (h : ∀ i a, Ok c M (body i a) (f i a)) : ∀ n i a, Ok c M (loop n i a body) (itr n i a f)
  | 0, i, a => fun R σ K Q hK => hK
  | n + 1, i, a => fun R σ K Q hK => h i a R σ _ Q (loop_ok c M body f h n (i + 1) _ R _ K Q hK)

/-- A property that each round hands on holds after all. -/
theorem itr_ind {A B : Type} (I : ℕ → A → B → Prop) (f : ℕ → A → B → A × B) :
    ∀ (n i : ℕ) (a : A) (σ : B), I i a σ → (∀ j a σ, i ≤ j → j < i + n → I j a σ → I (j + 1) (f j a σ).1 (f j a σ).2) →
      I (i + n) (itr n i a f σ).1 (itr n i a f σ).2
  | 0, i, a, σ, h, _ => h
  | n + 1, i, a, σ, h, hs => by
    have := itr_ind I f n (i + 1) _ _ (hs i a σ le_rfl (by omega) h) (fun j a σ h1 h2 => hs j a σ (by omega) (by omega))
    rwa [show i + 1 + n = i + (n + 1) by omega] at this

/-! ## What the passes do to the contents -/

def sTile1 (u k : ℕ) (w : Vec F S32x128 .f32) (σ : St F) : (FVec F S32x128 .f32 × FVec F S32x128 .f32) × St F :=
  let cc : Vec F S1x32x128 .fp8e5m2 := window σ.a2 (o3 u k) S1x32x128.size (in3 u k)
  let h : Vec F S1x32x128 .bf16 := window σ.a6 (o3 u k) S1x32x128.size (in3 u k)
  let g : Vec F S1x128 .f32 := window σ.a9 (oC k) S1x128.size (inC1 k)
  ((tV w cc g, mulf (tV w cc g) (tH h)),
    { σ with
      a25 := put σ.a25 (oC k) S8x128.size (tAcc (window σ.a25 (oC k) S8x128.size (inC8 k)) (mulf (tU w cc) (tH h)))
      a23 := put σ.a23 (o2 u k) S32x128.size (t2 (tV w cc g)) })

theorem tile1_ok (c : Dev nD) (M : Refs) (u k : ℕ) (w : Vec F S32x128 .f32) :
    Ok c M (fun K => tile1 M u k w fun a b => K (a, b)) (sTile1 u k w) := by
  intro R σ K Q hK
  dsimp only [tile1]
  refine ld_rule c R (cells M σ) 0 rfl _ _ _ _ _ _ ?_
  refine ld_rule c R (cells M σ) 4 rfl _ _ _ _ _ _ ?_
  refine ld_rule c R (cells M σ) 23 rfl _ _ _ _ _ _ ?_
  refine ld_rule c R (cells M σ) 23 rfl _ _ _ _ _ _ ?_
  refine st_rule c R (cells M σ) (cells M { σ with a25 := put σ.a25 (oC k) S8x128.size _ }) 23 rfl _ _ _ _ _ _ _ rfl ?_
  refine ld_rule c R (cells M _) 7 rfl _ _ _ _ _ _ ?_
  refine ld_rule c R (cells M _) 21 rfl _ _ _ _ _ _ ?_
  refine st_rule c R (cells M _) (cells M (sTile1 u k w σ).2) 21 rfl _ _ _ _ _ _ _ rfl ?_
  exact hK

def sRound1 (u : ℕ) (w : Vec F S32x128 .f32) (k : ℕ) (a : FVec F S32x128 .f32 × FVec F S32x128 .f32) (σ : St F) :
    (FVec F S32x128 .f32 × FVec F S32x128 .f32) × St F :=
  ((addf a.1 (sTile1 u k w σ).1.1, addf a.2 (sTile1 u k w σ).1.2), (sTile1 u k w σ).2)

def sTail1 (u : ℕ) (a : FVec F S32x128 .f32 × FVec F S32x128 .f32) (σ : St F) : St F :=
  { σ with
    a17 := put σ.a17 (oR u) S32x128.size (t2 a.1)
    a18 := put σ.a18 (oR u) S32x128.size (t2 a.2) }

theorem tail1_ok (c : Dev nD) (M : Refs) (u : ℕ) (a : FVec F S32x128 .f32 × FVec F S32x128 .f32) (R : sProp 𝕄) (σ : St F) (K : P F PUnit)
    (Q : PUnit → sProp 𝕄) (hK : own c R M (sTail1 u a σ) ⊢ runs c K Q) : own c R M σ ⊢ runs c
      (ld M.a17 (oR u) S32x128.size (inR u) h_S32x128 fun _ =>
       st M.a17 (oR u) S32x128.size (inR u) (t2 a.1) (View.stores_vmem_bits_univ h_S32x128 rfl) <|
       ld M.a18 (oR u) S32x128.size (inR u) h_S32x128 fun _ =>
       st M.a18 (oR u) S32x128.size (inR u) (t2 a.2) (View.stores_vmem_bits_univ h_S32x128 rfl) K) Q := by
  refine ld_rule c R (cells M _) 15 rfl _ _ _ _ _ _ ?_
  refine st_rule c R (cells M _) (cells M { σ with a17 := put σ.a17 (oR u) S32x128.size _ }) 15 rfl _ _ _ _ _ _ _ rfl ?_
  refine ld_rule c R (cells M _) 16 rfl _ _ _ _ _ _ ?_
  refine st_rule c R (cells M _) (cells M (sTail1 u a σ)) 16 rfl _ _ _ _ _ _ _ rfl ?_
  exact hK

def sRow1 (u : ℕ) (σ : St F) : PUnit × St F :=
  let w : Vec F S32x128 .f32 := window σ.a16 (oR u) S32x128.size (inR u)
  let r := sTile1 u 0 w σ
  let l := itr 11 1 r.1 (sRound1 u w) r.2
  (⟨⟩, sTail1 u l.1 l.2)

theorem row1_ok (c : Dev nD) (M : Refs) (u : ℕ) : Ok (F := F) c M (fun K => row1 M u (K PUnit.unit)) (sRow1 u) := by
  intro R σ K Q hK
  dsimp only [row1]
  refine ld_rule c R (cells M σ) 14 rfl _ _ _ _ _ _ ?_
  refine tile1_ok c M u 0 _ R σ (fun s => loop 11 1 s _ _) Q ?_
  refine loop_ok c M _ (sRound1 u (window σ.a16 (oR u) S32x128.size (inR u))) ?_ 11 1 _ R _ _ Q ?_
  · intro k a R σ K Q hK
    exact tile1_ok c M u k _ R σ (fun s => K (addf a.1 s.1, addf a.2 s.2)) Q hK
  exact tail1_ok c M u _ R _ _ Q hK

def sTile2 (u k : ℕ) (cc ee : Vec F S32x128 .f32) (ma mb : IVec S8x128 32) (σ : St F) : FVec F S32x128 .f32 × St F :=
  let h : Vec F S1x32x128 .bf16 := window σ.a6 (o3 u k) S1x32x128.size (in3 u k)
  let r : Vec F S1x32x128 .bf16 := window σ.a4 (o3 u k) S1x32x128.size (in3 u k)
  let v : Vec F S32x128 .f32 := window σ.a23 (o2 u k) S32x128.size (in2 u k)
  let d := tMask k ma mb (tD cc ee h r v)
  (absf d, { σ with
    a10 := put σ.a10 (o3 u k) S1x32x128.size (tX (tD cc ee h r v))
    a24 := put σ.a24 (o2 u k) S32x128.size (t2 d)
    a26 := put σ.a26 (oC k) S8x128.size (tAcc (window σ.a26 (oC k) S8x128.size (inC8 k)) d) })

theorem tile2_ok (c : Dev nD) (M : Refs) (u k : ℕ) (cc ee : Vec F S32x128 .f32) (ma mb : IVec S8x128 32) :
    Ok c M (tile2 M u k cc ee ma mb) (sTile2 u k cc ee ma mb) := by
  intro R σ K Q hK
  dsimp only [tile2]
  refine ld_rule c R (cells M σ) 4 rfl _ _ _ _ _ _ ?_
  refine ld_rule c R (cells M σ) 2 rfl _ _ _ _ _ _ ?_
  refine ld_rule c R (cells M σ) 21 rfl _ _ _ _ _ _ ?_
  refine ld_rule c R (cells M σ) 8 rfl _ _ _ _ _ _ ?_
  refine st_rule c R (cells M σ) (cells M { σ with a10 := put σ.a10 (o3 u k) S1x32x128.size _ }) 8 rfl _ _ _ _ _ _ _ rfl ?_
  refine ld_rule c R (cells M _) 22 rfl _ _ _ _ _ _ ?_
  refine st_rule c R (cells M _) (cells M { σ with a10 := put σ.a10 (o3 u k) S1x32x128.size _, a24 := put σ.a24 (o2 u k) S32x128.size _ }) 22 rfl _ _ _ _ _ _ _ rfl ?_
  refine ld_rule c R (cells M _) 24 rfl _ _ _ _ _ _ ?_
  refine ld_rule c R (cells M _) 24 rfl _ _ _ _ _ _ ?_
  refine st_rule c R (cells M _) (cells M (sTile2 u k cc ee ma mb σ).2) 24 rfl _ _ _ _ _ _ _ rfl ?_
  exact hK

def sRound2 (u : ℕ) (cc ee : Vec F S32x128 .f32) (ma mb : IVec S8x128 32) (k : ℕ) (a : FVec F S32x128 .f32) (σ : St F) : FVec F S32x128 .f32 × St F :=
  (maximumf a (sTile2 u k cc ee ma mb σ).1, (sTile2 u k cc ee ma mb σ).2)

def sTail2 (u : ℕ) (a : FVec F S32x128 .f32) (σ : St F) : St F := { σ with a21 := put σ.a21 (oR u) S32x128.size (t2 a) }

theorem tail2_ok (c : Dev nD) (M : Refs) (u : ℕ) (a : FVec F S32x128 .f32) (R : sProp 𝕄) (σ : St F) (K : P F PUnit)
    (Q : PUnit → sProp 𝕄) (hK : own c R M (sTail2 u a σ) ⊢ runs c K Q) : own c R M σ ⊢ runs c
      (ld M.a21 (oR u) S32x128.size (inR u) h_S32x128 fun _ =>
       st M.a21 (oR u) S32x128.size (inR u) (t2 a) (View.stores_vmem_bits_univ h_S32x128 rfl) K) Q := by
  refine ld_rule c R (cells M _) 19 rfl _ _ _ _ _ _ ?_
  refine st_rule c R (cells M _) (cells M (sTail2 u a σ)) 19 rfl _ _ _ _ _ _ _ rfl ?_
  exact hK

def sRow2 (u : ℕ) (σ : St F) : PUnit × St F :=
  let cc : Vec F S32x128 .f32 := window σ.a19 (oR u) S32x128.size (inR u)
  let ee : Vec F S32x128 .f32 := window σ.a20 (oR u) S32x128.size (inR u)
  let ma := tMa (F := F) (window σ.a5 (oMa u) S1x32x128.size (inMa u))
  let mb := tMb (F := F) (window σ.a5 (oMb u) S1x32x64.size (inMb u))
  let r := sTile2 u 0 cc ee ma mb σ
  let l := itr 11 1 r.1 (sRound2 u cc ee ma mb) r.2
  (⟨⟩, sTail2 u l.1 l.2)

theorem row2_ok (c : Dev nD) (M : Refs) (u : ℕ) : Ok (F := F) c M (fun K => row2 M u (K PUnit.unit)) (sRow2 (F := F) u) := by
  intro R σ K Q hK
  dsimp only [row2]
  refine ld_rule c R (cells M σ) 17 rfl _ _ _ _ _ _ ?_
  refine ld_rule c R (cells M σ) 18 rfl _ _ _ _ _ _ ?_
  refine ld_rule c R (cells M σ) 3 rfl _ _ _ _ _ _ ?_
  refine ld_rule c R (cells M σ) 3 rfl _ _ _ _ _ _ ?_
  refine tile2_ok c M u 0 _ _ _ _ R σ (fun s => loop 11 1 s _ _) Q ?_
  refine loop_ok c M _ (sRound2 u (window σ.a19 (oR u) S32x128.size (inR u)) (window σ.a20 (oR u) S32x128.size (inR u))
    (tMa (F := F) (window σ.a5 (oMa u) S1x32x128.size (inMa u))) (tMb (F := F) (window σ.a5 (oMb u) S1x32x64.size (inMb u)))) ?_ 11 1 _ R _ _ Q ?_
  · intro k a R σ K Q hK
    exact tile2_ok c M u k _ _ _ _ R σ (fun s => K (maximumf a s)) Q hK
  exact tail2_ok c M u _ R _ _ Q hK

def sTile3 (u k : ℕ) (q : Vec F S32x128 .f32) (σ : St F) : PUnit × St F :=
  (⟨⟩, { σ with a14 := put σ.a14 (o3 u k) S1x32x128.size (tQ q (window σ.a24 (o2 u k) S32x128.size (in2 u k))) })

theorem tile3_ok (c : Dev nD) (M : Refs) (u k : ℕ) (q : Vec F S32x128 .f32) :
    Ok c M (fun K => tile3 M u k q (K PUnit.unit)) (sTile3 u k q) := by
  intro R σ K Q hK
  dsimp only [tile3]
  refine ld_rule c R (cells M σ) 22 rfl _ _ _ _ _ _ ?_
  refine ld_rule c R (cells M σ) 12 rfl _ _ _ _ _ _ ?_
  refine st_rule c R (cells M _) (cells M (sTile3 u k q σ).2) 12 rfl _ _ _ _ _ _ _ rfl ?_
  exact hK

def sRow3 (u : ℕ) (σ : St F) : PUnit × St F :=
  itr 12 0 PUnit.unit (fun k _ σ' => sTile3 u k (window σ.a22 (oR u) S32x128.size (inR u)) σ') σ

theorem row3_ok (c : Dev nD) (M : Refs) (u : ℕ) : Ok (F := F) c M (fun K => row3 M u (K PUnit.unit)) (sRow3 (F := F) u) := by
  intro R σ K Q hK
  dsimp only [row3]
  refine ld_rule c R (cells M σ) 20 rfl _ _ _ _ _ _ ?_
  refine loop_ok c M _ (fun k _ σ' => sTile3 u k (window σ.a22 (oR u) S32x128.size (inR u)) σ') ?_ 12 0 _ R _ _ Q ?_
  · intro k a R σ K Q hK
    exact tile3_ok c M u k _ R σ K Q hK
  exact hK

/-- The contents after the three loads of the row data and the two whole-block stores at the body's head. -/
def sHead (i : grid0.Coords) (σ : St F) : St F :=
  let s : Vec F S1x256 .f32 := window σ.a3 (k0_off1 i) S1x256.size (k0_off1_inb i)
  let μ : Vec F S1x256 .f32 := window σ.a7 (k0_off1 i) S1x256.size (k0_off1_inb i)
  let r : Vec F S1x256 .f32 := window σ.a8 (k0_off1 i) S1x256.size (k0_off1_inb i)
  { σ with
    a16 := put σ.a16 ![0, 0] S256x128.size (k0_pay9 s r)
    a27 := put σ.a27 ![0, 0] S16x1536.size (k0_pay11 (k0_pay10 s μ r) (window σ.a27 ![0, 0] S16x1536.size inb_S16x1536_S16x1536_0_0) (window σ.a2 ![0, 0, 0] S1x256x1536.size inb_S1x256x1536_S1x256x1536_0_0_0)) }

/-- The contents after the row constants' stores. -/
def sMid (μ r : Vec F S1x256 .f32) (σ : St F) : St F :=
  let p : Vec F S256x128 .f32 := window σ.a17 ![0, 0] S256x128.size inb_S256x128_S256x128_0_0
  let q : Vec F S256x128 .f32 := window σ.a18 ![0, 0] S256x128.size inb_S256x128_S256x128_0_0
  { σ with
    a19 := put σ.a19 ![0, 0] S256x128.size (k0_pay672 (k0_pay671 μ r p q))
    a20 := put σ.a20 ![0, 0] S256x128.size (k0_pay673 μ (k0_pay669 p) (k0_pay670 μ r p q)) }

/-- The contents after the scales' stores. -/
def sScale (i : grid0.Coords) (σ : St F) : St F :=
  let am : Vec F S256x128 .f32 := window σ.a21 ![0, 0] S256x128.size inb_S256x128_S256x128_0_0
  { σ with
    a15 := put σ.a15 (k0_off1 i) S1x256.size (pScale am)
    a22 := put σ.a22 ![0, 0] S256x128.size (pQs am) }

/-- The contents after the last point's reading out. -/
def sFin (i : grid0.Coords) (σ : St F) : St F :=
  if k0_cond2 i = 1#1 then
    { σ with
      a12 := put σ.a12 ![0, 0] S1x1536.size (k0_pay2 (window σ.a27 ![0, 0] S16x1536.size inb_S16x1536_S16x1536_0_0))
      a11 := put σ.a11 ![0, 0] S1x1536.size (k0_pay3 (window σ.a27 ![0, 0] S16x1536.size inb_S16x1536_S16x1536_0_0) (window σ.a25 ![0, 0] S8x1536.size inb_S8x1536_S8x1536_0_0))
      a13 := put σ.a13 ![0, 0] S1x1536.size (k0_pay4 (window σ.a26 ![0, 0] S8x1536.size inb_S8x1536_S8x1536_0_0)) }
  else σ

def rows1 (σ : St F) : St F := (itr 8 0 PUnit.unit (fun u _ σ => sRow1 u σ) σ).2
def rows2 (σ : St F) : St F := (itr 8 0 PUnit.unit (fun u _ σ => sRow2 u σ) σ).2
def rows3 (σ : St F) : St F := (itr 8 0 PUnit.unit (fun u _ σ => sRow3 u σ) σ).2

/-- The contents after the body, from the contents after the clearing. -/
def sBody (i : grid0.Coords) (σ : St F) : St F :=
  sFin i (rows3 (sScale i (rows2 (sMid (window σ.a7 (k0_off1 i) S1x256.size (k0_off1_inb i)) (window σ.a8 (k0_off1 i) S1x256.size (k0_off1_inb i)) (rows1 (sHead i σ))))))

/-- The accumulators cleared. -/
def sClear (σ : St F) : St F :=
  { σ with
    a25 := put σ.a25 ![0, 0] S8x1536.size (k0_pay5 (F := F))
    a26 := put σ.a26 ![0, 0] S8x1536.size (k0_pay6 (F := F))
    a27 := put σ.a27 ![0, 0] S16x1536.size (k0_pay7 (F := F)) }

theorem rows_ok (c : Dev nD) (M : Refs) (row : ℕ → P F PUnit → P F PUnit) (f : ℕ → St F → PUnit × St F)
    (h : ∀ u, Ok c M (fun K => row u (K PUnit.unit)) (f u)) :
    Ok c M (fun K => loop 8 0 PUnit.unit (fun u _ K => row u (K PUnit.unit)) K) (fun σ => itr 8 0 PUnit.unit (fun u _ σ => f u σ) σ) :=
  loop_ok c M _ (fun u _ σ => f u σ) (fun u _ => h u) 8 0 PUnit.unit

theorem fin_ok (c : Dev nD) (M : Refs) (i : grid0.Coords) (R : sProp 𝕄) (σ : St F) (Q : PUnit → sProp 𝕄)
    (hQ : own c R M (sFin i σ) ⊢ Q ⟨⟩) : own c R M σ ⊢ runs c (fin M i) Q := by
  by_cases h : k0_cond2 i = 1#1
  · have hp : fin (F := F) M i =
        (ld M.a27 ![0, 0] S16x1536.size inb_S16x1536_S16x1536_0_0 h_S16x1536 fun mm =>
         ld M.a12 ![0, 0] S1x1536.size inb_S1x1536_S1x1536_0_0 h_S1x1536 fun _ =>
         st M.a12 ![0, 0] S1x1536.size inb_S1x1536_S1x1536_0_0 (k0_pay2 mm) (View.stores_vmem_bits_univ h_S1x1536 rfl) <|
         ld M.a25 ![0, 0] S8x1536.size inb_S8x1536_S8x1536_0_0 h_S8x1536 fun dg =>
         ld M.a11 ![0, 0] S1x1536.size inb_S1x1536_S1x1536_0_0 h_S1x1536 fun _ =>
         st M.a11 ![0, 0] S1x1536.size inb_S1x1536_S1x1536_0_0 (k0_pay3 mm dg) (View.stores_vmem_bits_univ h_S1x1536 rfl) <|
         ld M.a26 ![0, 0] S8x1536.size inb_S8x1536_S8x1536_0_0 h_S8x1536 fun db =>
         ld M.a13 ![0, 0] S1x1536.size inb_S1x1536_S1x1536_0_0 h_S1x1536 fun _ =>
         st M.a13 ![0, 0] S1x1536.size inb_S1x1536_S1x1536_0_0 (k0_pay4 db) (View.stores_vmem_bits_univ h_S1x1536 rfl) <|
         Prog.ret ⟨⟩) := by
      unfold fin; rw [dif_pos h]; chain_rfl
    rw [hp]
    unfold sFin at hQ; rw [if_pos h] at hQ
    refine ld_rule c R (cells M σ) 25 rfl _ _ _ _ _ _ ?_
    refine ld_rule c R (cells M σ) 10 rfl _ _ _ _ _ _ ?_
    refine st_rule c R (cells M σ) (cells M { σ with a12 := put σ.a12 ![0, 0] S1x1536.size _ }) 10 rfl _ _ _ _ _ _ _ rfl ?_
    refine ld_rule c R (cells M _) 23 rfl _ _ _ _ _ _ ?_
    refine ld_rule c R (cells M _) 9 rfl _ _ _ _ _ _ ?_
    refine st_rule c R (cells M _) (cells M { σ with a12 := put σ.a12 ![0, 0] S1x1536.size _, a11 := put σ.a11 ![0, 0] S1x1536.size _ }) 9 rfl _ _ _ _ _ _ _ rfl ?_
    refine ld_rule c R (cells M _) 24 rfl _ _ _ _ _ _ ?_
    refine ld_rule c R (cells M _) 11 rfl _ _ _ _ _ _ ?_
    refine st_rule c R (cells M _) (cells M { σ with a12 := put σ.a12 ![0, 0] S1x1536.size _, a11 := put σ.a11 ![0, 0] S1x1536.size _, a13 := put σ.a13 ![0, 0] S1x1536.size _ }) 11 rfl _ _ _ _ _ _ _ rfl ?_
    exact hQ.trans (le_wp_ret _ _ _ _ _)
  · have hp : fin (F := F) M i = Prog.ret ⟨⟩ := by unfold fin; rw [dif_neg h]; rfl
    rw [hp]
    unfold sFin at hQ; rw [if_neg h] at hQ
    exact hQ.trans (le_wp_ret _ _ _ _ _)

theorem mid_ok (c : Dev nD) (M : Refs) (μ r : Vec F S1x256 .f32) (R : sProp 𝕄) (σ : St F) (K : P F PUnit)
    (Q : PUnit → sProp 𝕄) (hK : own c R M (sMid μ r σ) ⊢ runs c K Q) : own c R M σ ⊢ runs c
      (ld M.a17 ![0, 0] S256x128.size inb_S256x128_S256x128_0_0 h_S256x128 fun p =>
       ld M.a18 ![0, 0] S256x128.size inb_S256x128_S256x128_0_0 h_S256x128 fun q =>
       ld M.a19 ![0, 0] S256x128.size inb_S256x128_S256x128_0_0 h_S256x128 fun _ =>
       st M.a19 ![0, 0] S256x128.size inb_S256x128_S256x128_0_0 (k0_pay672 (k0_pay671 μ r p q)) (View.stores_vmem_bits_univ h_S256x128 rfl) <|
       ld M.a20 ![0, 0] S256x128.size inb_S256x128_S256x128_0_0 h_S256x128 fun _ =>
       st M.a20 ![0, 0] S256x128.size inb_S256x128_S256x128_0_0 (k0_pay673 μ (k0_pay669 p) (k0_pay670 μ r p q)) (View.stores_vmem_bits_univ h_S256x128 rfl) K) Q := by
  refine ld_rule c R (cells M σ) 15 rfl _ _ _ _ _ _ ?_
  refine ld_rule c R (cells M σ) 16 rfl _ _ _ _ _ _ ?_
  refine ld_rule c R (cells M σ) 17 rfl _ _ _ _ _ _ ?_
  refine st_rule c R (cells M σ) (cells M { σ with a19 := put σ.a19 ![0, 0] S256x128.size _ }) 17 rfl _ _ _ _ _ _ _ rfl ?_
  refine ld_rule c R (cells M _) 18 rfl _ _ _ _ _ _ ?_
  refine st_rule c R (cells M _) (cells M (sMid μ r σ)) 18 rfl _ _ _ _ _ _ _ rfl ?_
  exact hK

theorem scale_ok (c : Dev nD) (M : Refs) (i : grid0.Coords) (R : sProp 𝕄) (σ : St F) (K : P F PUnit)
    (Q : PUnit → sProp 𝕄) (hK : own c R M (sScale i σ) ⊢ runs c K Q) : own c R M σ ⊢ runs c
      (ld M.a21 ![0, 0] S256x128.size inb_S256x128_S256x128_0_0 h_S256x128 fun am =>
       ld M.a15 (k0_off1 i) S1x256.size (k0_off1_inb i) h_S1x256 fun _ =>
       st M.a15 (k0_off1 i) S1x256.size (k0_off1_inb i) (pScale am) (View.stores_vmem_bits_univ h_S1x256 rfl) <|
       ld M.a22 ![0, 0] S256x128.size inb_S256x128_S256x128_0_0 h_S256x128 fun _ =>
       st M.a22 ![0, 0] S256x128.size inb_S256x128_S256x128_0_0 (pQs am) (View.stores_vmem_bits_univ h_S256x128 rfl) K) Q := by
  refine ld_rule c R (cells M σ) 19 rfl _ _ _ _ _ _ ?_
  refine ld_rule c R (cells M σ) 13 rfl _ _ _ _ _ _ ?_
  refine st_rule c R (cells M σ) (cells M { σ with a15 := put σ.a15 (k0_off1 i) S1x256.size _ }) 13 rfl _ _ _ _ _ _ _ rfl ?_
  refine ld_rule c R (cells M _) 20 rfl _ _ _ _ _ _ ?_
  refine st_rule c R (cells M _) (cells M (sScale i σ)) 20 rfl _ _ _ _ _ _ _ rfl ?_
  exact hK

theorem head_ok (c : Dev nD) (M : Refs) (i : grid0.Coords) (R : sProp 𝕄) (σ : St F) (K : Vec F S1x256 .f32 → Vec F S1x256 .f32 → P F PUnit)
    (Q : PUnit → sProp 𝕄) (hK : own c R M (sHead i σ) ⊢ runs c
      (K (window σ.a7 (k0_off1 i) S1x256.size (k0_off1_inb i)) (window σ.a8 (k0_off1 i) S1x256.size (k0_off1_inb i))) Q) : own c R M σ ⊢ runs c
      (ld M.a3 (k0_off1 i) S1x256.size (k0_off1_inb i) h_S1x256 fun s =>
       ld M.a7 (k0_off1 i) S1x256.size (k0_off1_inb i) h_S1x256 fun μ =>
       ld M.a8 (k0_off1 i) S1x256.size (k0_off1_inb i) h_S1x256 fun r =>
       ld M.a16 ![0, 0] S256x128.size inb_S256x128_S256x128_0_0 h_S256x128 fun _ =>
       st M.a16 ![0, 0] S256x128.size inb_S256x128_S256x128_0_0 (k0_pay9 s r) (View.stores_vmem_bits_univ h_S256x128 rfl) <|
       ld M.a27 ![0, 0] S16x1536.size inb_S16x1536_S16x1536_0_0 h_S16x1536 fun mm =>
       ld M.a2 ![0, 0, 0] S1x256x1536.size inb_S1x256x1536_S1x256x1536_0_0_0 h_S1x256x1536 fun c =>
       ld M.a27 ![0, 0] S16x1536.size inb_S16x1536_S16x1536_0_0 h_S16x1536 fun _ =>
       st M.a27 ![0, 0] S16x1536.size inb_S16x1536_S16x1536_0_0 (k0_pay11 (k0_pay10 s μ r) mm c) (View.stores_vmem_bits_univ h_S16x1536 rfl) (K μ r)) Q := by
  refine ld_rule c R (cells M σ) 1 rfl _ _ _ _ _ _ ?_
  refine ld_rule c R (cells M σ) 5 rfl _ _ _ _ _ _ ?_
  refine ld_rule c R (cells M σ) 6 rfl _ _ _ _ _ _ ?_
  refine ld_rule c R (cells M σ) 14 rfl _ _ _ _ _ _ ?_
  refine st_rule c R (cells M σ) (cells M { σ with a16 := put σ.a16 ![0, 0] S256x128.size _ }) 14 rfl _ _ _ _ _ _ _ rfl ?_
  refine ld_rule c R (cells M _) 25 rfl _ _ _ _ _ _ ?_
  refine ld_rule c R (cells M _) 0 rfl _ _ _ _ _ _ ?_
  refine ld_rule c R (cells M _) 25 rfl _ _ _ _ _ _ ?_
  refine st_rule c R (cells M _) (cells M (sHead i σ)) 25 rfl _ _ _ _ _ _ _ rfl ?_
  exact hK

/-- The body runs from `σ` to `sBody i σ`. -/
theorem body1_ok (c : Dev nD) (M : Refs) (i : grid0.Coords) (R : sProp 𝕄) (σ : St F) (Q : PUnit → sProp 𝕄)
    (hQ : own c R M (sBody i σ) ⊢ Q ⟨⟩) : own c R M σ ⊢ runs c (body1 M i) Q := by
  unfold body1
  refine head_ok c M i R σ (fun μ r => _) Q ?_
  refine rows_ok c M (row1 M) (fun u => sRow1 u) (row1_ok c M) R _ (fun _ => _) Q ?_
  refine mid_ok c M _ _ R _ _ Q ?_
  refine rows_ok c M (row2 M) (fun u => sRow2 u) (row2_ok c M) R _ (fun _ => _) Q ?_
  refine scale_ok c M i R _ _ Q ?_
  refine rows_ok c M (row3 M) (fun u => sRow3 u) (row3_ok c M) R _ (fun _ => _) Q ?_
  exact fin_ok c M i R _ Q hQ

theorem body0_ok (c : Dev nD) (M : Refs) (i : grid0.Coords) (R : sProp 𝕄) (σ : St F) (Q : PUnit → sProp 𝕄)
    (hQ : own c R M (sBody i (sClear σ)) ⊢ Q ⟨⟩) : own c R M σ ⊢ runs c (body0 M i) Q := by
  dsimp only [body0]
  refine ld_rule c R (cells M σ) 23 rfl _ _ _ _ _ _ ?_
  refine st_rule c R (cells M σ) (cells M { σ with a25 := put σ.a25 ![0, 0] S8x1536.size _ }) 23 rfl _ _ _ _ _ _ _ rfl ?_
  refine ld_rule c R (cells M _) 24 rfl _ _ _ _ _ _ ?_
  refine st_rule c R (cells M _) (cells M { σ with a25 := put σ.a25 ![0, 0] S8x1536.size _, a26 := put σ.a26 ![0, 0] S8x1536.size _ }) 24 rfl _ _ _ _ _ _ _ rfl ?_
  refine ld_rule c R (cells M _) 25 rfl _ _ _ _ _ _ ?_
  refine st_rule c R (cells M _) (cells M (sClear σ)) 25 rfl _ _ _ _ _ _ _ rfl ?_
  exact body1_ok c M i R _ Q hQ

end Cert.KernelIdeal.Hand

end
-- ==== Proof.Tiles.lean ====
/-
  What the tiles compute, element by element, over the extended reals.
-/
module

public import proofs.«01_k».proof.Proof.Rules
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.VecWindow

section put
variable {α : Type}

theorem put2_ix {A B : ℕ} (x : (⟨2, ![A, B]⟩ : Shape).Idx → α) (a b m n : ℕ) (w : ((i : Fin 2) → Fin ((![m, n] : Fin 2 → ℕ) i)) → α) (i : Fin A) (j : Fin B) :
    put (s := ⟨2, ![A, B]⟩) x ![a, b] ![m, n] w (ix2 i j)
      = if h : (a ≤ i.val ∧ i.val < a + m) ∧ (b ≤ j.val ∧ j.val < b + n) then
          w (ix2 (n0 := m) (n1 := n) ⟨i.val - a, by omega⟩ ⟨j.val - b, by omega⟩) else x (ix2 i j) := by
  unfold put
  by_cases h : (a ≤ i.val ∧ i.val < a + m) ∧ (b ≤ j.val ∧ j.val < b + n)
  · rw [dif_pos (Fin.forall_fin_two.mpr h), dif_pos h]
    exact congrArg w (funext fun k => by fin_cases k <;> rfl)
  · rw [dif_neg (fun h' => h (Fin.forall_fin_two.mp h')), dif_neg h]

theorem put3_ix {A B : ℕ} (x : (⟨3, ![1, A, B]⟩ : Shape).Idx → α) (a b m n : ℕ) (w : ((i : Fin 3) → Fin ((![1, m, n] : Fin 3 → ℕ) i)) → α) (i : Fin A) (j : Fin B) :
    put (s := ⟨3, ![1, A, B]⟩) x ![0, a, b] ![1, m, n] w (ix3 0 i j)
      = if h : (a ≤ i.val ∧ i.val < a + m) ∧ (b ≤ j.val ∧ j.val < b + n) then
          w (ix3 (n0 := 1) (n1 := m) (n2 := n) 0 ⟨i.val - a, by omega⟩ ⟨j.val - b, by omega⟩) else x (ix3 0 i j) := by
  unfold put
  by_cases h : (a ≤ i.val ∧ i.val < a + m) ∧ (b ≤ j.val ∧ j.val < b + n)
  · rw [dif_pos (fun k => by fin_cases k <;> first | exact ⟨Nat.le_refl _, Nat.one_pos⟩ | exact h.1 | exact h.2), dif_pos h]
    exact congrArg w (funext fun k => by fin_cases k <;> rfl)
  · rw [dif_neg (fun h' => h ⟨h' 1, h' 2⟩), dif_neg h]

theorem window2_ix {A B : ℕ} (x : (⟨2, ![A, B]⟩ : Shape).Idx → α) (a b m n : ℕ) (inb) (i : Fin m) (j : Fin n) :
    window (s := ⟨2, ![A, B]⟩) x ![a, b] ![m, n] inb (ix2 i j)
      = x (ix2 ⟨a + i.val, by have := inb 0; have := i.isLt; simp at *; omega⟩ ⟨b + j.val, by have := inb 1; have := j.isLt; simp at *; omega⟩) := by
  unfold window
  refine congrArg x (funext fun k => Fin.ext ?_)
  fin_cases k
  · show a + 1 * i.val = a + i.val; omega
  · show b + 1 * j.val = b + j.val; omega

theorem window3_ix {A B : ℕ} (x : (⟨3, ![1, A, B]⟩ : Shape).Idx → α) (a b m n : ℕ) (inb) (i : Fin m) (j : Fin n) :
    window (s := ⟨3, ![1, A, B]⟩) x ![0, a, b] ![1, m, n] inb (ix3 0 i j)
      = x (ix3 0 ⟨a + i.val, by have := inb 1; have := i.isLt; simp at *; omega⟩ ⟨b + j.val, by have := inb 2; have := j.isLt; simp at *; omega⟩) := by
  unfold window
  refine congrArg x (funext fun k => Fin.ext ?_)
  fin_cases k
  · rfl
  · show a + 1 * i.val = a + i.val; omega
  · show b + 1 * j.val = b + j.val; omega

theorem put_full {s : Shape} (x : s.Idx → α) (off : Fin s.rank → ℕ) (h0 : ∀ a, off a = 0) (w : s.Idx → α) : put x off s.size w = w := by
  funext y
  unfold put
  rw [dif_pos (fun a => by have := (y a).isLt; have := h0 a; omega)]
  exact congrArg w (funext fun a => Fin.ext (by rw [Rect.unitLocal_val, h0 a]; omega))

theorem window_full {s : Shape} (x : s.Idx → α) (off : Fin s.rank → ℕ) (inb) (h0 : ∀ a, off a = 0) : window x off s.size inb = x := by
  funext y
  unfold window
  refine congrArg x (funext fun k => Fin.ext ?_)
  show off k + 1 * (y k).val = (y k).val
  have := h0 k; omega

end put

/-! ## Elements by natural numbers -/

/-- The element at row `i`, column `j`. -/
def r2 {A B : ℕ} [NeZero A] [NeZero B] {α : Type} (x : (⟨2, ![A, B]⟩ : Shape).Idx → α) (i j : ℕ) : α := x (ix2 (Fin.ofNat A i) (Fin.ofNat B j))
/-- The element at row `i`, column `j` of a block with a leading axis of one. -/
def r3 {A B : ℕ} [NeZero A] [NeZero B] {α : Type} (x : (⟨3, ![1, A, B]⟩ : Shape).Idx → α) (i j : ℕ) : α := x (ix3 0 (Fin.ofNat A i) (Fin.ofNat B j))

section reads
variable {A B m n : ℕ} [NeZero A] [NeZero B] [NeZero m] [NeZero n] {α : Type}

theorem ofNat_eq {i : ℕ} (h : i < A) : Fin.ofNat A i = ⟨i, h⟩ := Fin.ext (Nat.mod_eq_of_lt h)

theorem r2_val (x : (⟨2, ![A, B]⟩ : Shape).Idx → α) (i : Fin A) (j : Fin B) : r2 x i j = x (ix2 i j) := by
  unfold r2; rw [ofNat_eq i.isLt, ofNat_eq j.isLt]
theorem r3_val (x : (⟨3, ![1, A, B]⟩ : Shape).Idx → α) (i : Fin A) (j : Fin B) : r3 x i j = x (ix3 0 i j) := by
  unfold r3; rw [ofNat_eq i.isLt, ofNat_eq j.isLt]

theorem r2_put (x : (⟨2, ![A, B]⟩ : Shape).Idx → α) (a b : ℕ) (w : (⟨2, ![m, n]⟩ : Shape).Idx → α) {i j : ℕ} (hi : i < A) (hj : j < B) :
    r2 (put (s := ⟨2, ![A, B]⟩) x ![a, b] (⟨2, ![m, n]⟩ : Shape).size w) i j
      = if (a ≤ i ∧ i < a + m) ∧ (b ≤ j ∧ j < b + n) then r2 w (i - a) (j - b) else r2 x i j := by
  unfold r2
  rw [ofNat_eq hi, ofNat_eq hj]
  refine (put2_ix x a b m n w ⟨i, hi⟩ ⟨j, hj⟩).trans ?_
  by_cases h : (a ≤ i ∧ i < a + m) ∧ (b ≤ j ∧ j < b + n)
  · rw [dif_pos h, if_pos h, ofNat_eq (by omega : i - a < m), ofNat_eq (by omega : j - b < n)]
  · rw [dif_neg h, if_neg h]

theorem r3_put (x : (⟨3, ![1, A, B]⟩ : Shape).Idx → α) (a b : ℕ) (w : (⟨3, ![1, m, n]⟩ : Shape).Idx → α) {i j : ℕ} (hi : i < A) (hj : j < B) :
    r3 (put (s := ⟨3, ![1, A, B]⟩) x ![0, a, b] (⟨3, ![1, m, n]⟩ : Shape).size w) i j
      = if (a ≤ i ∧ i < a + m) ∧ (b ≤ j ∧ j < b + n) then r3 w (i - a) (j - b) else r3 x i j := by
  unfold r3
  rw [ofNat_eq hi, ofNat_eq hj]
  refine (put3_ix x a b m n w ⟨i, hi⟩ ⟨j, hj⟩).trans ?_
  by_cases h : (a ≤ i ∧ i < a + m) ∧ (b ≤ j ∧ j < b + n)
  · rw [dif_pos h, if_pos h, ofNat_eq (by omega : i - a < m), ofNat_eq (by omega : j - b < n)]
  · rw [dif_neg h, if_neg h]

theorem r2_window (x : (⟨2, ![A, B]⟩ : Shape).Idx → α) (a b : ℕ) (inb) {i j : ℕ} (hi : i < m) (hj : j < n) :
    r2 (A := m) (B := n) (window (s := ⟨2, ![A, B]⟩) x ![a, b] (⟨2, ![m, n]⟩ : Shape).size inb) i j = r2 x (a + i) (b + j) := by
  have h0 : a + m ≤ A := inb 0
  have h1 : b + n ≤ B := inb 1
  unfold r2
  rw [ofNat_eq hi, ofNat_eq hj, ofNat_eq (by omega : a + i < A), ofNat_eq (by omega : b + j < B)]
  exact window2_ix x a b m n inb ⟨i, hi⟩ ⟨j, hj⟩

theorem r3_window (x : (⟨3, ![1, A, B]⟩ : Shape).Idx → α) (a b : ℕ) (inb) {i j : ℕ} (hi : i < m) (hj : j < n) :
    r3 (A := m) (B := n) (window (s := ⟨3, ![1, A, B]⟩) x ![0, a, b] (⟨3, ![1, m, n]⟩ : Shape).size inb) i j = r3 x (a + i) (b + j) := by
  have h0 : a + m ≤ A := inb 1
  have h1 : b + n ≤ B := inb 2
  unfold r3
  rw [ofNat_eq hi, ofNat_eq hj, ofNat_eq (by omega : a + i < A), ofNat_eq (by omega : b + j < B)]
  exact window3_ix x a b m n inb ⟨i, hi⟩ ⟨j, hj⟩

theorem ext2 {x y : (⟨2, ![A, B]⟩ : Shape).Idx → α} (h : ∀ i < A, ∀ j < B, r2 x i j = r2 y i j) : x = y := by
  funext j
  have e := h (j 0).val (j 0).isLt (j 1).val (j 1).isLt
  rw [r2_val (A := A) (B := B) x (j 0) (j 1), r2_val (A := A) (B := B) y (j 0) (j 1), ← eq_ix2 j] at e
  exact e
theorem ext3 {x y : (⟨3, ![1, A, B]⟩ : Shape).Idx → α} (h : ∀ i < A, ∀ j < B, r3 x i j = r3 y i j) : x = y := by
  funext j
  have e := h (j 1).val (j 1).isLt (j 2).val (j 2).isLt
  rw [r3_val (A := A) (B := B) x (j 1) (j 2), r3_val (A := A) (B := B) y (j 1) (j 2)] at e
  have h0 : j = ix3 (n0 := 1) (n1 := A) (n2 := B) 0 (j 1) (j 2) := funext fun k => by
    fin_cases k
    · exact Fin.ext (by have : (j 0).val < 1 := (j 0).isLt; show (j 0).val = 0; omega)
    · rfl
    · rfl
  rw [h0]; exact e
end reads

/-! ## The tiles -/

section tiles
variable (w d q cc ee v : Vec Ideal S32x128 .f32) (c : Vec Ideal S1x32x128 .fp8e5m2) (h r : Vec Ideal S1x32x128 .bf16) (g : Vec Ideal S1x128 .f32)

theorem tU_ix (i : Fin 32) (l : Fin 128) : tU w c (ix2 i l) = (c (ix3 0 i l) : EReal) * w (ix2 i l) := by
  pointwise [tU, tC]
theorem tH_ix (i : Fin 32) (l : Fin 128) : tH h (ix2 i l) = (h (ix3 0 i l) : EReal) := by
  pointwise [tH]
theorem tV_ix (i : Fin 32) (l : Fin 128) : tV w c g (ix2 i l) = (c (ix3 0 i l) : EReal) * w (ix2 i l) * g (ix2 0 l) := by
  pointwise [tV, tU, tC]
theorem t2_eq (x : FVec Ideal S32x128 .f32) : t2 x = x := by
  funext j; pointwise [t2]
theorem tD_ix (i : Fin 32) (l : Fin 128) :
    tD cc ee h r v (ix2 i l) = ((v (ix2 i l) : EReal) - cc (ix2 i l) * h (ix3 0 i l)) + (r (ix3 0 i l) + ee (ix2 i l)) := by
  pointwise [tD, tH]
theorem tX_ix (x : FVec Ideal S32x128 .f32) (i : Fin 32) (l : Fin 128) : tX x (ix3 0 i l) = x (ix2 i l) := by
  pointwise [tX]
theorem tAcc_ix (a : Vec Ideal S8x128 .f32) (x : FVec Ideal S32x128 .f32) (s : Fin 8) (l : Fin 128) :
    tAcc a x (ix2 s l) = (a (ix2 s l) : EReal) + ∑ q : Fin 4, x (ix2 ⟨8 * q.val + s.val, by omega⟩ l) := by
  pointwise [tAcc]
  refine congrArg (_ + ·) (Finset.sum_congr rfl fun q _ => congrArg x (congrArg (ix2 · l) (Fin.ext ?_)))
  show q.val * 8 + s.val = 8 * q.val + s.val
  omega

theorem tQ_ix (i : Fin 32) (l : Fin 128) : tQ q d (ix3 0 i l) = min (Ideal.ofBits .f32 0x47600000#32) (max (Ideal.ofBits .f32 0xC7600000#32) ((d (ix2 i l) : EReal) * q (ix2 i l))) := by
  pointwise [tQ]

/-- Whether the mask bit of row `i`, lane `l` of column tile `k` is set. -/
def tBit (k : ℕ) (ma mb : IVec S8x128 32) (i : ℕ) (l : ℕ) : Prop :=
  cmpi .slt (extsi 32 (bitcast S32x128 8 (shli (dynamicGather 1 (bif Nat.blt k 8 then ma else mb) (tIdx k)) tShift) bitcasts_S8x128_w32_S32x128_w8) natLt_8_32) (broadcast S32x128 0#32)
    (ix2 (Fin.ofNat 32 i) (Fin.ofNat 128 l)) = 1#1

open Classical in
theorem tMask_r (k : ℕ) (ma mb : IVec S8x128 32) (i l : ℕ) :
    r2 (tMask (F := Ideal) k ma mb d) i l = if tBit k ma mb i l then (r2 d i l : EReal) else 0 := by
  by_cases h : tBit k ma mb i l
  · rw [if_pos h]; exact if_pos h
  · rw [if_neg h]; exact (if_neg h).trans Ideal.ofBits_zero_f32
end tiles

/-! ## The rows' constants -/

section rows
variable (s μ r : Vec Ideal S1x256 .f32) (p q : Vec Ideal S256x128 .f32) (i : Fin 256) (l : Fin 128)

/-- One over the number of columns, as the programs' constant has it. -/
abbrev invD : EReal := Ideal.ofBits .f32 0x3A2AAAAB#32
/-- The scale of what dropout keeps, as the programs' constant has it. -/
abbrev keepS : EReal := Ideal.ofBits .f32 0x3F8E38E4#32

theorem pay9_ix : k0_pay9 s r (ix2 i l) = (s (ix2 0 i) : EReal) * r (ix2 0 i) := by
  pointwise [k0_pay9, k0_pay8]
  split
  · rfl
  · have e : (⟨128 + (i.val - 128), by omega⟩ : Fin 256) = i := Fin.ext (by show 128 + (i.val - 128) = i.val; omega)
    rw [e]
theorem pay670_ix (j : Fin 1) : k0_pay670 μ r p q (ix2 j i)
    = ((∑ l : Fin 128, q (ix2 i l) : EReal) - μ (ix2 j i) * ∑ l : Fin 128, p (ix2 i l)) * invD * r (ix2 j i) * r (ix2 j i) := by
  pointwise [k0_pay670, k0_pay668]
  split
  · rfl
  · have e : (⟨128 + (i.val - 128), by omega⟩ : Fin 256) = i := Fin.ext (by show 128 + (i.val - 128) = i.val; omega)
    simp only [e]
theorem pay669_ix (j : Fin 1) : k0_pay669 p (ix2 j i) = (∑ l : Fin 128, p (ix2 i l) : EReal) * invD := by
  pointwise [k0_pay669, k0_pay668]
  split
  · rfl
  · have e : (⟨128 + (i.val - 128), by omega⟩ : Fin 256) = i := Fin.ext (by show 128 + (i.val - 128) = i.val; omega)
    simp only [e]
theorem pay671_ix : k0_pay672 (k0_pay671 μ r p q) (ix2 i l) = k0_pay670 μ r p q (ix2 0 i) := by
  pointwise [k0_pay672, k0_pay671]
  split
  · rfl
  · have e : (⟨128 + (i.val - 128), by omega⟩ : Fin 256) = i := Fin.ext (by show 128 + (i.val - 128) = i.val; omega)
    rw [e]
theorem pay673_ix (x y : FVec Ideal S1x256 .f32) : k0_pay673 μ x y (ix2 i l) = (μ (ix2 0 i) : EReal) * y (ix2 0 i) - x (ix2 0 i) := by
  pointwise [k0_pay673]
  split
  · rfl
  · have e : (⟨128 + (i.val - 128), by omega⟩ : Fin 256) = i := Fin.ext (by show 128 + (i.val - 128) = i.val; omega)
    simp only [e]

/-- The rows that are contracted with the codes, each value split in three. -/
def lhsRow (a b : EReal) (j : ℕ) : EReal :=
  if j = 0 then a else if j = 1 then a - a else if j = 2 then a - a - (a - a)
  else if j = 3 then b else if j = 4 then b - b else if j = 5 then b - b - (b - b) else 0

theorem pay10_ix (j : Fin 16) : k0_pay10 s μ r (ix2 j i) = lhsRow (s (ix2 0 i)) (s (ix2 0 i) * r (ix2 0 i) * μ (ix2 0 i)) j.val := by
  unfold lhsRow
  fin_cases j <;> pointwise [k0_pay10, k0_pay8] <;> rfl
theorem pay11_ix (j : Fin 16) (i : Fin 1536) (x : FVec Ideal S16x256 .bf16) (y : Vec Ideal S16x1536 .f32) (z: Vec Ideal S1x256x1536 .fp8e5m2) :
    k0_pay11 x y z (ix2 j i) = (y (ix2 j i) : EReal) + ∑ ρ : Fin 256, (x (ix2 j ρ) : EReal) * z (ix3 0 ρ i) := by
  pointwise [k0_pay11]
theorem pay2_ix (j : Fin 1) (i : Fin 1536) (x : Vec Ideal S16x1536 .f32) :
    k0_pay2 x (ix2 j i) = (x (ix2 0 i) : EReal) + x (ix2 1 i) + x (ix2 2 i) := by
  pointwise [k0_pay2]
theorem pay3_ix (j : Fin 1) (i : Fin 1536) (x : Vec Ideal S16x1536 .f32) (y : Vec Ideal S8x1536 .f32) :
    k0_pay3 x y (ix2 j i) = (∑ s : Fin 8, y (ix2 s i) : EReal) - (x (ix2 3 i) + x (ix2 4 i) + x (ix2 5 i)) := by
  pointwise [k0_pay3]
theorem pay4_ix (j : Fin 1) (i : Fin 1536) (y : Vec Ideal S8x1536 .f32) : k0_pay4 (F := Ideal) y (ix2 j i) = (∑ s : Fin 8, y (ix2 s i) : EReal) * keepS := by
  pointwise [k0_pay4]
theorem pay5_ix (j : Fin 8) (i : Fin 1536) : k0_pay5 (F := Ideal) (ix2 j i) = (0 : EReal) := by
  pointwise [k0_pay5]
theorem pay6_ix (j : Fin 8) (i : Fin 1536) : k0_pay6 (F := Ideal) (ix2 j i) = (0 : EReal) := by
  pointwise [k0_pay6]
theorem pay7_ix (j : Fin 16) (i : Fin 1536) : k0_pay7 (F := Ideal) (ix2 j i) = (0 : EReal) := by
  pointwise [k0_pay7]
end rows

end Cert.KernelIdeal.Hand
-- ==== Proof.Passes.lean ====
/-
  What the three passes over a block leave in the buffers, element by element, over the extended reals.
-/
module

public import proofs.«01_k».proof.Proof.Tiles

@[expose] public section

set_option maxRecDepth 16384

noncomputable section

namespace Cert.KernelIdeal.Hand

open Cert.KernelIdeal Cert.KernelIdeal.Gen
open Idealize.ShloMosaic Idealize.ShloMosaic.VecWindow
open Finset (range)

/-! ## One tile more -/

/-- A buffer that holds `f` on the first `j` tiles of row tile `u` and `x0` elsewhere. -/
def Part {α : Type} (u j : ℕ) (f : ℕ → ℕ → α) (x0 x : ℕ → ℕ → α) : Prop :=
  ∀ i < 256, ∀ κ < 1536, x i κ = if (32 * u ≤ i ∧ i < 32 * u + 32) ∧ κ < 128 * j then f i κ else x0 i κ

theorem Part.zero {α : Type} (u : ℕ) (f x0 : ℕ → ℕ → α) : Part u 0 f x0 x0 := fun i _ κ _ => by
  rw [if_neg (by omega)]

theorem mul_mod8 {u : ℕ} (h : u < 8) : 32 * (u % 8) = 32 * u := by rw [Nat.mod_eq_of_lt h]
theorem mul_mod12 {k : ℕ} (h : k < 12) : 128 * (k % 12) = 128 * k := by rw [Nat.mod_eq_of_lt h]

theorem Part.put2 {α : Type} {u j : ℕ} {f x0 : ℕ → ℕ → α} {x : S256x1536.Idx → α} (hu : u < 8) (hj : j < 12) (h : Part u j f x0 (r2 x))
    (w : S32x128.Idx → α) (hw : ∀ i < 32, ∀ l < 128, r2 w i l = f (32 * u + i) (128 * j + l)) :
    Part u (j + 1) f x0 (r2 (put x (o2 u j) S32x128.size w)) := fun i hi κ hκ => by
  refine (r2_put x (32 * (u % 8)) (128 * (j % 12)) w hi hκ).trans ?_
  rw [mul_mod8 hu, mul_mod12 hj]
  by_cases h1 : (32 * u ≤ i ∧ i < 32 * u + 32) ∧ (128 * j ≤ κ ∧ κ < 128 * j + 128)
  · rw [if_pos h1, if_pos (by omega), hw _ (by omega) _ (by omega)]
    congr 1 <;> omega
  · rw [if_neg h1, h i hi κ hκ]
    exact if_congr (by omega) rfl rfl

theorem Part.put3 {α : Type} {u j : ℕ} {f x0 : ℕ → ℕ → α} {x : S1x256x1536.Idx → α} (hu : u < 8) (hj : j < 12) (h : Part u j f x0 (r3 x))
    (w : S1x32x128.Idx → α) (hw : ∀ i < 32, ∀ l < 128, r3 w i l = f (32 * u + i) (128 * j + l)) :
    Part u (j + 1) f x0 (r3 (put x (o3 u j) S1x32x128.size w)) := fun i hi κ hκ => by
  refine (r3_put x (32 * (u % 8)) (128 * (j % 12)) w hi hκ).trans ?_
  rw [mul_mod8 hu, mul_mod12 hj]
  by_cases h1 : (32 * u ≤ i ∧ i < 32 * u + 32) ∧ (128 * j ≤ κ ∧ κ < 128 * j + 128)
  · rw [if_pos h1, if_pos (by omega), hw _ (by omega) _ (by omega)]
    congr 1 <;> omega
  · rw [if_neg h1, h i hi κ hκ]
    exact if_congr (by omega) rfl rfl

/-- A buffer that holds `f` on the row tiles before `u`. -/
def Rows {α : Type} (n u : ℕ) (f x : ℕ → ℕ → α) : Prop := ∀ i < 32 * u, ∀ κ < n, x i κ = f i κ

theorem Rows.zero {α : Type} (n : ℕ) (f x : ℕ → ℕ → α) : Rows n 0 f x := fun i hi => absurd hi (by omega)

theorem Part.rows {α : Type} {u : ℕ} {f x0 x : ℕ → ℕ → α} (hu : u < 8) (h0 : Rows 1536 u f x0) (h : Part u 12 f x0 x) : Rows 1536 (u + 1) f x :=
  fun i hi κ hκ => by
    rw [h i (by omega) κ hκ]
    by_cases h1 : 32 * u ≤ i
    · rw [if_pos (by omega)]
    · rw [if_neg (by omega), h0 i (by omega) κ hκ]

theorem Rows.put {α : Type} {u : ℕ} {f : ℕ → ℕ → α} {x : S256x128.Idx → α} (hu : u < 8) (h : Rows 128 u f (r2 x)) (w : S32x128.Idx → α)
    (hw : ∀ i < 32, ∀ l < 128, r2 w i l = f (32 * u + i) l) : Rows 128 (u + 1) f (r2 (put x (oR u) S32x128.size w)) := fun i hi l hl => by
  refine (r2_put x (32 * (u % 8)) 0 w (by omega) hl).trans ?_
  rw [mul_mod8 hu]
  by_cases h1 : 32 * u ≤ i
  · rw [if_pos (by omega), hw _ (by omega) _ (by omega)]
    congr 1; omega
  · rw [if_neg (by omega), h i (by omega) l hl]

/-- The sum, over four rows eight apart, that a tile adds. -/
def four (f : ℕ → ℕ → EReal) (u s κ : ℕ) : EReal := ∑ q ∈ range 4, f (32 * u + (8 * q + s)) κ

/-- An accumulator with the first `j` tiles of row tile `u` added. -/
def Acc (u j : ℕ) (f : ℕ → ℕ → EReal) (x0 x : ℕ → ℕ → EReal) : Prop :=
  ∀ s < 8, ∀ κ < 1536, x s κ = x0 s κ + if κ < 128 * j then four f u s κ else 0

theorem Acc.zero (u : ℕ) (f x0 : ℕ → ℕ → EReal) : Acc u 0 f x0 x0 := fun s _ κ _ => by
  rw [if_neg (by omega), add_zero]

theorem tAcc_r (a : Vec Ideal S8x128 .f32) (x : FVec Ideal S32x128 .f32) {s l : ℕ} (hs : s < 8) (hl : l < 128) :
    r2 (tAcc a x) s l = (r2 a s l : EReal) + ∑ q ∈ range 4, r2 x (8 * q + s) l := by
  have e := tAcc_ix a x ⟨s, hs⟩ ⟨l, hl⟩
  unfold r2
  rw [ofNat_eq hs, ofNat_eq hl, e, Finset.sum_range]
  refine congrArg (_ + ·) (Finset.sum_congr rfl fun q _ => ?_)
  rw [ofNat_eq (by omega)]

theorem Acc.put {u j : ℕ} {f x0 : ℕ → ℕ → EReal} {x : Vec Ideal S8x1536 .f32} (hu : u < 8) (hj : j < 12) (h : Acc u j f x0 (r2 x))
    (w : FVec Ideal S32x128 .f32) (hw : ∀ i < 32, ∀ l < 128, r2 w i l = f (32 * u + i) (128 * j + l)) :
    Acc u (j + 1) f x0 (r2 (VecWindow.put x (oC j) S8x128.size (tAcc (window x (oC j) S8x128.size (inC8 j)) w))) := fun s hs κ hκ => by
  refine (r2_put x 0 (128 * (j % 12)) _ hs hκ).trans ?_
  rw [mul_mod12 hj]
  by_cases h1 : 128 * j ≤ κ ∧ κ < 128 * j + 128
  · rw [if_pos (by omega)]
    refine (tAcc_r _ w (by omega) (by omega)).trans ?_
    rw [if_pos (by omega)]
    refine congrArg₂ (· + ·) ?_ ?_
    · refine (r2_window x 0 (128 * (j % 12)) (inC8 j) (by omega) (by omega)).trans ?_
      rw [mul_mod12 hj, show 0 + (s - 0) = s by omega, show 128 * j + (κ - 128 * j) = κ by omega, h s hs κ hκ, if_neg (by omega), add_zero]
    · refine Finset.sum_congr rfl fun q hq => ?_
      have := Finset.mem_range.mp hq
      rw [hw _ (by omega) _ (by omega)]
      congr 1; omega
  · rw [if_neg (by omega), h s hs κ hκ]
    exact congrArg (_ + ·) (if_congr (by omega) rfl rfl)

/-- An accumulator with the row tiles before `u` added. -/
def AccRows (u : ℕ) (f x0 x : ℕ → ℕ → EReal) : Prop := ∀ s < 8, ∀ κ < 1536, x s κ = x0 s κ + ∑ v ∈ range u, four f v s κ

theorem AccRows.zero (f x0 : ℕ → ℕ → EReal) : AccRows 0 f x0 x0 := fun s _ κ _ => by rw [Finset.sum_range_zero, add_zero]

theorem AccRows.step {u : ℕ} {f x0 x1 x : ℕ → ℕ → EReal} (h0 : AccRows u f x0 x1) (h : Acc u 12 f x1 x) : AccRows (u + 1) f x0 x :=
  fun s hs κ hκ => by
    rw [h s hs κ hκ, h0 s hs κ hκ, if_pos (by omega), Finset.sum_range_succ, add_assoc]

/-! ## Reading a tile -/

theorem r3_tile {α : Type} (x : S1x256x1536.Idx → α) {u k i l : ℕ} (hu : u < 8) (hk : k < 12) (hi : i < 32) (hl : l < 128) :
    r3 (A := 32) (B := 128) (window x (o3 u k) S1x32x128.size (in3 u k)) i l = r3 x (32 * u + i) (128 * k + l) :=
  (r3_window (m := 32) (n := 128) x (32 * (u % 8)) (128 * (k % 12)) (in3 u k) hi hl).trans (by rw [mul_mod8 hu, mul_mod12 hk])

theorem r2_tile {α : Type} (x : S256x1536.Idx → α) {u k i l : ℕ} (hu : u < 8) (hk : k < 12) (hi : i < 32) (hl : l < 128) :
    r2 (A := 32) (B := 128) (window x (o2 u k) S32x128.size (in2 u k)) i l = r2 x (32 * u + i) (128 * k + l) :=
  (r2_window (m := 32) (n := 128) x (32 * (u % 8)) (128 * (k % 12)) (in2 u k) hi hl).trans (by rw [mul_mod8 hu, mul_mod12 hk])

theorem rC_tile {α : Type} (x : S1x1536.Idx → α) {k l : ℕ} (hk : k < 12) (hl : l < 128) :
    r2 (A := 1) (B := 128) (window x (oC k) S1x128.size (inC1 k)) 0 l = r2 x 0 (128 * k + l) :=
  (r2_window (m := 1) (n := 128) x 0 (128 * (k % 12)) (inC1 k) (i := 0) (by omega) hl).trans (by rw [mul_mod12 hk])

theorem rR_tile {α : Type} (x : S256x128.Idx → α) {u i l : ℕ} (hu : u < 8) (hi : i < 32) (hl : l < 128) :
    r2 (A := 32) (B := 128) (window x (oR u) S32x128.size (inR u)) i l = r2 x (32 * u + i) l :=
  (r2_window (m := 32) (n := 128) x (32 * (u % 8)) 0 (inR u) hi hl).trans (by rw [mul_mod8 hu, show 0 + l = l by omega])

/-! ## The first pass -/

section pass1
variable (σ : St Ideal) (W : ℕ → EReal)

/-- Codes times row weights times `h`. -/
def eU (i κ : ℕ) : EReal := (r3 σ.a2 i κ : EReal) * W i * r3 σ.a6 i κ
/-- Codes times row weights times gamma. -/
def eV (i κ : ℕ) : EReal := (r3 σ.a2 i κ : EReal) * W i * r2 σ.a9 0 κ
/-- The same times `h`. -/
def eVH (i κ : ℕ) : EReal := eV σ W i κ * r3 σ.a6 i κ

/-- What holds after `j` tiles of row tile `u`. -/
def Inner1 (σ : St Ideal) (W : ℕ → EReal) (u j : ℕ) (a : FVec Ideal S32x128 .f32 × FVec Ideal S32x128 .f32) (σ' : St Ideal) : Prop :=
  ∃ (x23 : Vec Ideal S256x1536 .f32) (x25 : Vec Ideal S8x1536 .f32), σ' = { σ with a23 := x23, a25 := x25 }
    ∧ (∀ i < 32, ∀ l < 128, r2 a.1 i l = ∑ k ∈ range j, eV σ W (32 * u + i) (128 * k + l))
    ∧ (∀ i < 32, ∀ l < 128, r2 a.2 i l = ∑ k ∈ range j, eVH σ W (32 * u + i) (128 * k + l))
    ∧ Part u j (eV σ W) (r2 σ.a23) (r2 x23) ∧ Acc u j (eU σ W) (r2 σ.a25) (r2 x25)

theorem tile1_val {u k : ℕ} (hu : u < 8) (hk : k < 12) (w : Vec Ideal S32x128 .f32) (hw : ∀ i < 32, ∀ l < 128, r2 w i l = W (32 * u + i))
    (x23 : Vec Ideal S256x1536 .f32) (x25 : Vec Ideal S8x1536 .f32) {i l : ℕ} (hi : i < 32) (hl : l < 128) :
    r2 (tV w (window σ.a2 (o3 u k) S1x32x128.size (in3 u k)) (window σ.a9 (oC k) S1x128.size (inC1 k))) i l = eV σ W (32 * u + i) (128 * k + l)
    ∧ r2 (tH (F := Ideal) (window σ.a6 (o3 u k) S1x32x128.size (in3 u k))) i l = (r3 σ.a6 (32 * u + i) (128 * k + l) : EReal)
    ∧ r2 (tU w (window σ.a2 (o3 u k) S1x32x128.size (in3 u k))) i l = (r3 σ.a2 (32 * u + i) (128 * k + l) : EReal) * W (32 * u + i) := by
  have hc := r3_tile σ.a2 hu hk hi hl
  have hh := r3_tile σ.a6 hu hk hi hl
  have hg := rC_tile σ.a9 hk hl
  have hw' := hw i hi l hl
  refine ⟨?_, ?_, ?_⟩
  · refine (tV_ix w _ _ _ _).trans ?_
    exact congrArg₂ (· * ·) (congrArg₂ (· * ·) hc hw') hg
  · exact (tH_ix _ _ _).trans hh
  · exact (tU_ix w _ _ _).trans (congrArg₂ (· * ·) hc hw')

theorem t2_r (x : FVec Ideal S32x128 .f32) (i l : ℕ) : r2 (t2 x) i l = (r2 x i l : EReal) := by rw [t2_eq]
theorem r2_mulf (x y : FVec Ideal S32x128 .f32) (i l : ℕ) : r2 (mulf x y) i l = (r2 x i l : EReal) * r2 y i l := rfl
theorem r2_addf (x y : FVec Ideal S32x128 .f32) (i l : ℕ) : r2 (addf x y) i l = (r2 x i l : EReal) + r2 y i l := rfl

/-- One tile of the first pass, from the contents `x23`, `x25`. -/
theorem tile1_step {u k : ℕ} (hu : u < 8) (hk : k < 12) (w : Vec Ideal S32x128 .f32) (hw : ∀ i < 32, ∀ l < 128, r2 w i l = W (32 * u + i))
    (x23 : Vec Ideal S256x1536 .f32) (x25 : Vec Ideal S8x1536 .f32)
    (h23 : Part u k (eV σ W) (r2 σ.a23) (r2 x23)) (h25 : Acc u k (eU σ W) (r2 σ.a25) (r2 x25)) :
    ∃ (y23 : Vec Ideal S256x1536 .f32) (y25 : Vec Ideal S8x1536 .f32), (sTile1 u k w { σ with a23 := x23, a25 := x25 }).2 = { σ with a23 := y23, a25 := y25 }
      ∧ (∀ i < 32, ∀ l < 128, r2 (sTile1 u k w { σ with a23 := x23, a25 := x25 }).1.1 i l = eV σ W (32 * u + i) (128 * k + l))
      ∧ (∀ i < 32, ∀ l < 128, r2 (sTile1 u k w { σ with a23 := x23, a25 := x25 }).1.2 i l = eVH σ W (32 * u + i) (128 * k + l))
      ∧ Part u (k + 1) (eV σ W) (r2 σ.a23) (r2 y23) ∧ Acc u (k + 1) (eU σ W) (r2 σ.a25) (r2 y25) := by
  have hv := fun i hi l hl => tile1_val σ W hu hk w hw x23 x25 (i := i) (l := l) hi hl
  refine ⟨_, _, rfl, fun i hi l hl => (hv i hi l hl).1, fun i hi l hl => ?_, ?_, ?_⟩
  · exact (r2_mulf _ _ i l).trans (congrArg₂ (· * ·) (hv i hi l hl).1 (hv i hi l hl).2.1)
  · refine h23.put2 hu hk _ fun i hi l hl => ?_
    rw [t2_eq]; exact (hv i hi l hl).1
  · refine h25.put hu hk _ fun i hi l hl => ?_
    exact (r2_mulf _ _ i l).trans (congrArg₂ (· * ·) (hv i hi l hl).2.2 (hv i hi l hl).2.1)

/-- What holds after the row tiles before `u`. -/
def Outer1 (σ : St Ideal) (W : ℕ → EReal) (u : ℕ) (σ' : St Ideal) : Prop :=
  ∃ (x17 x18 : Vec Ideal S256x128 .f32) (x23 : Vec Ideal S256x1536 .f32) (x25 : Vec Ideal S8x1536 .f32),
    σ' = { σ with a17 := x17, a18 := x18, a23 := x23, a25 := x25 }
    ∧ Rows 128 u (fun i l => ∑ k ∈ range 12, eV σ W i (128 * k + l)) (r2 x17)
    ∧ Rows 128 u (fun i l => ∑ k ∈ range 12, eVH σ W i (128 * k + l)) (r2 x18)
    ∧ Rows 1536 u (eV σ W) (r2 x23) ∧ AccRows u (eU σ W) (r2 σ.a25) (r2 x25)

theorem row1_val (hW : ∀ i < 256, ∀ l < 128, r2 σ.a16 i l = W i) {u : ℕ} (hu : u < 8) (σ' : St Ideal) (h : Outer1 σ W u σ') :
    Outer1 σ W (u + 1) (sRow1 u σ').2 := by
  obtain ⟨x17, x18, x23, x25, rfl, h17, h18, h23, h25⟩ := h
  set τ : St Ideal := { σ with a17 := x17, a18 := x18, a23 := x23, a25 := x25 } with hτ
  have hw : ∀ i < 32, ∀ l < 128, r2 (A := 32) (B := 128) (window τ.a16 (oR u) S32x128.size (inR u)) i l = W (32 * u + i) := fun i hi l hl => by
    exact (rR_tile τ.a16 hu hi hl).trans (hW _ (by omega) l hl)
  have key : Inner1 τ W u 12 _ _ := itr_ind (Inner1 τ W u) (sRound1 u (window τ.a16 (oR u) S32x128.size (inR u))) 11 1
    (sTile1 u 0 (window τ.a16 (oR u) S32x128.size (inR u)) τ).1 (sTile1 u 0 (window τ.a16 (oR u) S32x128.size (inR u)) τ).2
    (by
      obtain ⟨y23, y25, e, s1, s2, p, q⟩ := tile1_step τ W hu (by omega : 0 < 12) _ hw τ.a23 τ.a25 (Part.zero u _ _) (Acc.zero u _ _)
      refine ⟨y23, y25, e, fun i hi l hl => ?_, fun i hi l hl => ?_, p, q⟩
      · rw [Finset.sum_range_one]; exact s1 i hi l hl
      · rw [Finset.sum_range_one]; exact s2 i hi l hl)
    (by
      rintro j a _ h1 h2 ⟨y23, y25, rfl, s1, s2, p, q⟩
      obtain ⟨z23, z25, e, t1, t2, p', q'⟩ := tile1_step τ W hu (by omega : j < 12) _ hw y23 y25 p q
      refine ⟨z23, z25, e, fun i hi l hl => ?_, fun i hi l hl => ?_, p', q'⟩
      · rw [Finset.sum_range_succ]; exact congrArg₂ (· + ·) (s1 i hi l hl) (t1 i hi l hl)
      · rw [Finset.sum_range_succ]; exact congrArg₂ (· + ·) (s2 i hi l hl) (t2 i hi l hl))
  obtain ⟨y23, y25, e, s1, s2, p, q⟩ := key
  refine ⟨_, _, y23, y25, (congrArg (sTail1 u _) e).trans rfl, ?_, ?_, Part.rows hu h23 p, AccRows.step h25 q⟩
  · exact Rows.put hu h17 _ fun i hi l hl => (t2_r _ i l).trans (s1 i hi l hl)
  · exact Rows.put hu h18 _ fun i hi l hl => (t2_r _ i l).trans (s2 i hi l hl)

theorem rows1_val (hW : ∀ i < 256, ∀ l < 128, r2 σ.a16 i l = W i) : Outer1 σ W 8 (rows1 σ) := by
  refine itr_ind (fun u _ σ' => Outer1 σ W u σ') (fun u _ σ => sRow1 u σ) 8 0 PUnit.unit σ ?_ fun j _ σ' _ hj h => row1_val σ W hW (by omega) σ' h
  exact ⟨σ.a17, σ.a18, σ.a23, σ.a25, rfl, Rows.zero _ _ _, Rows.zero _ _ _, Rows.zero _ _ _, AccRows.zero _ _⟩
end pass1

/-! ## The second pass -/

section pass2
variable (σ : St Ideal)

/-- The gradient of the layer's input. -/
def eD (i κ : ℕ) : EReal :=
  ((r2 σ.a23 i κ : EReal) - r2 σ.a19 i 0 * r3 σ.a6 i κ) + (r3 σ.a4 i κ + r2 σ.a20 i 0)

/-- The mask bit of row `i`, lane `l` of the tile `u`, `k`, as the body reads it from its packed block. -/
def rowBit (u k i l : ℕ) : Prop :=
  tBit k (tMa (F := Ideal) (window σ.a5 (oMa u) S1x32x128.size (inMa u))) (tMb (F := Ideal) (window σ.a5 (oMb u) S1x32x64.size (inMb u))) i l
/-- The same of row `i`, column `κ` of the block. -/
def eBit (i κ : ℕ) : Prop := rowBit σ (i / 32) (κ / 128) (i % 32) (κ % 128)

open Classical in
/-- It where the mask bit is set, zero elsewhere. -/
def eM (i κ : ℕ) : EReal := if eBit σ i κ then eD σ i κ else 0

open Classical in
theorem eM_at {u k i l : ℕ} (hi : i < 32) (hl : l < 128) :
    eM σ (32 * u + i) (128 * k + l) = if rowBit σ u k i l then eD σ (32 * u + i) (128 * k + l) else 0 := by
  have e1 : (32 * u + i) / 32 = u := by omega
  have e2 : (128 * k + l) / 128 = k := by omega
  have e3 : (32 * u + i) % 32 = i := by omega
  have e4 : (128 * k + l) % 128 = l := by omega
  unfold eM eBit
  rw [e1, e2, e3, e4]

/-- The largest of the sizes at lane `l` of the first `j` tiles. -/
def eTop (j i l : ℕ) : EReal := (range j).sup fun k => max (eM σ i (128 * k + l)) (-(eM σ i (128 * k + l)))

/-- What holds after `j` tiles of row tile `u`. -/
def Inner2 (σ : St Ideal) (u j : ℕ) (a : FVec Ideal S32x128 .f32) (σ' : St Ideal) : Prop :=
  ∃ (x10 : Vec Ideal S1x256x1536 .bf16) (x24 : Vec Ideal S256x1536 .f32) (x26 : Vec Ideal S8x1536 .f32), σ' = { σ with a10 := x10, a24 := x24, a26 := x26 }
    ∧ (∀ i < 32, ∀ l < 128, r2 a i l = eTop σ j (32 * u + i) l)
    ∧ Part u j (eD σ) (r3 σ.a10) (r3 x10) ∧ Part u j (eM σ) (r2 σ.a24) (r2 x24) ∧ Acc u j (eM σ) (r2 σ.a26) (r2 x26)

/-- One tile of the second pass. -/
theorem tile2_step {u k : ℕ} (hu : u < 8) (hk : k < 12) (cc ee : Vec Ideal S32x128 .f32)
    (hc : ∀ i < 32, ∀ l < 128, r2 cc i l = r2 σ.a19 (32 * u + i) 0) (he : ∀ i < 32, ∀ l < 128, r2 ee i l = r2 σ.a20 (32 * u + i) 0)
    (x10 : Vec Ideal S1x256x1536 .bf16) (x24 : Vec Ideal S256x1536 .f32) (x26 : Vec Ideal S8x1536 .f32)
    (h10 : Part u k (eD σ) (r3 σ.a10) (r3 x10)) (h24 : Part u k (eM σ) (r2 σ.a24) (r2 x24)) (h26 : Acc u k (eM σ) (r2 σ.a26) (r2 x26)) :
    ∃ (y10 : Vec Ideal S1x256x1536 .bf16) (y24 : Vec Ideal S256x1536 .f32) (y26 : Vec Ideal S8x1536 .f32),
      (sTile2 u k cc ee (tMa (F := Ideal) (window σ.a5 (oMa u) S1x32x128.size (inMa u))) (tMb (F := Ideal) (window σ.a5 (oMb u) S1x32x64.size (inMb u)))
        { σ with a10 := x10, a24 := x24, a26 := x26 }).2 = { σ with a10 := y10, a24 := y24, a26 := y26 }
      ∧ (∀ i < 32, ∀ l < 128, r2 (sTile2 u k cc ee (tMa (F := Ideal) (window σ.a5 (oMa u) S1x32x128.size (inMa u)))
          (tMb (F := Ideal) (window σ.a5 (oMb u) S1x32x64.size (inMb u))) { σ with a10 := x10, a24 := x24, a26 := x26 }).1 i l
          = max (eM σ (32 * u + i) (128 * k + l)) (-(eM σ (32 * u + i) (128 * k + l))))
      ∧ Part u (k + 1) (eD σ) (r3 σ.a10) (r3 y10) ∧ Part u (k + 1) (eM σ) (r2 σ.a24) (r2 y24) ∧ Acc u (k + 1) (eM σ) (r2 σ.a26) (r2 y26) := by
  classical
  have hd : ∀ i < 32, ∀ l < 128, r2 (tD cc ee (window σ.a6 (o3 u k) S1x32x128.size (in3 u k)) (window σ.a4 (o3 u k) S1x32x128.size (in3 u k))
      (window σ.a23 (o2 u k) S32x128.size (in2 u k))) i l = eD σ (32 * u + i) (128 * k + l) := fun i hi l hl => by
    refine (tD_ix cc ee _ _ _ _ _).trans ?_
    exact congrArg₂ (· + ·) (congrArg₂ (· - ·) (r2_tile σ.a23 hu hk hi hl) (congrArg₂ (· * ·) (hc i hi l hl) (r3_tile σ.a6 hu hk hi hl)))
      (congrArg₂ (· + ·) (r3_tile σ.a4 hu hk hi hl) (he i hi l hl))
  have hm : ∀ i < 32, ∀ l < 128, r2 (tMask (F := Ideal) k (tMa (F := Ideal) (window σ.a5 (oMa u) S1x32x128.size (inMa u)))
      (tMb (F := Ideal) (window σ.a5 (oMb u) S1x32x64.size (inMb u))) (tD cc ee (window σ.a6 (o3 u k) S1x32x128.size (in3 u k))
      (window σ.a4 (o3 u k) S1x32x128.size (in3 u k)) (window σ.a23 (o2 u k) S32x128.size (in2 u k)))) i l = eM σ (32 * u + i) (128 * k + l) := fun i hi l hl => by
    rw [eM_at σ hi hl, tMask_r, hd i hi l hl]; rfl
  refine ⟨_, _, _, rfl, fun i hi l hl => ?_, ?_, ?_, ?_⟩
  · exact congrArg (fun x : EReal => max x (-x)) (hm i hi l hl)
  · refine h10.put3 hu hk _ fun i hi l hl => ?_
    exact (tX_ix _ _ _).trans (hd i hi l hl)
  · refine h24.put2 hu hk _ fun i hi l hl => (t2_r _ i l).trans (hm i hi l hl)
  · exact h26.put hu hk _ hm

/-- What holds after the row tiles before `u`. -/
def Outer2 (σ : St Ideal) (u : ℕ) (σ' : St Ideal) : Prop :=
  ∃ (x10 : Vec Ideal S1x256x1536 .bf16) (x21 : Vec Ideal S256x128 .f32) (x24 : Vec Ideal S256x1536 .f32) (x26 : Vec Ideal S8x1536 .f32),
    σ' = { σ with a10 := x10, a21 := x21, a24 := x24, a26 := x26 }
    ∧ Rows 128 u (eTop σ 12) (r2 x21) ∧ Rows 1536 u (eD σ) (r3 x10) ∧ Rows 1536 u (eM σ) (r2 x24) ∧ AccRows u (eM σ) (r2 σ.a26) (r2 x26)

theorem eTop_succ (j i l : ℕ) : eTop σ (j + 1) i l = max (eTop σ j i l) (max (eM σ i (128 * j + l)) (-(eM σ i (128 * j + l)))) := by
  unfold eTop
  rw [Finset.range_add_one, Finset.sup_insert, max_comm]

theorem eTop_zero (i l : ℕ) : eTop σ 0 i l = ⊥ := rfl

theorem row2_val (hC : ∀ i < 256, ∀ l < 128, r2 σ.a19 i l = r2 σ.a19 i 0) (hE : ∀ i < 256, ∀ l < 128, r2 σ.a20 i l = r2 σ.a20 i 0)
    {u : ℕ} (hu : u < 8) (σ' : St Ideal) (h : Outer2 σ u σ') : Outer2 σ (u + 1) (sRow2 u σ').2 := by
  obtain ⟨x10, x21, x24, x26, rfl, h21, h10, h24, h26⟩ := h
  set τ : St Ideal := { σ with a10 := x10, a21 := x21, a24 := x24, a26 := x26 } with hτ
  have hc : ∀ i < 32, ∀ l < 128, r2 (A := 32) (B := 128) (window τ.a19 (oR u) S32x128.size (inR u)) i l = r2 τ.a19 (32 * u + i) 0 := fun i hi l hl =>
    (rR_tile τ.a19 hu hi hl).trans (hC _ (by omega) l hl)
  have he : ∀ i < 32, ∀ l < 128, r2 (A := 32) (B := 128) (window τ.a20 (oR u) S32x128.size (inR u)) i l = r2 τ.a20 (32 * u + i) 0 := fun i hi l hl =>
    (rR_tile τ.a20 hu hi hl).trans (hE _ (by omega) l hl)
  have key : Inner2 τ u 12 _ _ := itr_ind (Inner2 τ u) (sRound2 u (window τ.a19 (oR u) S32x128.size (inR u)) (window τ.a20 (oR u) S32x128.size (inR u))
      (tMa (F := Ideal) (window τ.a5 (oMa u) S1x32x128.size (inMa u))) (tMb (F := Ideal) (window τ.a5 (oMb u) S1x32x64.size (inMb u)))) 11 1
    (sTile2 u 0 (window τ.a19 (oR u) S32x128.size (inR u)) (window τ.a20 (oR u) S32x128.size (inR u))
      (tMa (F := Ideal) (window τ.a5 (oMa u) S1x32x128.size (inMa u))) (tMb (F := Ideal) (window τ.a5 (oMb u) S1x32x64.size (inMb u))) τ).1
    (sTile2 u 0 (window τ.a19 (oR u) S32x128.size (inR u)) (window τ.a20 (oR u) S32x128.size (inR u))
      (tMa (F := Ideal) (window τ.a5 (oMa u) S1x32x128.size (inMa u))) (tMb (F := Ideal) (window τ.a5 (oMb u) S1x32x64.size (inMb u))) τ).2
    (by
      obtain ⟨y10, y24, y26, e, s, p, q, r⟩ := tile2_step τ hu (by omega : 0 < 12) _ _ hc he τ.a10 τ.a24 τ.a26 (Part.zero u _ _) (Part.zero u _ _) (Acc.zero u _ _)
      refine ⟨y10, y24, y26, e, fun i hi l hl => ?_, p, q, r⟩
      rw [eTop_succ, eTop_zero, max_eq_right bot_le]; exact s i hi l hl)
    (by
      rintro j a _ h1 h2 ⟨y10, y24, y26, rfl, s, p, q, r⟩
      obtain ⟨z10, z24, z26, e, t, p', q', r'⟩ := tile2_step τ hu (by omega : j < 12) _ _ hc he y10 y24 y26 p q r
      refine ⟨z10, z24, z26, e, fun i hi l hl => ?_, p', q', r'⟩
      rw [eTop_succ]; exact congrArg₂ max (s i hi l hl) (t i hi l hl))
  obtain ⟨y10, y24, y26, e, s, p, q, r⟩ := key
  refine ⟨y10, _, y24, y26, (congrArg (sTail2 u _) e).trans rfl, ?_, Part.rows hu h10 p, Part.rows hu h24 q, AccRows.step h26 r⟩
  exact Rows.put hu h21 _ fun i hi l hl => (t2_r _ i l).trans (s i hi l hl)

theorem rows2_val (hC : ∀ i < 256, ∀ l < 128, r2 σ.a19 i l = r2 σ.a19 i 0) (hE : ∀ i < 256, ∀ l < 128, r2 σ.a20 i l = r2 σ.a20 i 0) :
    Outer2 σ 8 (rows2 σ) := by
  refine itr_ind (fun u _ σ' => Outer2 σ u σ') (fun u _ σ => sRow2 u σ) 8 0 PUnit.unit σ ?_ fun j _ σ' _ hj h => row2_val σ hC hE (by omega) σ' h
  exact ⟨σ.a10, σ.a21, σ.a24, σ.a26, rfl, Rows.zero _ _ _, Rows.zero _ _ _, Rows.zero _ _ _, AccRows.zero _ _⟩
end pass2

/-! ## The third pass -/

section pass3
variable (σ : St Ideal)

/-- The code of an element: it times its row's factor, clipped. -/
def eQ (i κ : ℕ) : EReal :=
  min (Ideal.ofBits .f32 0x47600000#32) (max (Ideal.ofBits .f32 0xC7600000#32) ((r2 σ.a24 i κ : EReal) * r2 σ.a22 i 0))

theorem row3_val (hS : ∀ i < 256, ∀ l < 128, r2 σ.a22 i l = r2 σ.a22 i 0) {u : ℕ} (hu : u < 8) (x14 : Vec Ideal S1x256x1536 .fp8e5m2)
    (h14 : Rows 1536 u (eQ σ) (r3 x14)) :
    ∃ y14 : Vec Ideal S1x256x1536 .fp8e5m2, (sRow3 u { σ with a14 := x14 }).2 = { σ with a14 := y14 } ∧ Rows 1536 (u + 1) (eQ σ) (r3 y14) := by
  have key := itr_ind (fun j (_ : PUnit) σ' => ∃ y14 : Vec Ideal S1x256x1536 .fp8e5m2, σ' = { σ with a14 := y14 } ∧ Part u j (eQ σ) (r3 x14) (r3 y14))
    (fun k _ σ' => sTile3 u k (window σ.a22 (oR u) S32x128.size (inR u)) σ') 12 0 PUnit.unit { σ with a14 := x14 }
    ⟨x14, rfl, Part.zero u _ _⟩ (by
      rintro j _ _ - hj ⟨y14, rfl, p⟩
      refine ⟨_, rfl, Part.put3 hu (by omega) p _ fun i hi l hl => ?_⟩
      refine (tQ_ix _ _ _ _).trans ?_
      exact congrArg (fun x : EReal => min (Ideal.ofBits .f32 0x47600000#32) (max (Ideal.ofBits .f32 0xC7600000#32) x))
        (congrArg₂ (· * ·) (r2_tile σ.a24 hu (by omega) hi hl) ((rR_tile σ.a22 hu hi hl).trans (hS _ (by omega) l hl))))
  obtain ⟨y14, e, p⟩ := key
  exact ⟨y14, e, Part.rows hu h14 p⟩

theorem rows3_val (hS : ∀ i < 256, ∀ l < 128, r2 σ.a22 i l = r2 σ.a22 i 0) :
    ∃ y14 : Vec Ideal S1x256x1536 .fp8e5m2, rows3 σ = { σ with a14 := y14 } ∧ Rows 1536 8 (eQ σ) (r3 y14) := by
  refine itr_ind (fun u (_ : PUnit) σ' => ∃ y14 : Vec Ideal S1x256x1536 .fp8e5m2, σ' = { σ with a14 := y14 } ∧ Rows 1536 u (eQ σ) (r3 y14))
    (fun u _ σ => sRow3 u σ) 8 0 PUnit.unit σ ⟨σ.a14, rfl, Rows.zero _ _ _⟩ ?_
  rintro j _ _ - hj ⟨y14, rfl, h⟩
  exact row3_val σ hS (by omega) y14 h
end pass3

end Cert.KernelIdeal.Hand
-- ==== Proof.Block.lean ====
/-
  What one run of the body leaves in the buffers, element by element, over the extended reals.
-/
module

public import proofs.«01_k».proof.Proof.Passes

@[expose] public section

set_option maxRecDepth 16384

noncomputable section

namespace Cert.KernelIdeal.Hand

open Cert.KernelIdeal Cert.KernelIdeal.Gen
open Idealize.ShloMosaic Idealize.ShloMosaic.VecWindow
open Finset (range)

/-! ## The numbers of a block -/

section spec
variable (i : grid0.Coords) (σ : St Ideal)

/-- The rows' scales. -/
def bS (ρ : ℕ) : EReal := r2 (A := 1) (B := 256) (window σ.a3 (k0_off1 i) S1x256.size (k0_off1_inb i)) 0 ρ
/-- The rows' means. -/
def bM (ρ : ℕ) : EReal := r2 (A := 1) (B := 256) (window σ.a7 (k0_off1 i) S1x256.size (k0_off1_inb i)) 0 ρ
/-- The rows' reciprocal deviations. -/
def bR (ρ : ℕ) : EReal := r2 (A := 1) (B := 256) (window σ.a8 (k0_off1 i) S1x256.size (k0_off1_inb i)) 0 ρ
/-- The rows' weights. -/
def bW (ρ : ℕ) : EReal := bS i σ ρ * bR i σ ρ
/-- The sums along the rows of the codes times weights times gamma. -/
def bP (ρ : ℕ) : EReal := ∑ l ∈ range 128, ∑ k ∈ range 12, eV σ (bW i σ) ρ (128 * k + l)
/-- The same times `h`. -/
def bQ (ρ : ℕ) : EReal := ∑ l ∈ range 128, ∑ k ∈ range 12, eVH σ (bW i σ) ρ (128 * k + l)
/-- The rows' factor of `h`. -/
def bCC (ρ : ℕ) : EReal := (bQ i σ ρ - bM i σ ρ * bP i σ ρ) * invD * bR i σ ρ * bR i σ ρ
/-- The rows' constant term. -/
def bEE (ρ : ℕ) : EReal := bM i σ ρ * bCC i σ ρ - bP i σ ρ * invD
/-- The gradient of the layer's input. -/
def bD (ρ κ : ℕ) : EReal := (eV σ (bW i σ) ρ κ - bCC i σ ρ * r3 σ.a6 ρ κ) + (r3 σ.a4 ρ κ + bEE i σ ρ)
open Classical in
/-- It where the mask bit is set, zero elsewhere. -/
def bDM (ρ κ : ℕ) : EReal := if eBit σ ρ κ then bD i σ ρ κ else 0
/-- The largest size of it along a row. -/
def bTop (ρ : ℕ) : EReal := (range 128).sup fun l => (range 12).sup fun k => max (bDM i σ ρ (128 * k + l)) (-(bDM i σ ρ (128 * k + l)))
/-- What the exponent is read from. -/
def bAm (ρ : ℕ) : EReal := bTop i σ ρ * keepS * Ideal.ofBits .f32 0x37924925#32
/-- What the block adds to the contraction of the codes. -/
def bMM (j κ : ℕ) : EReal := ∑ ρ ∈ range 256, lhsRow (bS i σ ρ) (bS i σ ρ * bR i σ ρ * bM i σ ρ) j * r3 σ.a2 ρ κ
end spec

/-! ## Reading whole buffers -/

section whole
variable {A B : ℕ} [NeZero A] [NeZero B] {α : Type}

theorem sum_range_fin (n : ℕ) (f : ℕ → EReal) (g : Fin n → EReal) (h : ∀ l : Fin n, g l = f l.val) : ∑ l : Fin n, g l = ∑ l ∈ range n, f l := by
  rw [Finset.sum_range]; exact Finset.sum_congr rfl fun l _ => h l
end whole

/-- A row of 256 numbers at the rows of a block of 128 lanes. -/
theorem head_w (s r : Vec Ideal S1x256 .f32) {i l : ℕ} (hi : i < 256) (hl : l < 128) : r2 (k0_pay9 s r) i l = (r2 s 0 i : EReal) * r2 r 0 i :=
  pay9_ix s r _ _

theorem mid_cc (μ r : Vec Ideal S1x256 .f32) (p q : Vec Ideal S256x128 .f32) {i : ℕ} (hi : i < 256) (l : ℕ) :
    r2 (k0_pay672 (k0_pay671 μ r p q)) i l
      = ((∑ l ∈ range 128, r2 q i l : EReal) - r2 μ 0 i * ∑ l ∈ range 128, r2 p i l) * invD * r2 r 0 i * r2 r 0 i := by
  refine (pay671_ix μ r p q _ _).trans ((pay670_ix μ r p q _ 0).trans ?_)
  rw [sum_range_fin 128 (fun l => r2 q i l) _ fun l => by rw [show r2 q i l.val = q (ix2 (Fin.ofNat 256 i) l) by unfold r2; rw [ofNat_eq l.isLt]],
    sum_range_fin 128 (fun l => r2 p i l) _ fun l => by rw [show r2 p i l.val = p (ix2 (Fin.ofNat 256 i) l) by unfold r2; rw [ofNat_eq l.isLt]]]
  rfl

theorem mid_ee (μ r : Vec Ideal S1x256 .f32) (p q : Vec Ideal S256x128 .f32) {i : ℕ} (hi : i < 256) (l : ℕ) :
    r2 (k0_pay673 μ (k0_pay669 p) (k0_pay670 μ r p q)) i l
      = (r2 μ 0 i : EReal) * r2 (k0_pay672 (k0_pay671 μ r p q)) i l - (∑ l ∈ range 128, r2 p i l) * invD := by
  refine (pay673_ix μ _ _ _ _).trans ?_
  rw [show r2 (k0_pay672 (k0_pay671 μ r p q)) i l = _ from pay671_ix μ r p q _ _, pay669_ix,
    sum_range_fin 128 (fun l => r2 p i l) _ fun l => by rw [show r2 p i l.val = p (ix2 (Fin.ofNat 256 i) l) by unfold r2; rw [ofNat_eq l.isLt]]]
  rfl

theorem head_mm (s μ r : Vec Ideal S1x256 .f32) (y : Vec Ideal S16x1536 .f32) (z : Vec Ideal S1x256x1536 .fp8e5m2) {j κ : ℕ} (hj : j < 16) :
    r2 (k0_pay11 (k0_pay10 s μ r) y z) j κ
      = (r2 y j κ : EReal) + ∑ ρ ∈ range 256, lhsRow (r2 s 0 ρ) (r2 s 0 ρ * r2 r 0 ρ * r2 μ 0 ρ) j * r3 z ρ κ := by
  refine (pay11_ix _ _ _ y z).trans (congrArg (_ + ·) (sum_range_fin 256 (fun ρ => lhsRow (r2 s 0 ρ) (r2 s 0 ρ * r2 r 0 ρ * r2 μ 0 ρ) j * r3 z ρ κ) _ fun ρ => ?_))
  rw [pay10_ix]
  unfold r2 r3
  rw [ofNat_eq ρ.isLt, show ((Fin.ofNat 16 j).val : ℕ) = j from Nat.mod_eq_of_lt hj]
  rfl

/-- The state after the body but for the last point's reading out. -/
def sMain (i : grid0.Coords) (σ : St Ideal) : St Ideal :=
  rows3 (sScale i (rows2 (sMid (window σ.a7 (k0_off1 i) S1x256.size (k0_off1_inb i)) (window σ.a8 (k0_off1 i) S1x256.size (k0_off1_inb i)) (rows1 (sHead i σ)))))

/-- What a block leaves, `σ'`, from what was there, `σ`. -/
structure Left (i : grid0.Coords) (σ σ' : St Ideal) : Prop where
  e2 : σ'.a2 = σ.a2
  e3 : σ'.a3 = σ.a3
  e4 : σ'.a4 = σ.a4
  e5 : σ'.a5 = σ.a5
  e6 : σ'.a6 = σ.a6
  e7 : σ'.a7 = σ.a7
  e8 : σ'.a8 = σ.a8
  e9 : σ'.a9 = σ.a9
  dx : ∀ ρ < 256, ∀ κ < 1536, r3 σ'.a10 ρ κ = bD i σ ρ κ
  e11 : σ'.a11 = σ.a11
  e12 : σ'.a12 = σ.a12
  e13 : σ'.a13 = σ.a13
  sc : ∃ am : Vec Ideal S256x128 .f32, (∀ ρ < 256, ∀ l < 128, r2 am ρ l = ((range 12).sup fun k => max (bDM i σ ρ (128 * k + l)) (-(bDM i σ ρ (128 * k + l))) : EReal))
    ∧ σ'.a15 = put σ.a15 (k0_off1 i) S1x256.size (pScale am)
    ∧ ∀ ρ < 256, ∀ κ < 1536, r3 σ'.a14 ρ κ = min (Ideal.ofBits .f32 0x47600000#32) (max (Ideal.ofBits .f32 0xC7600000#32) (bDM i σ ρ κ * r2 (pQs am) ρ 0))
  dg : ∀ s < 8, ∀ κ < 1536, r2 σ'.a25 s κ = (r2 σ.a25 s κ : EReal) + ∑ v ∈ range 8, four (eU σ (bW i σ)) v s κ
  db : ∀ s < 8, ∀ κ < 1536, r2 σ'.a26 s κ = (r2 σ.a26 s κ : EReal) + ∑ v ∈ range 8, four (bDM i σ) v s κ
  mm : ∀ j < 16, ∀ κ < 1536, r2 σ'.a27 j κ = (r2 σ.a27 j κ : EReal) + bMM i σ j κ

theorem qs_lane (am : Vec Ideal S256x128 .f32) (ρ l : ℕ) : r2 (pQs am) ρ l = r2 (pQs am) ρ 0 := by
  unfold r2 pQs
  pointwise [k0_pay1508, k0_pay1509]

theorem sMain_left (i : grid0.Coords) (σ : St Ideal) : Left i σ (sMain i σ) := by
  have z2 : ∀ a : Fin 2, (![0, 0] : Fin 2 → ℕ) a = 0 := fun a => by fin_cases a <;> rfl
  have z3 : ∀ a : Fin 3, (![0, 0, 0] : Fin 3 → ℕ) a = 0 := fun a => by fin_cases a <;> rfl
  unfold sMain
  -- the head
  obtain ⟨w, hw, m27, hm, e0⟩ : ∃ w : Vec Ideal S256x128 .f32, (∀ ρ < 256, ∀ l < 128, r2 w ρ l = bW i σ ρ) ∧ ∃ m27 : Vec Ideal S16x1536 .f32,
      (∀ j < 16, ∀ κ < 1536, r2 m27 j κ = (r2 σ.a27 j κ : EReal) + bMM i σ j κ) ∧ sHead i σ = { σ with a16 := w, a27 := m27 } := by
    refine ⟨_, ?_, _, ?_, rfl⟩
    · intro ρ hρ l hl
      rw [put_full (s := S256x128) _ _ z2]
      exact head_w _ _ hρ hl
    · intro j hj κ hκ
      rw [put_full (s := S16x1536) _ _ z2, window_full (s := S16x1536) _ _ _ z2, window_full (s := S1x256x1536) _ _ _ z3]
      exact head_mm _ _ _ _ _ hj
  rw [e0]
  obtain ⟨x17, x18, x23, x25, e1, h17, h18, h23, h25⟩ := rows1_val { σ with a16 := w, a27 := m27 } (bW i σ) hw
  rw [e1]
  have s17 : ∀ ρ < 256, (∑ l ∈ range 128, r2 x17 ρ l : EReal) = bP i σ ρ := fun ρ hρ => Finset.sum_congr rfl fun l hl => h17 ρ hρ l (Finset.mem_range.mp hl)
  have s18 : ∀ ρ < 256, (∑ l ∈ range 128, r2 x18 ρ l : EReal) = bQ i σ ρ := fun ρ hρ => Finset.sum_congr rfl fun l hl => h18 ρ hρ l (Finset.mem_range.mp hl)
  obtain ⟨x19, x20, h19, h20, e2⟩ : ∃ x19 x20 : Vec Ideal S256x128 .f32, (∀ ρ < 256, ∀ l < 128, r2 x19 ρ l = bCC i σ ρ) ∧ (∀ ρ < 256, ∀ l < 128, r2 x20 ρ l = bEE i σ ρ)
      ∧ sMid (window σ.a7 (k0_off1 i) S1x256.size (k0_off1_inb i)) (window σ.a8 (k0_off1 i) S1x256.size (k0_off1_inb i))
          { σ with a16 := w, a17 := x17, a18 := x18, a23 := x23, a25 := x25, a27 := m27 }
        = { σ with a16 := w, a17 := x17, a18 := x18, a19 := x19, a20 := x20, a23 := x23, a25 := x25, a27 := m27 } := by
    have hcc : ∀ ρ < 256, ∀ l, r2 (k0_pay672 (k0_pay671 (window σ.a7 (k0_off1 i) S1x256.size (k0_off1_inb i)) (window σ.a8 (k0_off1 i) S1x256.size (k0_off1_inb i)) x17 x18)) ρ l
        = bCC i σ ρ := fun ρ hρ l => by
      refine (mid_cc _ _ x17 x18 hρ l).trans ?_
      rw [s17 ρ hρ, s18 ρ hρ]; rfl
    refine ⟨_, _, ?_, ?_, rfl⟩
    · intro ρ hρ l hl
      rw [put_full (s := S256x128) _ _ z2, window_full (s := S256x128) _ _ _ z2, window_full (s := S256x128) _ _ _ z2]
      exact hcc ρ hρ l
    · intro ρ hρ l hl
      rw [put_full (s := S256x128) _ _ z2, window_full (s := S256x128) _ _ _ z2, window_full (s := S256x128) _ _ _ z2]
      refine (mid_ee _ _ x17 x18 hρ l).trans ?_
      rw [s17 ρ hρ, hcc ρ hρ]; rfl
  rw [show sMid _ _ { σ with a16 := w, a17 := x17, a18 := x18, a23 := x23, a25 := x25, a27 := m27 } = _ from e2]
  obtain ⟨x10, x21, x24, x26, e3, h21, h10, h24, h26⟩ := rows2_val { σ with a16 := w, a17 := x17, a18 := x18, a19 := x19, a20 := x20, a23 := x23, a25 := x25, a27 := m27 }
    (fun ρ hρ l hl => (h19 ρ hρ l hl).trans (h19 ρ hρ 0 (by omega)).symm) (fun ρ hρ l hl => (h20 ρ hρ l hl).trans (h20 ρ hρ 0 (by omega)).symm)
  rw [e3]
  set τ : St Ideal := { σ with a16 := w, a17 := x17, a18 := x18, a19 := x19, a20 := x20, a23 := x23, a25 := x25, a27 := m27 } with hτ
  have hD : ∀ ρ < 256, ∀ κ < 1536, eD τ ρ κ = bD i σ ρ κ := fun ρ hρ κ hκ => by
    unfold eD bD
    rw [show r2 τ.a23 ρ κ = _ from h23 ρ hρ κ hκ, show r2 τ.a19 ρ 0 = _ from h19 ρ hρ 0 (by omega), show r2 τ.a20 ρ 0 = _ from h20 ρ hρ 0 (by omega)]
    rfl
  have hM : ∀ ρ < 256, ∀ κ < 1536, eM τ ρ κ = bDM i σ ρ κ := fun ρ hρ κ hκ => by
    unfold eM bDM
    rw [hD ρ hρ κ hκ]; rfl
  have h21' : ∀ ρ < 256, ∀ l < 128, r2 x21 ρ l = ((range 12).sup fun k => max (bDM i σ ρ (128 * k + l)) (-(bDM i σ ρ (128 * k + l))) : EReal) := fun ρ hρ l hl => by
    rw [h21 ρ hρ l hl]
    unfold eTop
    exact Finset.sup_congr rfl fun k hk => by
      have := Finset.mem_range.mp hk
      rw [hM ρ hρ _ (by omega)]
  set τ' : St Ideal := { τ with a10 := x10, a21 := x21, a24 := x24, a26 := x26 } with hτ'
  have e4 : sScale i τ' = { τ' with a15 := put σ.a15 (k0_off1 i) S1x256.size (pScale x21), a22 := pQs x21 } := by
    unfold sScale
    simp only [put_full (s := S256x128) _ _ z2, window_full (s := S256x128) _ _ _ z2]
    rfl
  rw [e4]
  obtain ⟨y14, e5, h14⟩ := rows3_val { τ' with a15 := put σ.a15 (k0_off1 i) S1x256.size (pScale x21), a22 := pQs x21 } (fun ρ _ l _ => qs_lane x21 ρ l)
  rw [e5]
  refine ⟨rfl, rfl, rfl, rfl, rfl, rfl, rfl, rfl, fun ρ hρ κ hκ => (h10 ρ hρ κ hκ).trans (hD ρ hρ κ hκ), rfl, rfl, rfl, ⟨x21, h21', rfl, fun ρ hρ κ hκ => ?_⟩, h25, ?_, hm⟩
  · refine (h14 ρ hρ κ hκ).trans ?_
    unfold eQ
    rw [show r2 x24 ρ κ = _ from h24 ρ hρ κ hκ, hM ρ hρ κ hκ]
  · intro s hs κ hκ
    refine (h26 s hs κ hκ).trans (congrArg (_ + ·) (Finset.sum_congr rfl fun v hv => Finset.sum_congr rfl fun q hq => ?_))
    have := Finset.mem_range.mp hv
    have := Finset.mem_range.mp hq
    exact hM _ (by omega) κ hκ

end Cert.KernelIdeal.Hand
-- ==== Proof.Data.lean ====
/-
  The kernel's run over the extended reals: what the body finds and leaves at every point of the grid, what the
  accumulators hold between the points, and that the body keeps to it.
-/
module

public import proofs.«01_k».proof.Proof.Block
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open VecWindow (window put)
open Finset (range)

local notation "𝕄" => MT nD τ sig Unit (Elt Ideal) ℕ (UR sig nD τ) ℕ

variable (m : (ℓ : Loc nD τ sig) → Buf (Elt Ideal) ℓ) (c : Dev nD)

/-! ## The points -/

theorem first_pt (t : Fin cfg0.N) : cond1 (grid0.coords t) ↔ t.val = 0 := by
  revert t; exact (by decide : ∀ t : Fin grid0.N, cond1 (grid0.coords t) ↔ t.val = 0)
theorem last_pt (t : Fin cfg0.N) (h : t.val = 255) : k0_cond2 (grid0.coords t) = 1#1 := by
  revert t; exact (by decide : ∀ t : Fin grid0.N, t.val = 255 → k0_cond2 (grid0.coords t) = 1#1)

/-- The point numbered `n`. -/
def pt (n : ℕ) : Fin cfg0.N := Fin.ofNat 256 n
theorem pt_val (t : Fin cfg0.N) : pt t.val = t := Fin.ext (Nat.mod_eq_of_lt t.isLt)

/-- The buffers at a point with the input blocks in them, the others at anything. -/
def sIn (t : Fin cfg0.N) : St Ideal where
  a2 := iblk m c 0 t
  a3 := iblk m c 1 t
  a4 := iblk m c 2 t
  a5 := iblk m c 3 t
  a6 := iblk m c 4 t
  a7 := iblk m c 5 t
  a8 := iblk m c 6 t
  a9 := iblk m c 7 t
  a10 := fun _ => 0
  a11 := fun _ => 0
  a12 := fun _ => 0
  a13 := fun _ => 0
  a14 := fun _ => 0
  a15 := fun _ => 0
  a16 := fun _ => 0
  a17 := fun _ => 0
  a18 := fun _ => 0
  a19 := fun _ => 0
  a20 := fun _ => 0
  a21 := fun _ => 0
  a22 := fun _ => 0
  a23 := fun _ => 0
  a24 := fun _ => 0
  a25 := fun _ => 0
  a26 := fun _ => 0
  a27 := fun _ => 0

/-! ## The numbers of a point -/

/-- The input's gradient at the point. -/
def gD (t : Fin cfg0.N) (ρ κ : ℕ) : EReal := bD (grid0.coords t) (sIn m c t) ρ κ
/-- The same after the mask. -/
def gDM (t : Fin cfg0.N) (ρ κ : ℕ) : EReal := bDM (grid0.coords t) (sIn m c t) ρ κ
/-- What the point adds to the eight rows of the first accumulator. -/
def gU (t : Fin cfg0.N) (s κ : ℕ) : EReal := ∑ v ∈ range 8, four (eU (sIn m c t) (bW (grid0.coords t) (sIn m c t))) v s κ
/-- What it adds to those of the second. -/
def gB (t : Fin cfg0.N) (s κ : ℕ) : EReal := ∑ v ∈ range 8, four (gDM m c t) v s κ
/-- What it adds to the contraction of the codes. -/
def gMM (t : Fin cfg0.N) (j κ : ℕ) : EReal := bMM (grid0.coords t) (sIn m c t) j κ
/-- The rows' largest sizes, lane by lane. -/
def gAm (t : Fin cfg0.N) : Vec Ideal S256x128 .f32 := fun y =>
  ((range 12).sup fun k => max (gDM m c t (y 0).val (128 * k + (y 1).val)) (-(gDM m c t (y 0).val (128 * k + (y 1).val))) : EReal)

/-- The first accumulator before point `n`. -/
def aU (n s κ : ℕ) : EReal := ∑ t ∈ range n, gU m c (pt t) s κ
def aB (n s κ : ℕ) : EReal := ∑ t ∈ range n, gB m c (pt t) s κ
def aMM (n j κ : ℕ) : EReal := ∑ t ∈ range n, gMM m c (pt t) j κ

/-- The accumulators before point `n`. -/
structure Accs (n : ℕ) (x25 x26 : Vec Ideal S8x1536 .f32) (x27 : Vec Ideal S16x1536 .f32) : Prop where
  u : ∀ s < 8, ∀ κ < 1536, r2 x25 s κ = aU m c n s κ
  b : ∀ s < 8, ∀ κ < 1536, r2 x26 s κ = aB m c n s κ
  mm : ∀ j < 16, ∀ κ < 1536, r2 x27 j κ = aMM m c n j κ

/-- The three sums that the last point reads out. -/
def oDg (κ : ℕ) : EReal := (∑ s ∈ range 8, aU m c 256 s κ) - (aMM m c 256 3 κ + aMM m c 256 4 κ + aMM m c 256 5 κ)
def oDb (κ : ℕ) : EReal := aMM m c 256 0 κ + aMM m c 256 1 κ + aMM m c 256 2 κ
def oDbias (κ : ℕ) : EReal := (∑ s ∈ range 8, aB m c 256 s κ) * keepS

/-! ## What the body leaves -/

/-- What the body leaves in the result windows at a point. -/
def L10 (t : Fin cfg0.N) (X : Vec Ideal S1x256x1536 .bf16) : Prop := ∀ ρ < 256, ∀ κ < 1536, r3 X ρ κ = gD m c t ρ κ
def L11 (t : Fin cfg0.N) (X : Vec Ideal S1x1536 .f32) : Prop := t.val = 255 → ∀ κ < 1536, r2 X 0 κ = oDg m c κ
def L12 (t : Fin cfg0.N) (X : Vec Ideal S1x1536 .f32) : Prop := t.val = 255 → ∀ κ < 1536, r2 X 0 κ = oDb m c κ
def L13 (t : Fin cfg0.N) (X : Vec Ideal S1x1536 .f32) : Prop := t.val = 255 → ∀ κ < 1536, r2 X 0 κ = oDbias m c κ
def L14 (t : Fin cfg0.N) (X : Vec Ideal S1x256x1536 .fp8e5m2) : Prop :=
  ∀ ρ < 256, ∀ κ < 1536, r3 X ρ κ = min (Ideal.ofBits .f32 0x47600000#32) (max (Ideal.ofBits .f32 0xC7600000#32) (gDM m c t ρ κ * r2 (pQs (gAm m c t)) ρ 0))
def L15 (t : Fin cfg0.N) (Y X : Vec Ideal S32x2048 .f32) : Prop := X = put Y (k0_off1 (grid0.coords t)) S1x256.size (pScale (gAm m c t))

/-- The invariant between the points: the scratch buffers, the accumulators among them at their sums once the first
    point has run. -/
def Inv (n : ℕ) : sProp 𝕄 :=
  iprop(∃ (x16 x17 x18 x19 x20 x21 x22 : Vec Ideal S256x128 .f32) (x23 x24 : Vec Ideal S256x1536 .f32) (x25 x26 : Vec Ideal S8x1536 .f32) (x27 : Vec Ideal S16x1536 .f32),
    ⌜n ≠ 0 → Accs m c n x25 x26 x27⌝
    ∗ owns (c : Thread nD τ) (Memref.whole cc0_scratch0) fullShare x16 ∗ owns (c : Thread nD τ) (Memref.whole cc0_scratch1) fullShare x17
    ∗ owns (c : Thread nD τ) (Memref.whole cc0_scratch2) fullShare x18 ∗ owns (c : Thread nD τ) (Memref.whole cc0_scratch3) fullShare x19
    ∗ owns (c : Thread nD τ) (Memref.whole cc0_scratch4) fullShare x20 ∗ owns (c : Thread nD τ) (Memref.whole cc0_scratch5) fullShare x21
    ∗ owns (c : Thread nD τ) (Memref.whole cc0_scratch6) fullShare x22 ∗ owns (c : Thread nD τ) (Memref.whole cc0_scratch7) fullShare x23
    ∗ owns (c : Thread nD τ) (Memref.whole cc0_scratch8) fullShare x24 ∗ owns (c : Thread nD τ) (Memref.whole cc0_scratch9) fullShare x25
    ∗ owns (c : Thread nD τ) (Memref.whole cc0_scratch10) fullShare x26 ∗ owns (c : Thread nD τ) (Memref.whole cc0_scratch11) fullShare x27
    ∗ ∃ r, prngReg (c : Dev nD) r)

/-- The proof's data. -/
def rdat : RDat τ (Elt Ideal) Unit ℕ (UR sig nD τ) ℕ cfg0 c where
  A w := V m c (Pipeline.arrRef spec0 w)
  after w t := match w with
    | 0 => fun Y X => X = Y
    | 1 => fun Y X => X = Y
    | 2 => fun Y X => X = Y
    | 3 => fun Y X => X = Y
    | 4 => fun Y X => X = Y
    | 5 => fun Y X => X = Y
    | 6 => fun Y X => X = Y
    | 7 => fun Y X => X = Y
    | 8 => fun Y X => L10 m c t X
    | 9 => fun Y X => L11 m c t X
    | 10 => fun Y X => L12 m c t X
    | 11 => fun Y X => L13 m c t X
    | 12 => fun Y X => L14 m c t X
    | 13 => fun Y X => L15 m c t Y X
  Φ t := Inv m c t.val
  q _ := fullShare
  owed _ := 0

end Cert.KernelIdeal.Hand

end
-- ==== Proof.Step.lean ====
/-
  The kernel's run over the extended reals: what the body finds and leaves at every point of the grid, what the
  accumulators hold between the points, and that the body keeps to it.
-/
module

public import proofs.«01_k».proof.Proof.Data

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open VecWindow (window put)
open Finset (range)

local notation "𝕄" => MT nD τ sig Unit (Elt Ideal) ℕ (UR sig nD τ) ℕ

variable (m : (ℓ : Loc nD τ sig) → Buf (Elt Ideal) ℓ) (c : Dev nD)

/-! ## The step -/

/-- Two states with the same inputs. -/
structure Same (σ σ' : St Ideal) : Prop where
  e2 : σ.a2 = σ'.a2
  e3 : σ.a3 = σ'.a3
  e4 : σ.a4 = σ'.a4
  e5 : σ.a5 = σ'.a5
  e6 : σ.a6 = σ'.a6
  e7 : σ.a7 = σ'.a7
  e8 : σ.a8 = σ'.a8
  e9 : σ.a9 = σ'.a9

section same
variable {σ σ' : St Ideal} (h : Same σ σ') (i : grid0.Coords)
include h
theorem Same.bS : bS i σ = bS i σ' := by unfold Hand.bS; rw [h.e3]
theorem Same.bM : bM i σ = bM i σ' := by unfold Hand.bM; rw [h.e7]
theorem Same.bR : bR i σ = bR i σ' := by unfold Hand.bR; rw [h.e8]
theorem Same.bW : bW i σ = bW i σ' := by unfold Hand.bW; rw [h.bS, h.bR]
theorem Same.eU (W : ℕ → EReal) : eU σ W = eU σ' W := by unfold Hand.eU; rw [h.e2, h.e6]
theorem Same.eV (W : ℕ → EReal) : eV σ W = eV σ' W := by unfold Hand.eV; rw [h.e2, h.e9]
theorem Same.eVH (W : ℕ → EReal) : eVH σ W = eVH σ' W := by unfold Hand.eVH; rw [h.eV, h.e6]
theorem Same.bP : bP i σ = bP i σ' := by unfold Hand.bP; rw [h.bW, h.eV]
theorem Same.bQ : bQ i σ = bQ i σ' := by unfold Hand.bQ; rw [h.bW, h.eVH]
theorem Same.bCC : bCC i σ = bCC i σ' := by unfold Hand.bCC; rw [h.bQ, h.bM, h.bP, h.bR]
theorem Same.bEE : bEE i σ = bEE i σ' := by unfold Hand.bEE; rw [h.bCC, h.bM, h.bP]
theorem Same.bD : bD i σ = bD i σ' := by unfold Hand.bD; rw [h.bCC, h.bEE, h.bW, h.eV, h.e4, h.e6]
theorem Same.eBit : eBit σ = eBit σ' := by unfold Hand.eBit rowBit; rw [h.e5]
open Classical in
theorem Same.bDM : bDM i σ = bDM i σ' := by unfold Hand.bDM; rw [h.eBit, h.bD]
theorem Same.bMM : bMM i σ = bMM i σ' := by unfold Hand.bMM; rw [h.bS, h.bR, h.bM, h.e2]
end same

theorem sum8 (f : ℕ → EReal) : ∑ s : Fin 8, f s.val = ∑ s ∈ range 8, f s := (Finset.sum_range f).symm

theorem amEq (t : Fin cfg0.N) (am : Vec Ideal S256x128 .f32)
    (h : ∀ ρ < 256, ∀ l < 128, r2 am ρ l = ((range 12).sup fun k => max (gDM m c t ρ (128 * k + l)) (-(gDM m c t ρ (128 * k + l))) : EReal)) : am = gAm m c t :=
  ext2 fun ρ hρ l hl => by
    rw [h ρ hρ l hl]; unfold r2 gAm
    rw [show ((ix2 (Fin.ofNat 256 ρ) (Fin.ofNat 128 l) : S256x128.Idx) 0).val = ρ from Nat.mod_eq_of_lt hρ,
      show ((ix2 (Fin.ofNat 256 ρ) (Fin.ofNat 128 l) : S256x128.Idx) 1).val = l from Nat.mod_eq_of_lt hl]

/-- What the body leaves from a state that has the point's input blocks in it and the accumulators at their sums. -/
structure Post (t : Fin cfg0.N) (σ σ' : St Ideal) : Prop where
  e2 : σ'.a2 = iblk m c 0 t
  e3 : σ'.a3 = iblk m c 1 t
  e4 : σ'.a4 = iblk m c 2 t
  e5 : σ'.a5 = iblk m c 3 t
  e6 : σ'.a6 = iblk m c 4 t
  e7 : σ'.a7 = iblk m c 5 t
  e8 : σ'.a8 = iblk m c 6 t
  e9 : σ'.a9 = iblk m c 7 t
  l10 : L10 m c t σ'.a10
  l11 : L11 m c t σ'.a11
  l12 : L12 m c t σ'.a12
  l13 : L13 m c t σ'.a13
  l14 : L14 m c t σ'.a14
  l15 : L15 m c t σ.a15 σ'.a15
  acc : Accs m c (t.val + 1) σ'.a25 σ'.a26 σ'.a27

/-- The buffers at a point, the input blocks in the input windows. -/
def mix (t : Fin cfg0.N) (σ : St Ideal) : St Ideal :=
  { σ with a2 := iblk m c 0 t, a3 := iblk m c 1 t, a4 := iblk m c 2 t, a5 := iblk m c 3 t, a6 := iblk m c 4 t, a7 := iblk m c 5 t, a8 := iblk m c 6 t, a9 := iblk m c 7 t }

theorem a_succ (t : Fin cfg0.N) (f : Fin cfg0.N → EReal) : ∑ n ∈ range (t.val + 1), f (pt n) = ∑ n ∈ range t.val, f (pt n) + f t := by
  rw [Finset.sum_range_succ, pt_val]

theorem mix_same (t : Fin cfg0.N) (σ : St Ideal) : Same (mix m c t σ) (sIn m c t) := ⟨rfl, rfl, rfl, rfl, rfl, rfl, rfl, rfl⟩

/-- What the block leaves, in the numbers of the point. -/
structure LeftAt (t : Fin cfg0.N) (σ σ' : St Ideal) : Prop where
  dx : L10 m c t σ'.a10
  l14 : L14 m c t σ'.a14
  l15 : L15 m c t σ.a15 σ'.a15
  dg : ∀ s < 8, ∀ κ < 1536, r2 σ'.a25 s κ = (r2 σ.a25 s κ : EReal) + gU m c t s κ
  db : ∀ s < 8, ∀ κ < 1536, r2 σ'.a26 s κ = (r2 σ.a26 s κ : EReal) + gB m c t s κ
  mm : ∀ j < 16, ∀ κ < 1536, r2 σ'.a27 j κ = (r2 σ.a27 j κ : EReal) + gMM m c t j κ

theorem left_at (t : Fin cfg0.N) (σ σ' : St Ideal) (hL : Left (grid0.coords t) (mix m c t σ) σ') : LeftAt m c t σ σ' := by
  have hs := mix_same m c t σ
  obtain ⟨am, h1, h2, h3⟩ := hL.sc
  rw [hs.bDM] at h1 h3
  have ha : am = gAm m c t := amEq m c t am h1
  subst ha
  have hdx := hL.dx
  have hdg := hL.dg
  have hdb := hL.db
  have hmm := hL.mm
  rw [hs.bD] at hdx
  rw [hs.bW, hs.eU] at hdg
  rw [hs.bDM] at hdb
  rw [hs.bMM] at hmm
  exact ⟨hdx, h3, h2, hdg, hdb, hmm⟩

theorem step_accs (t : Fin cfg0.N) (σ : St Ideal) (h : Accs m c t.val σ.a25 σ.a26 σ.a27) (σ' : St Ideal)
    (hL : LeftAt m c t σ σ') : Accs m c (t.val + 1) σ'.a25 σ'.a26 σ'.a27 where
  u s hs κ hκ := (hL.dg s hs κ hκ).trans (by
    rw [h.u s hs κ hκ]; unfold aU; rw [a_succ t fun t => gU m c t s κ])
  b s hs κ hκ := (hL.db s hs κ hκ).trans (by
    rw [h.b s hs κ hκ]; unfold aB; rw [a_succ t fun t => gB m c t s κ])
  mm s hs κ hκ := (hL.mm s hs κ hκ).trans (by
    rw [h.mm s hs κ hκ]; unfold aMM; rw [a_succ t fun t => gMM m c t s κ])

theorem z2 : ∀ a : Fin 2, (![0, 0] : Fin 2 → ℕ) a = 0 := fun a => by fin_cases a <;> rfl

theorem fin_at (t : Fin cfg0.N) (σ' : St Ideal) (hA : Accs m c (t.val + 1) σ'.a25 σ'.a26 σ'.a27)  :
    ∃ y11 y12 y13 : Vec Ideal S1x1536 .f32, sFin (grid0.coords t) σ' = { σ' with a11 := y11, a12 := y12, a13 := y13 }
      ∧ L11 m c t y11 ∧ L12 m c t y12 ∧ L13 m c t y13 := by
  by_cases hc : k0_cond2 (grid0.coords t) = 1#1
  · refine ⟨_, _, _, if_pos hc, ?_, ?_, ?_⟩
    · intro ht κ hκ
      rw [put_full (s := S1x1536) _ _ z2, window_full (s := S16x1536) _ _ _ z2, window_full (s := S8x1536) _ _ _ z2]
      refine (pay3_ix _ _ _ _).trans ?_
      have e : t.val + 1 = 256 := by omega
      rw [e] at hA
      unfold oDg
      rw [← hA.mm 3 (by omega) κ hκ, ← hA.mm 4 (by omega) κ hκ, ← hA.mm 5 (by omega) κ hκ,
        ← Finset.sum_congr rfl fun s hs => hA.u s (Finset.mem_range.mp hs) κ hκ, Finset.sum_range]
      refine congrArg (· - _) (Finset.sum_congr rfl fun s _ => ?_)
      unfold r2; rw [ofNat_eq s.isLt]
    · intro ht κ hκ
      rw [put_full (s := S1x1536) _ _ z2, window_full (s := S16x1536) _ _ _ z2]
      refine (pay2_ix _ _ _).trans ?_
      have e : t.val + 1 = 256 := by omega
      rw [e] at hA
      unfold oDb
      rw [← hA.mm 0 (by omega) κ hκ, ← hA.mm 1 (by omega) κ hκ, ← hA.mm 2 (by omega) κ hκ]
      rfl
    · intro ht κ hκ
      rw [put_full (s := S1x1536) _ _ z2, window_full (s := S8x1536) _ _ _ z2]
      refine (pay4_ix _ _ _).trans ?_
      have e : t.val + 1 = 256 := by omega
      rw [e] at hA
      unfold oDbias
      rw [← Finset.sum_congr rfl fun s hs => hA.b s (Finset.mem_range.mp hs) κ hκ, Finset.sum_range]
      refine congrArg (· * _) (Finset.sum_congr rfl fun s _ => ?_)
      unfold r2; rw [ofNat_eq s.isLt]
  · refine ⟨σ'.a11, σ'.a12, σ'.a13, if_neg hc, fun ht => absurd (last_pt t ht) hc, fun ht => absurd (last_pt t ht) hc, fun ht => absurd (last_pt t ht) hc⟩

theorem post_of (t : Fin cfg0.N) (σ σ' σ'' : St Ideal) (hL : Left (grid0.coords t) (mix m c t σ) σ') (hp : LeftAt m c t σ σ') (hA : Accs m c (t.val + 1) σ'.a25 σ'.a26 σ'.a27)
    (y11 y12 y13 : Vec Ideal S1x1536 .f32) (e : σ'' = { σ' with a11 := y11, a12 := y12, a13 := y13 })
    (l11 : L11 m c t y11) (l12 : L12 m c t y12) (l13 : L13 m c t y13) : Post m c t σ σ'' := by
  subst e
  exact ⟨hL.e2, hL.e3, hL.e4, hL.e5, hL.e6, hL.e7, hL.e8, hL.e9, hp.dx, l11, l12, l13, hp.l14, hp.l15, hA⟩

theorem body_post (t : Fin cfg0.N) (σ : St Ideal) (h : Accs m c t.val σ.a25 σ.a26 σ.a27) :
    Post m c t σ (sFin (grid0.coords t) (sMain (grid0.coords t) (mix m c t σ))) := by
  have hL := sMain_left (grid0.coords t) (mix m c t σ)
  have hp := left_at m c t σ _ hL
  have hA := step_accs m c t σ h _ hp
  obtain ⟨y11, y12, y13, e, l11, l12, l13⟩ := fin_at m c t _ hA
  exact post_of m c t σ _ _ hL hp hA y11 y12 y13 e l11 l12 l13

theorem clear_accs (σ : St Ideal) : Accs m c 0 (sClear σ).a25 (sClear σ).a26 (sClear σ).a27 := by
  have z2 : ∀ a : Fin 2, (![0, 0] : Fin 2 → ℕ) a = 0 := fun a => by fin_cases a <;> rfl
  refine ⟨fun s _ κ _ => ?_, fun s _ κ _ => ?_, fun s _ κ _ => ?_⟩
  · refine (congrArg (fun x => r2 x s κ) (put_full (s := S8x1536) σ.a25 _ z2 _)).trans ((pay5_ix _ _).trans ?_)
    unfold aU; rw [Finset.range_zero, Finset.sum_empty]
  · refine (congrArg (fun x => r2 x s κ) (put_full (s := S8x1536) σ.a26 _ z2 _)).trans ((pay6_ix _ _).trans ?_)
    unfold aB; rw [Finset.range_zero, Finset.sum_empty]
  · refine (congrArg (fun x => r2 x s κ) (put_full (s := S16x1536) σ.a27 _ z2 _)).trans ((pay7_ix _ _).trans ?_)
    unfold aMM; rw [Finset.range_zero, Finset.sum_empty]

end Cert.KernelIdeal.Hand

end
-- ==== Proof.Body.lean ====
/-
  The body keeps to the proof's data at every point, and so the kernel runs to its end: what the arrays then hold.
-/
module

public import proofs.«01_k».proof.Proof.Step
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open VecWindow (window put)

local notation "𝕄" => MT nD τ sig Unit (Elt Ideal) ℕ (UR sig nD τ) ℕ

variable (m : (ℓ : Loc nD τ sig) → Buf (Elt Ideal) ℓ) (ρ : Dev nD → PrngReg) (c : Dev nD)

/-- The body's references at a point. -/
def refs (t : Fin cfg0.N) : Refs where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := win0_10.stage (cfg0.slots t 10)
  h12 := hstage0_10 ((cfg0.slots t 10).cast nbuf0_10)
  a13 := win0_11.stage (cfg0.slots t 11)
  h13 := hstage0_11 ((cfg0.slots t 11).cast nbuf0_11)
  a14 := win0_12.stage (cfg0.slots t 12)
  h14 := hstage0_12 ((cfg0.slots t 12).cast nbuf0_12)
  a15 := win0_13.stage (cfg0.slots t 13)
  h15 := hstage0_13 ((cfg0.slots t 13).cast nbuf0_13)
  a16 := Memref.whole cc0_scratch0
  h16 := Memref.isWhole_whole _
  a17 := Memref.whole cc0_scratch1
  h17 := Memref.isWhole_whole _
  a18 := Memref.whole cc0_scratch2
  h18 := Memref.isWhole_whole _
  a19 := Memref.whole cc0_scratch3
  h19 := Memref.isWhole_whole _
  a20 := Memref.whole cc0_scratch4
  h20 := Memref.isWhole_whole _
  a21 := Memref.whole cc0_scratch5
  h21 := Memref.isWhole_whole _
  a22 := Memref.whole cc0_scratch6
  h22 := Memref.isWhole_whole _
  a23 := Memref.whole cc0_scratch7
  h23 := Memref.isWhole_whole _
  a24 := Memref.whole cc0_scratch8
  h24 := Memref.isWhole_whole _
  a25 := Memref.whole cc0_scratch9
  h25 := Memref.isWhole_whole _
  a26 := Memref.whole cc0_scratch10
  h26 := Memref.isWhole_whole _
  a27 := Memref.whole cc0_scratch11
  h27 := Memref.isWhole_whole _

theorem sBody_eq (i : grid0.Coords) (σ : St Ideal) : sBody i σ = sFin i (sMain i σ) := rfl
theorem sClear_mix (t : Fin cfg0.N) (σ : St Ideal) : sClear (mix m c t σ) = mix m c t (sClear σ) := rfl
theorem sClear_a15 (σ : St Ideal) : (sClear σ).a15 = σ.a15 := rfl
theorem Post.clear {t : Fin cfg0.N} {σ σ' : St Ideal} (hp : Post m c t (sClear σ) σ') : Post m c t σ σ' :=
  ⟨hp.e2, hp.e3, hp.e4, hp.e5, hp.e6, hp.e7, hp.e8, hp.e9, hp.l10, hp.l11, hp.l12, hp.l13, hp.l14, (sClear_a15 σ) ▸ hp.l15, hp.acc⟩

theorem bodyAt_refs (t : Fin cfg0.N) : bodyAt0 (F := Ideal) t
    = cc0_ln_dropout_bwd (F := Ideal) (grid0.coords t) (refs t).a2 (refs t).h2 (refs t).a3 (refs t).h3 (refs t).a4 (refs t).h4 (refs t).a5 (refs t).h5 (refs t).a6 (refs t).h6 (refs t).a7 (refs t).h7 (refs t).a8 (refs t).h8 (refs t).a9 (refs t).h9 (refs t).a10 (refs t).h10 (refs t).a11 (refs t).h11 (refs t).a12 (refs t).h12 (refs t).a13 (refs t).h13 (refs t).a14 (refs t).h14 (refs t).a15 (refs t).h15 (refs t).a16 (refs t).h16 (refs t).a17 (refs t).h17 (refs t).a18 (refs t).h18 (refs t).a19 (refs t).h19 (refs t).a20 (refs t).h20 (refs t).a21 (refs t).h21 (refs t).a22 (refs t).h22 (refs t).a23 (refs t).h23 (refs t).a24 (refs t).h24 (refs t).a25 (refs t).h25 (refs t).a26 (refs t).h26 (refs t).a27 (refs t).h27 := rfl

/-- The body at a point, from the point's input blocks, runs to a state as the proof's data say. -/
theorem point_ok (t : Fin cfg0.N) (σ : St Ideal) (h : t.val ≠ 0 → Accs m c t.val σ.a25 σ.a26 σ.a27) (R : sProp 𝕄) (Q : PUnit → sProp 𝕄)
    (hQ : ∀ σ', Post m c t σ σ' → own c R (refs t) σ' ⊢ Q ⟨⟩) :
    own c R (refs t) (mix m c t σ) ⊢ runs c (bodyAt0 t) Q := by
  by_cases ht : t.val = 0
  · have hp := (body_post m c t (sClear σ) (by rw [ht]; exact clear_accs m c σ)).clear
    rw [← sClear_mix, ← sBody_eq] at hp
    rw [bodyAt_refs, body_eq_first (refs t) (grid0.coords t) ((first_pt t).mpr ht)]
    exact body0_ok c (refs t) (grid0.coords t) R _ Q (hQ _ hp)
  · have hp := body_post m c t σ (h ht)
    rw [← sBody_eq] at hp
    rw [bodyAt_refs, body_eq_next (refs t) (grid0.coords t) (mt (first_pt t).mp ht)]
    exact body1_ok c (refs t) (grid0.coords t) R _ Q (hQ _ hp)

/-! ## The inputs' blocks -/

theorem find_in (w : Fin cfg0.W) (hw : (cfg0.win w).isOut = false)
    (hclip : ∀ t t' : Fin cfg0.N, (cfg0.win w).index t = (cfg0.win w).index t' → (cfg0.win w).clip (cfg0.grid.coords t) = (cfg0.win w).clip (cfg0.grid.coords t'))
    (hkeep : ∀ t Y X, (rdat m c).after w t Y X → X = Y) (t : Fin cfg0.N) (Y) (h : (rdat m c).Finds w t Y) : ∃ d, Y = (rdat m c).fetched w t d :=
  (rdat m c).finds_in_eq_fetched w hw hclip hkeep t Y h

theorem find0 (t : Fin cfg0.N) (Y) (h : (rdat m c).Finds 0 t Y) : Y = iblk m c 0 t := by
  obtain ⟨d, e⟩ := find_in m c 0 rfl (fun _ _ _ => rfl) (fun _ _ _ h => h) t Y h; exact e
theorem find1 (t : Fin cfg0.N) (Y) (h : (rdat m c).Finds 1 t Y) : Y = iblk m c 1 t := by
  obtain ⟨d, e⟩ := find_in m c 1 rfl (fun _ _ _ => rfl) (fun _ _ _ h => h) t Y h; exact e
theorem find2 (t : Fin cfg0.N) (Y) (h : (rdat m c).Finds 2 t Y) : Y = iblk m c 2 t := by
  obtain ⟨d, e⟩ := find_in m c 2 rfl (fun _ _ _ => rfl) (fun _ _ _ h => h) t Y h; exact e
theorem find3 (t : Fin cfg0.N) (Y) (h : (rdat m c).Finds 3 t Y) : Y = iblk m c 3 t := by
  obtain ⟨d, e⟩ := find_in m c 3 rfl (fun _ _ _ => rfl) (fun _ _ _ h => h) t Y h; exact e
theorem find4 (t : Fin cfg0.N) (Y) (h : (rdat m c).Finds 4 t Y) : Y = iblk m c 4 t := by
  obtain ⟨d, e⟩ := find_in m c 4 rfl (fun _ _ _ => rfl) (fun _ _ _ h => h) t Y h; exact e
theorem find5 (t : Fin cfg0.N) (Y) (h : (rdat m c).Finds 5 t Y) : Y = iblk m c 5 t := by
  obtain ⟨d, e⟩ := find_in m c 5 rfl (fun _ _ _ => rfl) (fun _ _ _ h => h) t Y h; exact e
theorem find6 (t : Fin cfg0.N) (Y) (h : (rdat m c).Finds 6 t Y) : Y = iblk m c 6 t := by
  obtain ⟨d, e⟩ := find_in m c 6 rfl (fun _ _ _ => rfl) (fun _ _ _ h => h) t Y h; exact e
theorem find7 (t : Fin cfg0.N) (Y) (h : (rdat m c).Finds 7 t Y) : Y = iblk m c 7 t := by
  obtain ⟨d, e⟩ := find_in m c 7 rfl (fun _ _ _ => rfl) (fun _ _ _ h => h) t Y h; exact e

end Cert.KernelIdeal.Hand

end
-- ==== Proof.Launch.lean ====
/-
  The body obligation of the proof's data, the launch, and the frame of the kernel over the extended reals.
-/
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open VecWindow (window put)

local notation "𝕄" => MT nD τ sig Unit (Elt Ideal) ℕ (UR sig nD τ) ℕ

variable (m : (ℓ : Loc nD τ sig) → Buf (Elt Ideal) ℓ) (ρ : Dev nD → PrngReg) (c : Dev nD)

theorem defs₀_row (t : Fin cfg0.N) : defs₀ (F := Ideal) .tc cfg0.body (cfg0.bodyArgs t (cfg0.slots t)) = bodyAt0 t := by
  unfold defs₀; rw [Defs.onTc_tc]

/-- The state that is handed to the body: the windows at `Y`, the scratch buffers at the given contents. -/
def stOf (Y : (w : Fin cfg0.W) → (cfg0.win w).block.Idx → Elt Ideal (cfg0.win w).elt)
    (x16 x17 x18 x19 x20 x21 x22 : Vec Ideal S256x128 .f32) (x23 x24 : Vec Ideal S256x1536 .f32) (x25 x26 : Vec Ideal S8x1536 .f32) (x27 : Vec Ideal S16x1536 .f32) : St Ideal where
  a2 := Y 0
  a3 := Y 1
  a4 := Y 2
  a5 := Y 3
  a6 := Y 4
  a7 := Y 5
  a8 := Y 6
  a9 := Y 7
  a10 := Y 8
  a11 := Y 9
  a12 := Y 10
  a13 := Y 11
  a14 := Y 12
  a15 := Y 13
  a16 := x16
  a17 := x17
  a18 := x18
  a19 := x19
  a20 := x20
  a21 := x21
  a22 := x22
  a23 := x23
  a24 := x24
  a25 := x25
  a26 := x26
  a27 := x27

theorem stOf_mix (t : Fin cfg0.N) (Y) (hY : ∀ w, (rdat m c).Finds w t (Y w)) (x16 x17 x18 x19 x20 x21 x22 x23 x24 x25 x26 x27) :
    stOf Y x16 x17 x18 x19 x20 x21 x22 x23 x24 x25 x26 x27 = mix m c t (stOf Y x16 x17 x18 x19 x20 x21 x22 x23 x24 x25 x26 x27) := by
  unfold stOf mix
  rw [find0 m c t _ (hY 0), find1 m c t _ (hY 1), find2 m c t _ (hY 2), find3 m c t _ (hY 3), find4 m c t _ (hY 4), find5 m c t _ (hY 5), find6 m c t _ (hY 6), find7 m c t _ (hY 7)]

/-- What is left beside the buffers. -/
def left (t : Fin (cfg0.N + 1)) : sProp 𝕄 := iprop((∃ r, prngReg (c : Dev nD) r) ∗ (rdat m c).owesAt () t)

theorem owes_step (t : Fin cfg0.N) : (rdat m c).owesAt () t.castSucc = (rdat m c).owesAt () t.succ := rfl

/-- The body obligation. -/
theorem obligation : (rdat m c).BodyObligation (defs₀ (F := Ideal)) Variants.none () Set.univ := fun t Y hY => by
  rw [bigSep_W0, bigSep_W0, defs₀_row]
  rw [show (rdat m c).Φ t.castSucc = Inv m c t.val from rfl, show (rdat m c).Φ t.succ = Inv m c (t.val + 1) from rfl, owes_step]
  generalize (rdat m c).owesAt () t.succ = O
  unfold Inv
  iintro ⟨⟨%x16, %x17, %x18, %x19, %x20, %x21, %x22, %x23, %x24, %x25, %x26, %x27, %hx, H16, H17, H18, H19, H20, H21, H22, H23, H24, H25, H26, H27, Hg⟩, HO, H2, H3, H4, H5, H6, H7, H8, H9, H10, H11, H12, H13, H14, H15⟩
  have key := point_ok m c t (stOf Y x16 x17 x18 x19 x20 x21 x22 x23 x24 x25 x26 x27) hx iprop((∃ r, prngReg (c : Dev nD) r) ∗ O)
  rw [← stOf_mix m c t Y hY] at key
  iapply (key _ ?_)
  swap
  · simp only [own, cells, ownL]
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [Hg]; · iexact Hg
    iexact HO
  intro σ' hP
  simp only [own, cells, ownL]
  iintro ⟨H2, H3, H4, H5, H6, H7, H8, H9, H10, H11, H12, H13, H14, H15, H16, H17, H18, H19, H20, H21, H22, H23, H24, H25, H26, H27, Hg, HO⟩
  isplitr [HO H2 H3 H4 H5 H6 H7 H8 H9 H10 H11 H12 H13 H14 H15]
  · iexists σ'.a16, σ'.a17, σ'.a18, σ'.a19, σ'.a20, σ'.a21, σ'.a22, σ'.a23, σ'.a24, σ'.a25, σ'.a26, σ'.a27
    isplitr; · ipureintro; exact fun _ => hP.acc
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact Hg
  isplitl [HO]; · iexact HO
  isplitl [H2]
  · iexists σ'.a2; isplitr; · ipureintro; exact hP.e2.trans (find0 m c t _ (hY 0)).symm
    iexact H2
  isplitl [H3]
  · iexists σ'.a3; isplitr; · ipureintro; exact hP.e3.trans (find1 m c t _ (hY 1)).symm
    iexact H3
  isplitl [H4]
  · iexists σ'.a4; isplitr; · ipureintro; exact hP.e4.trans (find2 m c t _ (hY 2)).symm
    iexact H4
  isplitl [H5]
  · iexists σ'.a5; isplitr; · ipureintro; exact hP.e5.trans (find3 m c t _ (hY 3)).symm
    iexact H5
  isplitl [H6]
  · iexists σ'.a6; isplitr; · ipureintro; exact hP.e6.trans (find4 m c t _ (hY 4)).symm
    iexact H6
  isplitl [H7]
  · iexists σ'.a7; isplitr; · ipureintro; exact hP.e7.trans (find5 m c t _ (hY 5)).symm
    iexact H7
  isplitl [H8]
  · iexists σ'.a8; isplitr; · ipureintro; exact hP.e8.trans (find6 m c t _ (hY 6)).symm
    iexact H8
  isplitl [H9]
  · iexists σ'.a9; isplitr; · ipureintro; exact hP.e9.trans (find7 m c t _ (hY 7)).symm
    iexact H9
  isplitl [H10]
  · iexists σ'.a10; isplitr; · ipureintro; exact hP.l10
    iexact H10
  isplitl [H11]
  · iexists σ'.a11; isplitr; · ipureintro; exact hP.l11
    iexact H11
  isplitl [H12]
  · iexists σ'.a12; isplitr; · ipureintro; exact hP.l12
    iexact H12
  isplitl [H13]
  · iexists σ'.a13; isplitr; · ipureintro; exact hP.l13
    iexact H13
  isplitl [H14]
  · iexists σ'.a14; isplitr; · ipureintro; exact hP.l14
    iexact H14
  · iexists σ'.a15; isplitr; · ipureintro; exact hP.l15
    iexact H15

/-! ## The launch -/

theorem inv_in : Pipeline.ΦA (U := UR sig nD τ) (Val := Elt Ideal) spec0 c ⊢ (Inv m c 0 : sProp 𝕄) := by
  unfold Pipeline.ΦA Inv
  rw [scopedRest0_eq]
  simp only [owns_whole]
  iintro ⟨⟨⟨%x16, H16⟩, ⟨%x17, H17⟩, ⟨%x18, H18⟩, ⟨%x19, H19⟩, ⟨%x20, H20⟩, ⟨%x21, H21⟩, ⟨%x22, H22⟩, ⟨%x23, H23⟩, ⟨%x24, H24⟩, ⟨%x25, H25⟩, ⟨%x26, H26⟩, ⟨%x27, H27⟩⟩, Hg⟩
  iexists x16, x17, x18, x19, x20, x21, x22, x23, x24, x25, x26, x27
  isplitr; · ipureintro; exact fun h => absurd rfl h
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact Hg

theorem inv_out (n : ℕ) : (Inv m c n : sProp 𝕄) ⊢ Pipeline.ΦA (U := UR sig nD τ) (Val := Elt Ideal) spec0 c := by
  unfold Pipeline.ΦA Inv
  rw [scopedRest0_eq]
  simp only [owns_whole]
  iintro ⟨%x16, %x17, %x18, %x19, %x20, %x21, %x22, %x23, %x24, %x25, %x26, %x27, -, H16, H17, H18, H19, H20, H21, H22, H23, H24, H25, H26, H27, Hg⟩
  isplitr [Hg]
  · isplitl [H16]; · iexists x16; iexact H16
    isplitl [H17]; · iexists x17; iexact H17
    isplitl [H18]; · iexists x18; iexact H18
    isplitl [H19]; · iexists x19; iexact H19
    isplitl [H20]; · iexists x20; iexact H20
    isplitl [H21]; · iexists x21; iexact H21
    isplitl [H22]; · iexists x22; iexact H22
    isplitl [H23]; · iexists x23; iexact H23
    isplitl [H24]; · iexists x24; iexact H24
    isplitl [H25]; · iexists x25; iexact H25
    isplitl [H26]; · iexists x26; iexact H26
    iexists x27; iexact H27
  iexact Hg

-- the launch theorem's implicit arguments are found by unifying its conclusion with this statement
set_option backward.isDefEq.respectTransparency.types false in
/-- Every run of the kernel over the extended reals ends, with the arrays as the proof's data say. -/
theorem run_main : θ_run defs (onTc (τ := τ) (main (F := Ideal))) (s₀ m ρ)
    (fun r => RDat.FramePost (cfgs 0) (fun c => rdat m c) (V m) r ∧ r.2.sem = fun _ => 0) :=
  RDat.θ_run_frame_track (Q' := _) cfgs (0 : Fin 1) launch0 defs₀ Variants.none (fun c => rdat m c) m ρ main
    (hbody := fun c => obligation m c) (hshare := fun c w => by unfold RDat.share; split <;> rfl)
    (howed := fun _ _ => rfl) (V := V m) (hmain := hmain m Variants.none) (hA := fun _ _ => rfl)
    (hin := fun c => inv_in m c) (hout := fun c => inv_out m c _)

variable {m ρ}

/-- After the run every argument array holds what it held at launch. -/
theorem args_kept {r : PUnit × MemSt nD τ sig (Elt Ideal)} (h : RDat.FramePost (cfgs 0) (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have hin : ∀ (w : Fin cfg0.W) (hw : (cfg0.win w).isOut = false), r.2.mem ((spec0 w).arr.view.loc (c.tc : Thread nD τ)) = V m c (Pipeline.arrRef spec0 w) := fun w hw => by
    have h1 := (h c).1 w
    rw [RDat.ArrAt_in] at h1
    · exact h1
    · exact hw
  exact ⟨((h c).2 main_arg0 (Pipeline.mem_restRefs_of main_arg0 (by decide) (by decide))).trans (V_main_arg0 m c),
    (hin 1 rfl).trans (V_main_arg1 m c), (hin 2 rfl).trans (V_main_arg2 m c), (hin 3 rfl).trans (V_main_arg3 m c),
    (hin 4 rfl).trans (V_main_arg4 m c), (hin 5 rfl).trans (V_main_arg5 m c), (hin 6 rfl).trans (V_main_arg6 m c),
    ((h c).2 main_arg7 (Pipeline.mem_restRefs_of main_arg7 (by decide) (by decide))).trans (V_main_arg7 m c)⟩

end Cert.KernelIdeal.Hand

end
-- ==== Proof.Alg.lean ====
/-
  The arithmetic over the reals: the plain formulas of the layer norm's gradient, and that a block's numbers are
  theirs when the inputs are real numbers. The kernel distributes the products over the sums and rounds in parts whose
  remainders vanish, which is where the inputs have to be real.
-/
module

public import proofs.«01_k».proof.Proof.Block

@[expose] public section

set_option maxRecDepth 16384

noncomputable section

namespace Cert.KernelIdeal.Hand

open Cert.KernelIdeal Cert.KernelIdeal.Gen
open Idealize.ShloMosaic Idealize.ShloMosaic.VecWindow
open Finset (range)

/-! ## Sums -/

/-- A sum taken block by block is the sum. -/
theorem sum_blocks {M : Type} [AddCommMonoid M] (A B : ℕ) (f : ℕ → M) :
    ∑ i ∈ range A, ∑ j ∈ range B, f (B * i + j) = ∑ x ∈ range (A * B), f x := by
  induction A with
  | zero => simp
  | succ A ih => rw [Finset.sum_range_succ, ih, Nat.succ_mul, Finset.sum_range_add, Nat.mul_comm B A]

theorem coe_sum (s : Finset ℕ) (f : ℕ → ℝ) : ((∑ i ∈ s, f i : ℝ) : EReal) = ∑ i ∈ s, ((f i : ℝ) : EReal) := by
  induction s using Finset.cons_induction with
  | empty => simp
  | cons a s ha ih => rw [Finset.sum_cons, Finset.sum_cons, EReal.coe_add, ih]

theorem lanes_sum {M : Type} [AddCommMonoid M] (f : ℕ → M) :
    ∑ l ∈ range 128, ∑ k ∈ range 12, f (128 * k + l) = ∑ κ ∈ range 1536, f κ := by
  rw [Finset.sum_comm]
  exact sum_blocks 12 128 f

theorem sum_add3 {M : Type} [AddCommMonoid M] (a b c : ℕ) (f : ℕ → M) :
    ∑ x ∈ range (a * (b * c)), f x = ∑ i ∈ range a, ∑ j ∈ range b, ∑ k ∈ range c, f (b * c * i + (c * j + k)) := by
  rw [← sum_blocks]
  exact Finset.sum_congr rfl fun i _ => (sum_blocks b c fun x => f (b * c * i + x)).symm

/-- The rows of a block in the order of the accumulators. -/
theorem rows_sum {M : Type} [AddCommMonoid M] (f : ℕ → M) :
    ∑ s ∈ range 8, ∑ v ∈ range 8, ∑ q ∈ range 4, f (32 * v + (8 * q + s)) = ∑ ρ ∈ range 256, f ρ := by
  rw [show (256 : ℕ) = 8 * (4 * 8) from rfl, sum_add3 8 4 8 f, Finset.sum_comm]
  exact Finset.sum_congr rfl fun v _ => Finset.sum_comm

/-- The points and their rows are the rows of the array. -/
theorem points_sum {M : Type} [AddCommMonoid M] (F : ℕ → ℕ → M) :
    ∑ t ∈ range 256, ∑ ρ ∈ range 256, F (t / 8) (256 * (t % 8) + ρ) = ∑ b ∈ range 32, ∑ n ∈ range 2048, F b n := by
  rw [show (256 : ℕ) = 32 * 8 from rfl, ← sum_blocks 32 8]
  refine Finset.sum_congr rfl fun b _ => ?_
  rw [show (2048 : ℕ) = 8 * (32 * 8) from rfl, ← sum_blocks 8 (32 * 8)]
  refine Finset.sum_congr rfl fun j hj => ?_
  have hj := Finset.mem_range.mp hj
  rw [show (8 * b + j) / 8 = b by omega, show (8 * b + j) % 8 = j by omega]

/-! ## The plain formulas -/

/-- The inputs as real numbers: codes, scales, the residual's gradient, the mask, the activations, their means and
    reciprocal deviations, the gains. -/
structure Ins where
  c : ℕ → ℕ → ℕ → ℝ
  s : ℕ → ℕ → ℝ
  res : ℕ → ℕ → ℕ → ℝ
  bit : ℕ → ℕ → ℕ → Prop
  h : ℕ → ℕ → ℕ → ℝ
  mu : ℕ → ℕ → ℝ
  r : ℕ → ℕ → ℝ
  g : ℕ → ℝ

/-- The reciprocal of the width, as the programs have it. -/
def iD : ℝ := 11184811 / 2 ^ 34
/-- The scale of the kept elements. -/
def ks : ℝ := 9320676 / 2 ^ 23
/-- The reciprocal of the largest code. -/
def qc : ℝ := 9586981 / 2 ^ 39

theorem invD_eq : invD = ((iD : ℝ) : EReal) := by
  unfold invD iD
  simp [Ideal.ofBits, Ideal.ieee, -EReal.coe_mul]; norm_num
theorem keepS_eq : keepS = ((ks : ℝ) : EReal) := by
  unfold keepS ks
  simp [Ideal.ofBits, Ideal.ieee, -EReal.coe_mul]; norm_num
theorem qc_eq : Ideal.ofBits .f32 0x37924925#32 = ((qc : ℝ) : EReal) := by
  unfold qc
  simp [Ideal.ofBits, Ideal.ieee, -EReal.coe_mul]; norm_num

namespace Ins
variable (D : Ins)

def dy (b n κ : ℕ) : ℝ := D.c b n κ * D.s b n
def xh (b n κ : ℕ) : ℝ := (D.h b n κ - D.mu b n) * D.r b n
def gg (b n κ : ℕ) : ℝ := D.dy b n κ * D.g κ
def s1 (b n : ℕ) : ℝ := ∑ κ ∈ range 1536, D.gg b n κ
def s2 (b n : ℕ) : ℝ := ∑ κ ∈ range 1536, D.gg b n κ * D.xh b n κ
/-- The gradient of the layer norm's input. -/
def dh (b n κ : ℕ) : ℝ := D.r b n * (D.gg b n κ - D.s1 b n * iD - D.xh b n κ * (D.s2 b n * iD)) + D.res b n κ
open Classical in
/-- The same through the dropout mask. -/
def dm (b n κ : ℕ) : ℝ := if D.bit b n κ then D.dh b n κ else 0
def da (b n κ : ℕ) : ℝ := D.dm b n κ * ks
def dgamma (κ : ℕ) : ℝ := ∑ b ∈ range 32, ∑ n ∈ range 2048, D.dy b n κ * D.xh b n κ
def dbeta (κ : ℕ) : ℝ := ∑ b ∈ range 32, ∑ n ∈ range 2048, D.dy b n κ
def dbias (κ : ℕ) : ℝ := ∑ b ∈ range 32, ∑ n ∈ range 2048, D.da b n κ
end Ins

/-! ## A block -/

/-- The buffers at the point of batch `b` and block `j` hold the inputs' blocks. -/
structure Holds (D : Ins) (b j : ℕ) (i : grid0.Coords) (σ : St Ideal) : Prop where
  c : ∀ ρ < 256, ∀ κ < 1536, r3 σ.a2 ρ κ = ((D.c b (256 * j + ρ) κ : ℝ) : EReal)
  s : ∀ ρ < 256, bS i σ ρ = ((D.s b (256 * j + ρ) : ℝ) : EReal)
  res : ∀ ρ < 256, ∀ κ < 1536, r3 σ.a4 ρ κ = ((D.res b (256 * j + ρ) κ : ℝ) : EReal)
  h : ∀ ρ < 256, ∀ κ < 1536, r3 σ.a6 ρ κ = ((D.h b (256 * j + ρ) κ : ℝ) : EReal)
  mu : ∀ ρ < 256, bM i σ ρ = ((D.mu b (256 * j + ρ) : ℝ) : EReal)
  r : ∀ ρ < 256, bR i σ ρ = ((D.r b (256 * j + ρ) : ℝ) : EReal)
  g : ∀ κ < 1536, r2 σ.a9 0 κ = ((D.g κ : ℝ) : EReal)

variable {D : Ins} {b j : ℕ} {i : grid0.Coords} {σ : St Ideal}

theorem Holds.w (H : Holds D b j i σ) {ρ : ℕ} (hρ : ρ < 256) : bW i σ ρ = ((D.s b (256 * j + ρ) * D.r b (256 * j + ρ) : ℝ) : EReal) := by
  unfold bW
  rw [H.s ρ hρ, H.r ρ hρ, EReal.coe_mul]

theorem Holds.v (H : Holds D b j i σ) {ρ κ : ℕ} (hρ : ρ < 256) (hκ : κ < 1536) :
    eV σ (bW i σ) ρ κ = ((D.r b (256 * j + ρ) * D.gg b (256 * j + ρ) κ : ℝ) : EReal) := by
  unfold eV
  rw [H.c ρ hρ κ hκ, H.w hρ, H.g κ hκ, ← EReal.coe_mul, ← EReal.coe_mul]
  exact congrArg _ (by unfold Ins.gg Ins.dy; ring)

theorem Holds.p (H : Holds D b j i σ) {ρ : ℕ} (hρ : ρ < 256) : bP i σ ρ = ((D.r b (256 * j + ρ) * D.s1 b (256 * j + ρ) : ℝ) : EReal) := by
  unfold bP
  rw [lanes_sum (fun κ => eV σ (bW i σ) ρ κ), Finset.sum_congr rfl fun κ hκ => H.v hρ (Finset.mem_range.mp hκ), ← coe_sum]
  exact congrArg _ (by unfold Ins.s1; rw [Finset.mul_sum])

theorem Holds.q (H : Holds D b j i σ) {ρ : ℕ} (hρ : ρ < 256) :
    bQ i σ ρ = ((D.r b (256 * j + ρ) * ∑ κ ∈ range 1536, D.gg b (256 * j + ρ) κ * D.h b (256 * j + ρ) κ : ℝ) : EReal) := by
  unfold bQ
  rw [lanes_sum (fun κ => eVH σ (bW i σ) ρ κ), Finset.sum_congr rfl fun κ hκ => show eVH σ (bW i σ) ρ κ = ((D.r b (256 * j + ρ) * D.gg b (256 * j + ρ) κ * D.h b (256 * j + ρ) κ : ℝ) : EReal) by
      unfold eVH; rw [H.v hρ (Finset.mem_range.mp hκ), H.h ρ hρ κ (Finset.mem_range.mp hκ), EReal.coe_mul (_ * _)], ← coe_sum]
  exact congrArg _ (by rw [Finset.mul_sum]; exact Finset.sum_congr rfl fun κ _ => by ring)

theorem Ins.s2_eq (D : Ins) (b n : ℕ) : D.s2 b n = D.r b n * (∑ κ ∈ range 1536, D.gg b n κ * D.h b n κ) - D.mu b n * (D.r b n * D.s1 b n) := by
  unfold Ins.s2 Ins.s1 Ins.xh
  rw [Finset.mul_sum, Finset.mul_sum, Finset.mul_sum, ← Finset.sum_sub_distrib]
  exact Finset.sum_congr rfl fun κ _ => by ring

theorem Holds.cc (H : Holds D b j i σ) {ρ : ℕ} (hρ : ρ < 256) :
    bCC i σ ρ = ((D.s2 b (256 * j + ρ) * iD * D.r b (256 * j + ρ) * D.r b (256 * j + ρ) : ℝ) : EReal) := by
  unfold bCC
  rw [H.q hρ, H.p hρ, H.mu ρ hρ, H.r ρ hρ, invD_eq, Ins.s2_eq]
  simp only [← EReal.coe_mul, ← EReal.coe_sub]

theorem Holds.ee (H : Holds D b j i σ) {ρ : ℕ} (hρ : ρ < 256) :
    bEE i σ ρ = ((D.mu b (256 * j + ρ) * (D.s2 b (256 * j + ρ) * iD * D.r b (256 * j + ρ) * D.r b (256 * j + ρ)) - D.r b (256 * j + ρ) * D.s1 b (256 * j + ρ) * iD : ℝ) : EReal) := by
  unfold bEE
  rw [H.cc hρ, H.p hρ, H.mu ρ hρ, invD_eq]
  simp only [← EReal.coe_mul, ← EReal.coe_sub]

/-- The gradient that a block computes is the plain formula's. -/
theorem Holds.d (H : Holds D b j i σ) {ρ κ : ℕ} (hρ : ρ < 256) (hκ : κ < 1536) : bD i σ ρ κ = ((D.dh b (256 * j + ρ) κ : ℝ) : EReal) := by
  unfold bD
  rw [H.v hρ hκ, H.cc hρ, H.ee hρ, H.h ρ hρ κ hκ, H.res ρ hρ κ hκ]
  simp only [← EReal.coe_mul, ← EReal.coe_sub, ← EReal.coe_add]
  exact congrArg _ (by unfold Ins.dh Ins.xh; ring)

theorem Holds.u (H : Holds D b j i σ) {ρ κ : ℕ} (hρ : ρ < 256) (hκ : κ < 1536) :
    eU σ (bW i σ) ρ κ = ((D.dy b (256 * j + ρ) κ * (D.r b (256 * j + ρ) * D.h b (256 * j + ρ) κ) : ℝ) : EReal) := by
  unfold eU
  rw [H.c ρ hρ κ hκ, H.w hρ, H.h ρ hρ κ hκ]
  simp only [← EReal.coe_mul]
  exact congrArg _ (by unfold Ins.dy; ring)

/-- The first three rows of the contraction sum the gradient's codes times their scales; the other three the same with
    the means in. The parts that the rounding leaves are zero. -/
theorem Holds.mm (H : Holds D b j i σ) {κ : ℕ} (hκ : κ < 1536) :
    bMM i σ 0 κ = ((∑ ρ ∈ range 256, D.dy b (256 * j + ρ) κ : ℝ) : EReal) ∧ bMM i σ 1 κ = 0 ∧ bMM i σ 2 κ = 0
    ∧ bMM i σ 3 κ = ((∑ ρ ∈ range 256, D.dy b (256 * j + ρ) κ * (D.r b (256 * j + ρ) * D.mu b (256 * j + ρ)) : ℝ) : EReal)
    ∧ bMM i σ 4 κ = 0 ∧ bMM i σ 5 κ = 0 := by
  have hz : ∀ x : ℝ, (x : EReal) - (x : EReal) = 0 := fun x => by rw [← EReal.coe_sub, sub_self, EReal.coe_zero]
  have hb : ∀ ρ < 256, bS i σ ρ * bR i σ ρ * bM i σ ρ = ((D.s b (256 * j + ρ) * D.r b (256 * j + ρ) * D.mu b (256 * j + ρ) : ℝ) : EReal) := fun ρ hρ => by
    rw [H.s ρ hρ, H.r ρ hρ, H.mu ρ hρ]; simp only [← EReal.coe_mul]
  unfold bMM
  refine ⟨?_, ?_, ?_, ?_, ?_, ?_⟩
  · rw [coe_sum]
    refine Finset.sum_congr rfl fun ρ hρ => ?_
    have hρ := Finset.mem_range.mp hρ
    show bS i σ ρ * r3 σ.a2 ρ κ = _
    rw [H.s ρ hρ, H.c ρ hρ κ hκ, ← EReal.coe_mul]
    exact congrArg _ (by unfold Ins.dy; ring)
  · refine Finset.sum_eq_zero fun ρ hρ => ?_
    have hρ := Finset.mem_range.mp hρ
    show (bS i σ ρ - bS i σ ρ) * r3 σ.a2 ρ κ = 0
    rw [H.s ρ hρ, hz, zero_mul]
  · refine Finset.sum_eq_zero fun ρ hρ => ?_
    have hρ := Finset.mem_range.mp hρ
    show ((bS i σ ρ - bS i σ ρ) - (bS i σ ρ - bS i σ ρ)) * r3 σ.a2 ρ κ = 0
    rw [H.s ρ hρ, hz, sub_zero, zero_mul]
  · rw [coe_sum]
    refine Finset.sum_congr rfl fun ρ hρ => ?_
    have hρ := Finset.mem_range.mp hρ
    show (bS i σ ρ * bR i σ ρ * bM i σ ρ) * r3 σ.a2 ρ κ = _
    rw [hb ρ hρ, H.c ρ hρ κ hκ, ← EReal.coe_mul]
    exact congrArg _ (by unfold Ins.dy; ring)
  · refine Finset.sum_eq_zero fun ρ hρ => ?_
    have hρ := Finset.mem_range.mp hρ
    show (bS i σ ρ * bR i σ ρ * bM i σ ρ - bS i σ ρ * bR i σ ρ * bM i σ ρ) * r3 σ.a2 ρ κ = 0
    rw [hb ρ hρ, hz, zero_mul]
  · refine Finset.sum_eq_zero fun ρ hρ => ?_
    have hρ := Finset.mem_range.mp hρ
    show ((bS i σ ρ * bR i σ ρ * bM i σ ρ - bS i σ ρ * bR i σ ρ * bM i σ ρ) - (bS i σ ρ * bR i σ ρ * bM i σ ρ - bS i σ ρ * bR i σ ρ * bM i σ ρ)) * r3 σ.a2 ρ κ = 0
    rw [hb ρ hρ, hz, sub_zero, zero_mul]

end Cert.KernelIdeal.Hand

end
-- ==== Proof.Reads.lean ====
/-
  The blocks that a point reads, element by element in the arrays, and the rows of the whole arrays that it slices.
-/
module

public import proofs.«01_k».proof.Proof.Launch
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.VecWindow Idealize.SL.Sem
open Idealize.ShloMosaic.Pipeline (RDat)
open Finset (range)

variable (m : (ℓ : Loc nD τ sig) → Buf (Elt Ideal) ℓ) (c : Dev nD)

/-- An element of a whole array. -/
def q3 {α : Type} {A B C : ℕ} [NeZero A] [NeZero B] [NeZero C] (x : (⟨3, ![A, B, C]⟩ : Shape).Idx → α) (b n κ : ℕ) : α :=
  x (ix3 (Fin.ofNat A b) (Fin.ofNat B n) (Fin.ofNat C κ))

theorem idx0 : ∀ t : Fin cfg0.N, win0_0.index t = ![t.val / 8, t.val % 8, 0] := (by decide : ∀ t : Fin grid0.N, win0_0.index t = ![t.val / 8, t.val % 8, 0])
theorem idx2 : ∀ t : Fin cfg0.N, win0_2.index t = ![t.val / 8, t.val % 8, 0] := (by decide : ∀ t : Fin grid0.N, win0_2.index t = ![t.val / 8, t.val % 8, 0])
theorem idx3 : ∀ t : Fin cfg0.N, win0_3.index t = ![t.val / 8, t.val % 8, 0] := (by decide : ∀ t : Fin grid0.N, win0_3.index t = ![t.val / 8, t.val % 8, 0])
theorem idx4 : ∀ t : Fin cfg0.N, win0_4.index t = ![t.val / 8, t.val % 8, 0] := (by decide : ∀ t : Fin grid0.N, win0_4.index t = ![t.val / 8, t.val % 8, 0])
theorem idx8 : ∀ t : Fin cfg0.N, win0_8.index t = ![t.val / 8, t.val % 8, 0] := (by decide : ∀ t : Fin grid0.N, win0_8.index t = ![t.val / 8, t.val % 8, 0])
theorem idx12 : ∀ t : Fin cfg0.N, win0_12.index t = ![t.val / 8, t.val % 8, 0] := (by decide : ∀ t : Fin grid0.N, win0_12.index t = ![t.val / 8, t.val % 8, 0])
theorem idx1 : ∀ t : Fin cfg0.N, win0_1.index t = ![0, 0] := (by decide : ∀ t : Fin grid0.N, win0_1.index t = ![0, 0])
theorem idx5 : ∀ t : Fin cfg0.N, win0_5.index t = ![0, 0] := (by decide : ∀ t : Fin grid0.N, win0_5.index t = ![0, 0])
theorem idx6 : ∀ t : Fin cfg0.N, win0_6.index t = ![0, 0] := (by decide : ∀ t : Fin grid0.N, win0_6.index t = ![0, 0])
theorem idx7 : ∀ t : Fin cfg0.N, win0_7.index t = ![0, 0] := (by decide : ∀ t : Fin grid0.N, win0_7.index t = ![0, 0])
theorem off1_pt : ∀ t : Fin cfg0.N, k0_off1 (grid0.coords t) = ![t.val / 8, 256 * (t.val % 8)] :=
  (by decide : ∀ t : Fin grid0.N, k0_off1 (grid0.coords t) = ![t.val / 8, 256 * (t.val % 8)])

theorem lt_N (t : Fin cfg0.N) : t.val < 256 := t.isLt

theorem blk0 (t : Fin cfg0.N) {ρ κ : ℕ} (hρ : ρ < 256) (hκ : κ < 1536) :
    r3 (A := 256) (B := 1536) (iblk m c 0 t : Vec Ideal S1x256x1536 .fp8e5m2) ρ κ
      = q3 (A := 32) (B := 2048) (C := 1536) (V m c main_v0 : Vec Ideal S32x2048x1536 .fp8e5m2) (t.val / 8) (256 * (t.val % 8) + ρ) κ := by
  have ht := lt_N t
  unfold r3 q3
  rw [ofNat_eq hρ, ofNat_eq hκ, ofNat_eq (A := 32) (by omega), ofNat_eq (A := 2048) (by omega)]
  blk_ext [iblk, idx0]

theorem blk2 (t : Fin cfg0.N) {ρ κ : ℕ} (hρ : ρ < 256) (hκ : κ < 1536) :
    r3 (A := 256) (B := 1536) (iblk m c 2 t : Vec Ideal S1x256x1536 .bf16) ρ κ
      = q3 (A := 32) (B := 2048) (C := 1536) (V m c main_arg2 : Vec Ideal S32x2048x1536 .bf16) (t.val / 8) (256 * (t.val % 8) + ρ) κ := by
  have ht := lt_N t
  unfold r3 q3
  rw [ofNat_eq hρ, ofNat_eq hκ, ofNat_eq (A := 32) (by omega), ofNat_eq (A := 2048) (by omega)]
  blk_ext [iblk, idx2]

theorem blk4 (t : Fin cfg0.N) {ρ κ : ℕ} (hρ : ρ < 256) (hκ : κ < 1536) :
    r3 (A := 256) (B := 1536) (iblk m c 4 t : Vec Ideal S1x256x1536 .bf16) ρ κ
      = q3 (A := 32) (B := 2048) (C := 1536) (V m c main_arg4 : Vec Ideal S32x2048x1536 .bf16) (t.val / 8) (256 * (t.val % 8) + ρ) κ := by
  have ht := lt_N t
  unfold r3 q3
  rw [ofNat_eq hρ, ofNat_eq hκ, ofNat_eq (A := 32) (by omega), ofNat_eq (A := 2048) (by omega)]
  blk_ext [iblk, idx4]

theorem blk3 (t : Fin cfg0.N) {ρ β : ℕ} (hρ : ρ < 256) (hβ : β < 192) :
    r3 (A := 256) (B := 192) (iblk m c 3 t : Vec Ideal S1x256x192 .i8) ρ β
      = q3 (A := 32) (B := 2048) (C := 192) (V m c main_arg3 : Vec Ideal S32x2048x192 .i8) (t.val / 8) (256 * (t.val % 8) + ρ) β := by
  have ht := lt_N t
  unfold r3 q3
  rw [ofNat_eq hρ, ofNat_eq hβ, ofNat_eq (A := 32) (by omega), ofNat_eq (A := 2048) (by omega)]
  blk_ext [iblk, idx3]

theorem blk1 (t : Fin cfg0.N) : (iblk m c 1 t : Vec Ideal S32x2048 .f32) = V m c main_arg1 := by
  funext y; blk_ext [iblk, idx1]
theorem blk5 (t : Fin cfg0.N) : (iblk m c 5 t : Vec Ideal S32x2048 .f32) = V m c main_arg5 := by
  funext y; blk_ext [iblk, idx5]
theorem blk6 (t : Fin cfg0.N) : (iblk m c 6 t : Vec Ideal S32x2048 .f32) = V m c main_arg6 := by
  funext y; blk_ext [iblk, idx6]
theorem blk7 (t : Fin cfg0.N) : (iblk m c 7 t : Vec Ideal S1x1536 .f32) = V m c main_v1 := by
  funext y; blk_ext [iblk, idx7]

/-- A row of a whole array that a point slices. -/
theorem win_row (x : Vec Ideal S32x2048 .f32) (t : Fin cfg0.N) {ρ : ℕ} (hρ : ρ < 256) :
    r2 (A := 1) (B := 256) (window x (k0_off1 (grid0.coords t)) S1x256.size (k0_off1_inb (grid0.coords t))) 0 ρ
      = r2 (A := 32) (B := 2048) x (t.val / 8) (256 * (t.val % 8) + ρ) := by
  have h : ∀ (o : Fin 2 → ℕ) (inb), o = ![t.val / 8, 256 * (t.val % 8)] → r2 (A := 1) (B := 256) (window (s := S32x2048) x o S1x256.size inb) 0 ρ
      = r2 (A := 32) (B := 2048) x (t.val / 8) (256 * (t.val % 8) + ρ) := by
    intro o inb ho
    subst ho
    exact r2_window (A := 32) (B := 2048) (m := 1) (n := 256) x _ _ inb Nat.one_pos hρ
  exact h _ _ (off1_pt t)

/-- The codes are the bytes read as e5m2. -/
theorem V_v0 : (V m c main_v0 : Vec Ideal S32x2048x1536 .fp8e5m2) = (bitcastToFloat (F := Ideal) (s := S32x2048x1536) .fp8e5m2 (m ((c : Thread nD τ).loc main_arg0) : Vec Ideal S32x2048x1536 .i8) : Vec Ideal S32x2048x1536 .fp8e5m2) := by
  show StableHlo.after hostOps0 _ _ = _
  unfold hostOps0
  after_results
/-- The gains as a row. -/
theorem V_v1 : (V m c main_v1 : Vec Ideal S1x1536 .f32) = shapeCast S1x1536 (m ((c : Thread nD τ).loc main_arg7) : Vec Ideal S1536 .f32) shapeCasts_S1536_S1x1536 := by
  show StableHlo.after hostOps0 _ _ = _
  unfold hostOps0
  after_results
  rfl

end Cert.KernelIdeal.Hand

end
-- ==== Proof.Out.lean ====
/-
  What the result arrays hold after the kernel's run: every element is what the point that wrote it left there.
-/
module

public import proofs.«01_k».proof.Proof.Reads
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.VecWindow Idealize.SL.Sem
open Idealize.ShloMosaic.Pipeline (RDat)
open Finset (range)

variable (m : (ℓ : Loc nD τ sig) → Buf (Elt Ideal) ℓ) (c : Dev nD)

theorem idx8_inj : ∀ t t' : Fin cfg0.N, win0_8.index t = win0_8.index t' → t = t' := fun t t' h => by
  rw [idx8, idx8] at h
  have h0 := congrFun h 0
  have h1 := congrFun h 1
  simp at h0 h1
  exact Fin.ext (by omega)
theorem idx12_inj : ∀ t t' : Fin cfg0.N, win0_12.index t = win0_12.index t' → t = t' := fun t t' h => by
  rw [idx12, idx12] at h
  have h0 := congrFun h 0
  have h1 := congrFun h 1
  simp at h0 h1
  exact Fin.ext (by omega)

theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx8_inj t t' h)
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx12_inj t t' h)

theorem last_val : (pt 255).val = 255 := rfl
theorem whole9 : (cfg0.win 9).WholeAt (pt 255) := ⟨(flush0_9 _).mpr rfl, fun t h => Fin.ext (by have := (flush0_9 t).mp h; have := lt_N t; rw [last_val]; omega), by decide⟩
theorem whole10 : (cfg0.win 10).WholeAt (pt 255) := ⟨(flush0_10 _).mpr rfl, fun t h => Fin.ext (by have := (flush0_10 t).mp h; have := lt_N t; rw [last_val]; omega), by decide⟩
theorem whole11 : (cfg0.win 11).WholeAt (pt 255) := ⟨(flush0_11 _).mpr rfl, fun t h => Fin.ext (by have := (flush0_11 t).mp h; have := lt_N t; rw [last_val]; omega), by decide⟩
theorem whole13 : (cfg0.win 13).WholeAt (pt 255) := ⟨(flush0_13 _).mpr rfl, fun t h => Fin.ext (by have := (flush0_13 t).mp h; have := lt_N t; rw [last_val]; omega), by decide⟩

theorem leaves_iff (w : Fin cfg0.W) (t : Fin cfg0.N) (X) : (rdat m c).Leaves w t X ↔ ∃ Y, (rdat m c).Finds w t Y ∧ (rdat m c).after w t Y X := Iff.rfl

variable {m}

/-- The point that owns a row. -/
theorem pt_of (b n : ℕ) (hb : b < 32) (hn : n < 2048) : (pt (8 * b + n / 256)).val = 8 * b + n / 256 :=
  Nat.mod_eq_of_lt (by omega)

theorem out_dx {r : PUnit × MemSt nD τ sig (Elt Ideal)} (h : RDat.FramePost (cfgs 0) (fun c => rdat m c) (V m) r) (c : Dev nD)
    {b n κ : ℕ} (hb : b < 32) (hn : n < 2048) (hκ : κ < 1536) :
    q3 (A := 32) (B := 2048) (C := 1536) (r.2.mem ((c.tc : Thread nD τ).loc main_v2_0) : Vec Ideal S32x2048x1536 .bf16) b n κ
      = gD m c (pt (8 * b + n / 256)) (n % 256) κ := by
  obtain ⟨after, hL, hA⟩ := h.exists_exact c
  have ht := pt_of b n hb hn
  have hf := flush0_8 (pt (8 * b + n / 256))
  obtain ⟨Y, -, hX⟩ := (leaves_iff m c 8 _ _).mp (hL 8 (pt (8 * b + n / 256)) hf)
  have hX : L10 m c (pt (8 * b + n / 256)) (after 8 (pt (8 * b + n / 256))) := hX
  rw [← hX (n % 256) (Nat.mod_lt _ (by omega)) κ hκ]
  have e := ((rdat m c).withAfter after).arrAt_emb_eq_flushed 8 disjoint8 (pt (8 * b + n / 256)) hf (ix3 (n0 := 1) (n1 := 256) (n2 := 1536) 0 (Fin.ofNat 256 (n % 256)) (Fin.ofNat 1536 κ))
  refine Eq.trans ?_ (e.trans ?_)
  · refine (congrFun (hA 8) _).trans ?_
    rw [ofNat_eq hκ, ofNat_eq hb, ofNat_eq hn, ofNat_eq (A := 256) (Nat.mod_lt _ (by omega))]
    blk_ext [idx8, ht]
  · rfl

theorem out_da {r : PUnit × MemSt nD τ sig (Elt Ideal)} (h : RDat.FramePost (cfgs 0) (fun c => rdat m c) (V m) r) (c : Dev nD)
    {b n κ : ℕ} (hb : b < 32) (hn : n < 2048) (hκ : κ < 1536) :
    q3 (A := 32) (B := 2048) (C := 1536) (r.2.mem ((c.tc : Thread nD τ).loc main_v2_4) : Vec Ideal S32x2048x1536 .fp8e5m2) b n κ
      = min (Ideal.ofBits .f32 0x47600000#32) (max (Ideal.ofBits .f32 0xC7600000#32)
          (gDM m c (pt (8 * b + n / 256)) (n % 256) κ * r2 (pQs (gAm m c (pt (8 * b + n / 256)))) (n % 256) 0)) := by
  obtain ⟨after, hL, hA⟩ := h.exists_exact c
  have ht := pt_of b n hb hn
  have hf := flush0_12 (pt (8 * b + n / 256))
  obtain ⟨Y, -, hX⟩ := (leaves_iff m c 12 _ _).mp (hL 12 (pt (8 * b + n / 256)) hf)
  have hX : L14 m c (pt (8 * b + n / 256)) (after 12 (pt (8 * b + n / 256))) := hX
  rw [← hX (n % 256) (Nat.mod_lt _ (by omega)) κ hκ]
  have e := ((rdat m c).withAfter after).arrAt_emb_eq_flushed 12 disjoint12 (pt (8 * b + n / 256)) hf (ix3 (n0 := 1) (n1 := 256) (n2 := 1536) 0 (Fin.ofNat 256 (n % 256)) (Fin.ofNat 1536 κ))
  refine Eq.trans ?_ (e.trans ?_)
  · refine (congrFun (hA 12) _).trans ?_
    rw [ofNat_eq hκ, ofNat_eq hb, ofNat_eq hn, ofNat_eq (A := 256) (Nat.mod_lt _ (by omega))]
    blk_ext [idx12, ht]
  · rfl

theorem out_dgamma {r : PUnit × MemSt nD τ sig (Elt Ideal)} (h : RDat.FramePost (cfgs 0) (fun c => rdat m c) (V m) r) (c : Dev nD) {κ : ℕ} (hκ : κ < 1536) :
    r2 (A := 1) (B := 1536) (r.2.mem ((c.tc : Thread nD τ).loc main_v2_1) : Vec Ideal S1x1536 .f32) 0 κ = oDg m c κ := by
  obtain ⟨X, ⟨Y, -, hX⟩, hG⟩ := RDat.ArrAt.emb_eq_of_wholeAt ((h c).1 9) (t₀ := pt 255) whole9
  have hX : L11 m c (pt 255) X := hX
  rw [← hX rfl κ hκ]
  exact hG (ix2 (Fin.ofNat 1 0) (Fin.ofNat 1536 κ))

theorem out_dbeta {r : PUnit × MemSt nD τ sig (Elt Ideal)} (h : RDat.FramePost (cfgs 0) (fun c => rdat m c) (V m) r) (c : Dev nD) {κ : ℕ} (hκ : κ < 1536) :
    r2 (A := 1) (B := 1536) (r.2.mem ((c.tc : Thread nD τ).loc main_v2_2) : Vec Ideal S1x1536 .f32) 0 κ = oDb m c κ := by
  obtain ⟨X, ⟨Y, -, hX⟩, hG⟩ := RDat.ArrAt.emb_eq_of_wholeAt ((h c).1 10) (t₀ := pt 255) whole10
  have hX : L12 m c (pt 255) X := hX
  rw [← hX rfl κ hκ]
  exact hG (ix2 (Fin.ofNat 1 0) (Fin.ofNat 1536 κ))

theorem out_dbias {r : PUnit × MemSt nD τ sig (Elt Ideal)} (h : RDat.FramePost (cfgs 0) (fun c => rdat m c) (V m) r) (c : Dev nD) {κ : ℕ} (hκ : κ < 1536) :
    r2 (A := 1) (B := 1536) (r.2.mem ((c.tc : Thread nD τ).loc main_v2_3) : Vec Ideal S1x1536 .f32) 0 κ = oDbias m c κ := by
  obtain ⟨X, ⟨Y, -, hX⟩, hG⟩ := RDat.ArrAt.emb_eq_of_wholeAt ((h c).1 11) (t₀ := pt 255) whole11
  have hX : L13 m c (pt 255) X := hX
  rw [← hX rfl κ hκ]
  exact hG (ix2 (Fin.ofNat 1 0) (Fin.ofNat 1536 κ))

/-- A row of a whole array that a point overwrites. -/
theorem put_row (x : Vec Ideal S32x2048 .f32) (t : Fin cfg0.N) (w : Vec Ideal S1x256 .f32) {b n : ℕ} (hb : b < 32) (hn : n < 2048) :
    r2 (A := 32) (B := 2048) (put x (k0_off1 (grid0.coords t)) S1x256.size w) b n
      = if 8 * b + n / 256 = t.val then r2 (A := 1) (B := 256) w 0 (n % 256) else r2 (A := 32) (B := 2048) x b n := by
  have ht := lt_N t
  rw [off1_pt t]
  unfold r2
  rw [ofNat_eq hb, ofNat_eq hn, ofNat_eq (A := 256) (Nat.mod_lt n (by omega))]
  refine (put2_ix (A := 32) (B := 2048) x (t.val / 8) (256 * (t.val % 8)) 1 256 w ⟨b, hb⟩ ⟨n, hn⟩).trans ?_
  by_cases h : 8 * b + n / 256 = t.val
  · rw [if_pos h, dif_pos (show (t.val / 8 ≤ b ∧ b < t.val / 8 + 1) ∧ (256 * (t.val % 8) ≤ n ∧ n < 256 * (t.val % 8) + 256) by omega)]
    refine congrArg w (funext fun k => Fin.ext ?_)
    fin_cases k
    · show b - t.val / 8 = 0; omega
    · show n - 256 * (t.val % 8) = n % 256; omega
  · rw [if_neg h, dif_neg (show ¬ ((t.val / 8 ≤ b ∧ b < t.val / 8 + 1) ∧ (256 * (t.val % 8) ≤ n ∧ n < 256 * (t.val % 8) + 256)) by omega)]

/-- The scales that a point leaves, with those of the points before it. -/
theorem scales_left : ∀ (k : ℕ) (t : Fin cfg0.N) (X : Vec Ideal S32x2048 .f32), t.val = k → (rdat m c).Leaves 13 t X →
    ∀ b < 32, ∀ n < 2048, 8 * b + n / 256 ≤ k → r2 (A := 32) (B := 2048) X b n = r2 (A := 1) (B := 256) (pScale (gAm m c (pt (8 * b + n / 256)))) 0 (n % 256) := by
  intro k
  induction k with
  | zero =>
    rintro t X ht ⟨Y, -, hX⟩ b hb n hn hk
    have hX : L15 m c t Y X := hX
    rw [hX, put_row Y t _ hb hn, if_pos (by omega), show pt (8 * b + n / 256) = t from Fin.ext (by rw [pt_of b n hb hn]; omega)]
  | succ k ih =>
    rintro t X ht ⟨Y, hY, hX⟩ b hb n hn hk
    have hX : L15 m c t Y X := hX
    rw [hX, put_row Y t _ hb hn]
    by_cases h : 8 * b + n / 256 = t.val
    · rw [if_pos h, show pt (8 * b + n / 256) = t from Fin.ext (by rw [pt_of b n hb hn]; omega)]
    · rw [if_neg h]
      have hY' := ((rdat m c).finds_of_pos (w := 13) (t := t) rfl (by omega) Y).mp hY
      rcases hY' with hfl | hL
      · have := (flush0_13 _).mp hfl
        have ht' := lt_N t
        simp only at this
        omega
      · exact ih _ Y (by show t.val - 1 = k; omega) hL b hb n hn (by omega)

theorem out_das {r : PUnit × MemSt nD τ sig (Elt Ideal)} (h : RDat.FramePost (cfgs 0) (fun c => rdat m c) (V m) r) (c : Dev nD)
    {b n : ℕ} (hb : b < 32) (hn : n < 2048) :
    r2 (A := 32) (B := 2048) (r.2.mem ((c.tc : Thread nD τ).loc main_v2_5) : Vec Ideal S32x2048 .f32) b n
      = r2 (A := 1) (B := 256) (pScale (gAm m c (pt (8 * b + n / 256)))) 0 (n % 256) := by
  obtain ⟨X, hX, hG⟩ := RDat.ArrAt.emb_eq_of_wholeAt ((h c).1 13) (t₀ := pt 255) whole13
  rw [← scales_left c 255 (pt 255) X rfl hX b hb n hn (by omega)]
  exact hG (ix2 (Fin.ofNat 32 b) (Fin.ofNat 2048 n))

end Cert.KernelIdeal.Hand

end
-- ==== Proof.Total.lean ====
/-
  The kernel's results as the plain formulas over the reals, when its inputs are real numbers.
-/
module

public import proofs.«01_k».proof.Proof.Alg
public import proofs.«01_k».proof.Proof.Out

@[expose] public section

set_option maxRecDepth 16384

noncomputable section

namespace Cert.KernelIdeal.Hand

open Cert.KernelIdeal Cert.KernelIdeal.Gen
open Idealize.ShloMosaic Idealize.ShloMosaic.TcCoe Idealize.ShloMosaic.VecWindow
open Finset (range)

variable (m : (ℓ : Loc nD τ sig) → Buf (Elt Ideal) ℓ) (c : Dev nD)

/-- What the eight rows of an accumulator add up to: the sum over all rows of the array. -/
theorem acc_sum (f : Fin cfg0.N → ℕ → ℕ → EReal) (F : ℕ → ℕ → ℝ) (κ : ℕ)
    (hf : ∀ t : Fin cfg0.N, ∀ ρ < 256, f t ρ κ = ((F (t.val / 8) (256 * (t.val % 8) + ρ) : ℝ) : EReal)) :
    ∑ s ∈ range 8, ∑ t ∈ range 256, ∑ v ∈ range 8, four (f (pt t)) v s κ = ((∑ b ∈ range 32, ∑ n ∈ range 2048, F b n : ℝ) : EReal) := by
  rw [Finset.sum_comm, ← points_sum F, coe_sum]
  refine Finset.sum_congr rfl fun t ht => ?_
  have ht := Finset.mem_range.mp ht
  have hp : (pt t).val = t := Nat.mod_eq_of_lt ht
  unfold four
  rw [rows_sum (fun ρ => f (pt t) ρ κ), coe_sum]
  refine Finset.sum_congr rfl fun ρ hρ => ?_
  rw [hf (pt t) ρ (Finset.mem_range.mp hρ), hp]

/-- The same of the contraction's rows. -/
theorem mm_sum (g : Fin cfg0.N → EReal) (F : ℕ → ℕ → ℝ)
    (hg : ∀ t : Fin cfg0.N, g t = ((∑ ρ ∈ range 256, F (t.val / 8) (256 * (t.val % 8) + ρ) : ℝ) : EReal)) :
    ∑ t ∈ range 256, g (pt t) = ((∑ b ∈ range 32, ∑ n ∈ range 2048, F b n : ℝ) : EReal) := by
  rw [← points_sum F, coe_sum]
  refine Finset.sum_congr rfl fun t ht => ?_
  have ht := Finset.mem_range.mp ht
  have hp : (pt t).val = t := Nat.mod_eq_of_lt ht
  rw [hg (pt t), hp]

variable (D : Ins)

section
variable (H : ∀ t : Fin cfg0.N, Holds D (t.val / 8) (t.val % 8) (grid0.coords t) (sIn m c t))
include H

theorem gD_val (t : Fin cfg0.N) {ρ κ : ℕ} (hρ : ρ < 256) (hκ : κ < 1536) : gD m c t ρ κ = ((D.dh (t.val / 8) (256 * (t.val % 8) + ρ) κ : ℝ) : EReal) :=
  (H t).d hρ hκ

theorem at_row {b n : ℕ} (hb : b < 32) (hn : n < 2048) : (pt (8 * b + n / 256)).val / 8 = b ∧ 256 * ((pt (8 * b + n / 256)).val % 8) + n % 256 = n := by
  rw [pt_of b n hb hn]; omega

theorem dx_val {b n κ : ℕ} (hb : b < 32) (hn : n < 2048) (hκ : κ < 1536) :
    gD m c (pt (8 * b + n / 256)) (n % 256) κ = ((D.dh b n κ : ℝ) : EReal) := by
  obtain ⟨e1, e2⟩ := at_row m c D H hb hn
  rw [gD_val m c D H _ (Nat.mod_lt _ (by omega)) hκ, e1, e2]

theorem mm0 {κ : ℕ} (hκ : κ < 1536) : aMM m c 256 0 κ = ((∑ b ∈ range 32, ∑ n ∈ range 2048, D.dy b n κ : ℝ) : EReal) :=
  mm_sum (fun t => gMM m c t 0 κ) (fun b n => D.dy b n κ) fun t => ((H t).mm hκ).1
theorem mm3 {κ : ℕ} (hκ : κ < 1536) : aMM m c 256 3 κ = ((∑ b ∈ range 32, ∑ n ∈ range 2048, D.dy b n κ * (D.r b n * D.mu b n) : ℝ) : EReal) :=
  mm_sum (fun t => gMM m c t 3 κ) (fun b n => D.dy b n κ * (D.r b n * D.mu b n)) fun t => ((H t).mm hκ).2.2.2.1
theorem mmz {κ : ℕ} (hκ : κ < 1536) : aMM m c 256 1 κ = 0 ∧ aMM m c 256 2 κ = 0 ∧ aMM m c 256 4 κ = 0 ∧ aMM m c 256 5 κ = 0 :=
  ⟨Finset.sum_eq_zero fun t _ => ((H (pt t)).mm hκ).2.1, Finset.sum_eq_zero fun t _ => ((H (pt t)).mm hκ).2.2.1,
    Finset.sum_eq_zero fun t _ => ((H (pt t)).mm hκ).2.2.2.2.1, Finset.sum_eq_zero fun t _ => ((H (pt t)).mm hκ).2.2.2.2.2⟩

theorem dbeta_val {κ : ℕ} (hκ : κ < 1536) : oDb m c κ = ((D.dbeta κ : ℝ) : EReal) := by
  obtain ⟨z1, z2, -, -⟩ := mmz m c D H hκ
  unfold oDb
  rw [mm0 m c D H hκ, z1, z2, add_zero, add_zero]
  rfl

theorem dgamma_val {κ : ℕ} (hκ : κ < 1536) : oDg m c κ = ((D.dgamma κ : ℝ) : EReal) := by
  obtain ⟨-, -, z4, z5⟩ := mmz m c D H hκ
  unfold oDg
  have hu : ∑ s ∈ range 8, aU m c 256 s κ = ((∑ b ∈ range 32, ∑ n ∈ range 2048, D.dy b n κ * (D.r b n * D.h b n κ) : ℝ) : EReal) :=
    acc_sum (fun t => eU (sIn m c t) (bW (grid0.coords t) (sIn m c t))) (fun b n => D.dy b n κ * (D.r b n * D.h b n κ)) κ fun t ρ hρ => (H t).u hρ hκ
  rw [hu, mm3 m c D H hκ, z4, z5, add_zero, add_zero, ← EReal.coe_sub]
  refine congrArg _ ?_
  unfold Ins.dgamma Ins.xh
  rw [← Finset.sum_sub_distrib]
  refine Finset.sum_congr rfl fun b _ => ?_
  rw [← Finset.sum_sub_distrib]
  exact Finset.sum_congr rfl fun n _ => by ring

section mask
variable (M : ∀ t : Fin cfg0.N, ∀ ρ < 256, ∀ κ < 1536, eBit (sIn m c t) ρ κ ↔ D.bit (t.val / 8) (256 * (t.val % 8) + ρ) κ)
include M

theorem gDM_val (t : Fin cfg0.N) {ρ κ : ℕ} (hρ : ρ < 256) (hκ : κ < 1536) : gDM m c t ρ κ = ((D.dm (t.val / 8) (256 * (t.val % 8) + ρ) κ : ℝ) : EReal) := by
  have h := gD_val m c D H t hρ hκ
  unfold gDM bDM Ins.dm
  by_cases hb : eBit (sIn m c t) ρ κ
  · rw [if_pos hb, if_pos ((M t ρ hρ κ hκ).mp hb)]; exact h
  · rw [if_neg hb, if_neg fun h' => hb ((M t ρ hρ κ hκ).mpr h')]; rfl

theorem dm_val {b n κ : ℕ} (hb : b < 32) (hn : n < 2048) (hκ : κ < 1536) :
    gDM m c (pt (8 * b + n / 256)) (n % 256) κ = ((D.dm b n κ : ℝ) : EReal) := by
  obtain ⟨e1, e2⟩ := at_row m c D H hb hn
  rw [gDM_val m c D H M _ (Nat.mod_lt _ (by omega)) hκ, e1, e2]

theorem dbias_val {κ : ℕ} (hκ : κ < 1536) : oDbias m c κ = ((D.dbias κ : ℝ) : EReal) := by
  unfold oDbias
  have hu : ∑ s ∈ range 8, aB m c 256 s κ = ((∑ b ∈ range 32, ∑ n ∈ range 2048, D.dm b n κ : ℝ) : EReal) :=
    acc_sum (fun t => gDM m c t) (fun b n => D.dm b n κ) κ fun t ρ hρ => gDM_val m c D H M t hρ hκ
  rw [hu, keepS_eq, ← EReal.coe_mul]
  refine congrArg _ ?_
  unfold Ins.dbias Ins.da
  rw [Finset.sum_mul]
  exact Finset.sum_congr rfl fun b _ => Finset.sum_mul _ _ _
end mask
end

end Cert.KernelIdeal.Hand

end
-- ==== Proof.Tame.lean ====
/-
  What the precondition says of the inputs: every element is a real number of bounded size.
-/
module

public import proofs.«01_k».proof.Pre_tame
public import Idealize.ShloMosaic.Lib.ReduceAll
public import Idealize.ShloMosaic.Lib.Pointwise

@[expose] public section

set_option maxRecDepth 16384

noncomputable section

namespace Cert.KernelIdeal.Hand

open Idealize.ShloMosaic

/-- An extended real that is a real number of size at most `B`. -/
def Sm (B : ℝ) (x : EReal) : Prop := ∃ r : ℝ, x = (r : EReal) ∧ |r| ≤ B

theorem sm_of_abs {x : EReal} {B : ℝ} (h : max x (-x) ≤ (B : EReal)) : Sm B x := by
  induction x using EReal.rec with
  | bot => simp at h
  | top => simp at h
  | coe r =>
    refine ⟨r, rfl, ?_⟩
    rw [max_le_iff, ← EReal.coe_neg, EReal.coe_le_coe_iff, EReal.coe_le_coe_iff] at h
    exact abs_le.mpr ⟨by linarith [h.2], h.1⟩

/-- A comparison with 65536 that holds. -/
theorem sm_of_cmp {x : EReal} (h : FloatOps.cmpf (F := Ideal) (φ := .f32) .ole (FloatOps.absf (F := Ideal) (φ := .f32) x) (Ideal.ofBits .f32 0x47800000#32) = 1#1) : Sm 65536 x := by
  have e : Ideal.ofBits .f32 0x47800000#32 = ((65536 : ℝ) : EReal) := by
    simp [Ideal.ofBits, Ideal.ieee, -EReal.coe_mul]; norm_num
  rw [e] at h
  refine sm_of_abs ?_
  have h : BitVec.ofBool (decide (max x (-x) ≤ ((65536 : ℝ) : EReal))) = 1#1 := h
  by_contra hc
  rw [decide_eq_false hc] at h
  exact absurd h (by decide)

theorem ne_of_cmp {x y : BitVec 32} (h : IntOp.cmpi .ne x y = 1#1) : x ≠ y := by
  rintro rfl
  simp [IntOp.cmpi] at h

/-- An e5m2 number whose exponent is not all ones is a real number below 65536. -/
theorem sm_e5m2 : ∀ b : BitVec 8, b.setWidth 32 &&& 124#32 ≠ 124#32 → Sm 65536 (Ideal.ofBits .fp8e5m2 b) := by
  intro b hb
  have he : (b.extractLsb' 2 5).toNat ≠ 2 ^ 5 - 1 := by revert b; decide
  have h1 : (b.extractLsb' 2 5).toNat ≤ 31 := by have := (b.extractLsb' 2 5).isLt; omega
  have h2 : (b.extractLsb' 0 2).toNat ≤ 3 := by have := (b.extractLsb' 0 2).isLt; omega
  have hs : ∀ p : Bool, |(if p = true then (-1 : ℝ) else 1)| = 1 := fun p => by cases p <;> simp
  show Sm 65536 (Ideal.ieee 5 2 b)
  unfold Ideal.ieee
  generalize (b.extractLsb' 2 5).toNat = ex at *
  generalize (b.extractLsb' 0 2).toNat = fr at *
  simp only
  rw [if_neg he]
  have hf : (fr : ℝ) ≤ 3 := by exact_mod_cast h2
  have hf0 : (0 : ℝ) ≤ fr := by positivity
  split
  · refine ⟨_, rfl, ?_⟩
    rw [abs_mul, abs_mul, hs, one_mul, abs_of_nonneg hf0, abs_of_pos (by positivity)]
    norm_num
    nlinarith
  · refine ⟨_, rfl, ?_⟩
    have hx : (2 : ℝ) ^ ((ex : Int) - (2 ^ (5 - 1) - 1) - (2 : ℕ)) ≤ 2 ^ (13 : Int) := zpow_le_zpow_right₀ (by norm_num) (by push_cast; omega)
    rw [abs_mul, abs_mul, hs, one_mul, abs_of_nonneg (by positivity), abs_of_pos (by positivity)]
    have hn : (((2 ^ 2 + fr : ℕ)) : ℝ) ≤ 7 := by push_cast; linarith
    calc _ ≤ (7 : ℝ) * 2 ^ (13 : Int) := mul_le_mul hn hx (by positivity) (by norm_num)
      _ ≤ 65536 := by norm_num

variable [Cert.Pre_tame.Facts]
open Cert.Pre_tame Cert.Pre_tame.Facts

instance : Subsingleton S_.Idx := ⟨fun a b => funext fun k => k.elim0⟩

theorem and_one {a b : IVec S_ 1} (j : S_.Idx) (h : andi a b j = 1#1) : a j = 1#1 ∧ b j = 1#1 := by
  have h : a j &&& b j = 1#1 := h
  revert h; generalize a j = x; generalize b j = y; revert x y; decide

/-- What the precondition says. -/
theorem tame_spec (a0 : IVec S32x2048x1536 8) (a1 : FVec Ideal S32x2048 .f32) (a2 : FVec Ideal S32x2048x1536 .bf16) (a3 : IVec S32x2048x192 8)
    (a4 : FVec Ideal S32x2048x1536 .bf16) (a5 a6 : FVec Ideal S32x2048 .f32) (a7 : FVec Ideal S1536 .f32)
    (h : fn (F := Ideal) a0 a1 a2 a3 a4 a5 a6 a7 = fun _ => 1#1) :
    (∀ i, Sm 65536 (Ideal.ofBits .fp8e5m2 (a0 i))) ∧ (∀ i, Sm 65536 (a1 i)) ∧ (∀ i, Sm 65536 (a2 i)) ∧ (∀ i, Sm 65536 (a4 i))
    ∧ (∀ i, Sm 65536 (a5 i)) ∧ (∀ i, Sm 65536 (a6 i)) ∧ (∀ i, Sm 65536 (a7 i)) := by
  have j : S_.Idx := fun a => a.elim0
  have h := congrFun h j
  unfold fn fn_part1 fn_part2 at h
  obtain ⟨h, h7⟩ := and_one j h
  obtain ⟨h, h6⟩ := and_one j h
  obtain ⟨h, h5⟩ := and_one j h
  obtain ⟨h, h4⟩ := and_one j h
  obtain ⟨h, h2⟩ := and_one j h
  obtain ⟨h0, h1⟩ := and_one j h
  refine ⟨fun i => sm_e5m2 _ (ne_of_cmp (Host.reduce_andi_all _ _ _ _ j h0 i)), fun i => sm_of_cmp (Host.reduce_andi_all _ _ _ _ j h1 i), fun i => sm_of_cmp (Host.reduce_andi_all _ _ _ _ j h2 i),
    fun i => sm_of_cmp (Host.reduce_andi_all _ _ _ _ j h4 i), fun i => sm_of_cmp (Host.reduce_andi_all _ _ _ _ j h5 i), fun i => sm_of_cmp (Host.reduce_andi_all _ _ _ _ j h6 i), fun i => sm_of_cmp (Host.reduce_andi_all _ _ _ _ j h7 i)⟩

end Cert.KernelIdeal.Hand

end
-- ==== Proof.Spec.lean ====
/-
  The inputs as real numbers, and what each point of the grid finds of them in its buffers.
-/
module

public import proofs.«01_k».proof.Proof.Total
public import proofs.«01_k».proof.Proof.Tame

@[expose] public section

set_option maxRecDepth 16384

noncomputable section

namespace Cert.KernelIdeal.Hand

open Cert.KernelIdeal Cert.KernelIdeal.Gen
open Idealize.ShloMosaic Idealize.ShloMosaic.TcCoe Idealize.ShloMosaic.VecWindow
open Finset (range)

/-- The mask bit of column `k`: bit `k mod 8` of byte `k / 8`. -/
def mbit (x : BitVec 8) (k : ℕ) : Prop :=
  IntOp.andi (IntOp.shrsi ArithUnit.vector (BitVec.setWidth 32 x) (BitVec.ofNat 32 (k % 8))) 1#32 ≠ 0#32

/-- The inputs as real numbers. -/
def insOf (a0 : Vec Ideal S32x2048x1536 .i8) (a1 : Vec Ideal S32x2048 .f32) (a2 : Vec Ideal S32x2048x1536 .bf16) (a3 : Vec Ideal S32x2048x192 .i8)
    (a4 : Vec Ideal S32x2048x1536 .bf16) (a5 a6 : Vec Ideal S32x2048 .f32) (a7 : Vec Ideal S1536 .f32) : Ins where
  c b n κ := (Ideal.ofBits .fp8e5m2 (q3 (A := 32) (B := 2048) (C := 1536) a0 b n κ)).toReal
  s b n := EReal.toReal (r2 (A := 32) (B := 2048) a1 b n)
  res b n κ := EReal.toReal (q3 (A := 32) (B := 2048) (C := 1536) a2 b n κ)
  bit b n κ := mbit (q3 (A := 32) (B := 2048) (C := 192) a3 b n (κ / 8)) κ
  h b n κ := EReal.toReal (q3 (A := 32) (B := 2048) (C := 1536) a4 b n κ)
  mu b n := EReal.toReal (r2 (A := 32) (B := 2048) a5 b n)
  r b n := EReal.toReal (r2 (A := 32) (B := 2048) a6 b n)
  g κ := EReal.toReal (a7 (ix1 (Fin.ofNat 1536 κ)))

theorem Sm.toReal {B : ℝ} {x : EReal} (h : Sm B x) : x = ((x.toReal : ℝ) : EReal) := by
  obtain ⟨r, rfl, -⟩ := h
  rfl
theorem Sm.abs_le {B : ℝ} {x : EReal} (h : Sm B x) : |x.toReal| ≤ B := by
  obtain ⟨r, rfl, h⟩ := h
  exact h

theorem row_at (x y : Vec Ideal S32x2048 .f32) (h : x = y) (t : Fin cfg0.N) {ρ : ℕ} (hρ : ρ < 256) :
    r2 (A := 1) (B := 256) (window x (k0_off1 (grid0.coords t)) S1x256.size (k0_off1_inb (grid0.coords t))) 0 ρ
      = r2 (A := 32) (B := 2048) y (t.val / 8) (256 * (t.val % 8) + ρ) := by
  subst h; exact win_row x t hρ

variable (m : (ℓ : Loc nD τ sig) → Buf (Elt Ideal) ℓ) (c : Dev nD)

/-- The inputs of a core. -/
def insM : Ins := insOf (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))

variable [Cert.Pre_tame.Facts]

/-- The precondition of a core's inputs. -/
def TameM : Prop := Cert.Pre_tame.fn (F := Ideal) (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7)) = fun _ => 1#1

theorem holdsM (hT : TameM m c) (t : Fin cfg0.N) : Holds (insM m c) (t.val / 8) (t.val % 8) (grid0.coords t) (sIn m c t) := by
  obtain ⟨t0, t1, t2, t4, t5, t6, t7⟩ := tame_spec _ _ _ _ _ _ _ _ hT
  constructor
  · intro ρ hρ κ hκ
    refine (blk0 m c t hρ hκ).trans ?_
    rw [V_v0]
    exact (t0 _).toReal
  · intro ρ hρ
    exact (row_at _ _ ((blk1 m c t).trans (V_main_arg1 m c)) t hρ).trans (t1 _).toReal
  · intro ρ hρ κ hκ
    refine (blk2 m c t hρ hκ).trans ?_
    rw [V_main_arg2]
    exact (t2 _).toReal
  · intro ρ hρ κ hκ
    refine (blk4 m c t hρ hκ).trans ?_
    rw [V_main_arg4]
    exact (t4 _).toReal
  · intro ρ hρ
    exact (row_at _ _ ((blk5 m c t).trans (V_main_arg5 m c)) t hρ).trans (t5 _).toReal
  · intro ρ hρ
    exact (row_at _ _ ((blk6 m c t).trans (V_main_arg6 m c)) t hρ).trans (t6 _).toReal
  · intro κ hκ
    show r2 (A := 1) (B := 1536) (iblk m c 7 t : Vec Ideal S1x1536 .f32) 0 κ = _
    rw [blk7, V_v1]
    refine Eq.trans ?_ (t7 _).toReal
    unfold r2
    pointwise [shapeCast]

end Cert.KernelIdeal.Hand

end
-- ==== Proof.Mask.lean ====
/-
  The dropout mask. The kernel reads four bytes of a column as one word, gathers each lane's word, shifts the lane's bit to the
  sign of its byte and reads the bytes apart again; the bit it finds is bit `k mod 8` of byte `k / 8`.
-/
module

public import proofs.«01_k».proof.Proof.Spec
public import Idealize.ShloMosaic.Lib.BitcastFour
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.VecWindow

theorem mbit_iff (x : BitVec 8) (k : ℕ) : mbit x k ↔ x.getLsbD (k % 8) = true := by
  unfold mbit
  have h : k % 8 < 8 := Nat.mod_lt _ (by norm_num)
  generalize k % 8 = q at h ⊢
  interval_cases q <;> revert x <;> decide

theorem sign_iff (x : BitVec 8) : IntOp.cmpi .slt (x.signExtend 32) 0#32 = 1#1 ↔ x.getLsbD 7 = true := by
  revert x; decide

theorem shli_bit (w : BitVec 32) {s j : ℕ} (hs : s < 8) (hj : j < 4) :
    (IntOp.shli .vector w (BitVec.ofNat 32 (7 - s))).getLsbD (8 * j + 7) = w.getLsbD (8 * j + s) := by
  unfold IntOp.shli
  interval_cases s <;> interval_cases j <;> simp

theorem tShift_ix (a : Fin 8) (l : Fin 128) : tShift (ix2 a l) = BitVec.ofNat 32 (7 - l.val % 8) := by
  have h : ∀ l : Fin 128, IntOp.subi 7#32 (IntOp.andi (BitVec.ofNat 32 l.val) 7#32) = BitVec.ofNat 32 (7 - l.val % 8) := by decide
  refine Eq.trans ?_ (h l)
  unfold tShift tLane
  pointwise

theorem tDiv_ix (a : Fin 8) (l : Fin 128) : tDiv (ix2 a l) = BitVec.ofNat 32 (l.val / 8) := by
  have h : ∀ l : Fin 128, Scalar.select (IntOp.andi (IntOp.cmpi .ne (IntOp.subi (BitVec.setWidth 32 (IntOp.cmpi .sgt (BitVec.ofNat 32 l.val) 0#32)) (BitVec.setWidth 32 (IntOp.cmpi .slt (BitVec.ofNat 32 l.val) 0#32)))
      (Scalar.subi (Scalar.extui (Scalar.cmpi .sgt 8#32 0#32)) (Scalar.extui (Scalar.cmpi .slt 8#32 0#32))))
      (IntOp.cmpi .ne (IntOp.remsi .vector (BitVec.ofNat 32 l.val) 8#32) 0#32))
      (IntOp.subi (IntOp.divsi .vector (BitVec.ofNat 32 l.val) 8#32) 1#32) (IntOp.divsi .vector (BitVec.ofNat 32 l.val) 8#32) = BitVec.ofNat 32 (l.val / 8) := by decide
  refine Eq.trans ?_ (h l)
  unfold tDiv tLane
  pointwise

theorem tIdx_ix (k : ℕ) (a : Fin 8) (l : Fin 128) : tIdx k (ix2 a l) = BitVec.ofNat 32 (16 * (k % 8) + l.val / 8) := by
  have h : ∀ (p : Fin 8) (q : Fin 16), Scalar.select (IntOp.cmpi .slt (IntOp.addi (BitVec.ofNat 32 (16 * p.val)) (BitVec.ofNat 32 q.val)) 0#32)
      (IntOp.addi (IntOp.addi (BitVec.ofNat 32 (16 * p.val)) (BitVec.ofNat 32 q.val)) 128#32) (IntOp.addi (BitVec.ofNat 32 (16 * p.val)) (BitVec.ofNat 32 q.val))
      = BitVec.ofNat 32 (16 * p.val + q.val) := by decide
  refine Eq.trans ?_ (h ⟨k % 8, Nat.mod_lt _ (by norm_num)⟩ ⟨l.val / 8, by omega⟩)
  unfold tIdx
  rw [shapeCast_shapeCast]
  unfold tBase
  have hd := tDiv_ix a l
  generalize tDiv = x at hd ⊢
  pointwise [hd]

theorem bit_words (k : ℕ) (w : IVec S8x128 32) (i : Fin 32) (l : Fin 128) :
    (bitcast S32x128 8 (shli (dynamicGather 1 w (tIdx k)) tShift) bitcasts_S8x128_w32_S32x128_w8 (ix2 i l)).getLsbD 7
      = (w (ix2 (⟨i.val / 4, by omega⟩ : Fin 8) (⟨16 * (k % 8) + l.val / 8, by omega⟩ : Fin 128))).getLsbD (8 * (i.val % 4) + l.val % 8) := by
  rw [bitcast_getLsbD _ _ _ 7 (by norm_num) (by norm_num)]
  have hr : (S32x128 : Shape).row (ix2 i l) = i.val := rfl
  have e1 : (i.val * 8 + 7) / 32 = i.val / 4 := by omega
  have e2 : (i.val * 8 + 7) % 32 = 8 * (i.val % 4) + 7 := by omega
  have hs : ∀ hp, Shape.Bitcasts.srcIdx bitcasts_S8x128_w32_S32x128_w8 (ix2 i l) ((i.val * 8 + 7) / 32) hp = (ix2 (⟨i.val / 4, by omega⟩ : Fin 8) l : S8x128.Idx) := by
    intro hp
    funext a
    match a with
    | ⟨0, _⟩ => exact Fin.ext ((Shape.Bitcasts.srcIdx_row _ _ _ _ ⟨0, Nat.zero_lt_two⟩ rfl).trans e1)
    | ⟨1, _⟩ => exact Fin.ext (Shape.Bitcasts.srcIdx_other _ _ _ _ ⟨1, Nat.one_lt_two⟩ (by show ¬ 1 + 2 = 2; omega))
  have key : ∀ (x : IVec S8x128 32) (n : ℕ) (hn : n = i.val) (hp), (x (Shape.Bitcasts.srcIdx bitcasts_S8x128_w32_S32x128_w8 (ix2 i l) ((n * 8 + 7) / 32) hp)).getLsbD ((n * 8 + 7) % 32)
      = (x (ix2 (⟨i.val / 4, by omega⟩ : Fin 8) l)).getLsbD (8 * (i.val % 4) + 7) := by
    rintro x n rfl hp
    rw [hs, e2]
  rw [key _ _ hr]
  have hsh : ∀ x : IVec S8x128 32, shli x tShift (ix2 (⟨i.val / 4, by omega⟩ : Fin 8) l) = IntOp.shli .vector (x (ix2 (⟨i.val / 4, by omega⟩ : Fin 8) l)) (BitVec.ofNat 32 (7 - l.val % 8)) := fun x => by
    rw [← tShift_ix]; rfl
  rw [hsh, shli_bit _ (Nat.mod_lt _ (by norm_num)) (Nat.mod_lt _ (by norm_num)), dynamicGather_apply]
  congr 2
  funext a
  match a with
  | ⟨0, _⟩ => rfl
  | ⟨1, _⟩ =>
    refine Fin.ext ?_
    show (tIdx k (ix2 _ l)).toNat % 128 = _
    rw [tIdx_ix, BitVec.toNat_ofNat]
    show _ = 16 * (k % 8) + l.val / 8
    omega

theorem tMa_bit (x : Vec Ideal S1x32x128 .i8) (a : Fin 8) (l : Fin 128) {q : ℕ} (hq : q < 32) (p : Fin 32) (hp : p.val = 4 * a.val + q / 8) :
    (tMa (F := Ideal) x (ix2 a l)).getLsbD q = (BitVec.getLsbD (x (ix3 0 p l)) (q % 8)) := by
  unfold tMa
  refine (bitcast_8_32_getLsbD_ix2 _ _ a l q hq p hp).trans ?_
  refine congrArg (fun y : BitVec 8 => y.getLsbD (q % 8)) ?_
  pointwise

theorem tMb_bit (x : Vec Ideal S1x32x64 .i8) (a : Fin 8) (l : Fin 128) {q : ℕ} (hq : q < 32) (p : Fin 32) (hp : p.val = 4 * a.val + q / 8) (l' : Fin 64) (hl : l'.val = l.val) :
    (tMb (F := Ideal) x (ix2 a l)).getLsbD q = (BitVec.getLsbD (x (ix3 0 p l')) (q % 8)) := by
  unfold tMb
  refine (bitcast_8_32_getLsbD_ix2 _ _ a l q hq p hp).trans ?_
  refine congrArg (fun y : BitVec 8 => y.getLsbD (q % 8)) ?_
  refine (concatenate_pair_apply_left (t := S32x128) (s₁ := S32x64) (s₂ := S32x64) 1 _ _ _ _ rfl (ix2 p l') fun b => ?_).trans ?_
  · match b with
    | ⟨0, _⟩ => rfl
    | ⟨1, _⟩ => exact hl
  · pointwise

set_option maxHeartbeats 1000000 in
/-- The bit the kernel finds for row `i` of row tile `u`, lane `l` of tile `k`. -/
theorem rowBit_iff (σ : St Ideal) {u k i l : ℕ} (hu : u < 8) (hk : k < 12) (hi : i < 32) (hl : l < 128) :
    rowBit σ u k i l ↔ BitVec.getLsbD (r3 (A := 256) (B := 192) σ.a5 (32 * u + i) (16 * k + l / 8)) (l % 8) = true := by
  unfold rowBit tBit
  rw [ofNat_eq hi, ofNat_eq hl]
  have h1 : ∀ y : IVec S32x128 8, (cmpi .slt (extsi 32 y natLt_8_32) (broadcast S32x128 0#32) (ix2 (⟨i, hi⟩ : Fin 32) (⟨l, hl⟩ : Fin 128)) = 1#1) ↔ (y (ix2 (⟨i, hi⟩ : Fin 32) (⟨l, hl⟩ : Fin 128))).getLsbD 7 = true :=
    fun y => sign_iff _
  rw [h1, bit_words]
  have hq : 8 * (i % 4) + l % 8 < 32 := by omega
  have hm : (8 * (i % 4) + l % 8) % 8 = l % 8 := by omega
  by_cases h8 : k < 8
  · have hb : (bif Nat.blt k 8 then tMa (F := Ideal) (window σ.a5 (oMa u) S1x32x128.size (inMa u)) else tMb (F := Ideal) (window σ.a5 (oMb u) S1x32x64.size (inMb u)))
        = tMa (F := Ideal) (window σ.a5 (oMa u) S1x32x128.size (inMa u)) := by
      rw [show Nat.blt k 8 = true from by simpa [Nat.blt_eq] using h8]; rfl
    have hx := tMa_bit (window σ.a5 (oMa u) S1x32x128.size (inMa u)) (⟨i / 4, by omega⟩ : Fin 8) (⟨16 * (k % 8) + l / 8, by omega⟩ : Fin 128) hq ⟨i, hi⟩ (by show i = 4 * (i / 4) + (8 * (i % 4) + l % 8) / 8; omega)
    rw [hm] at hx
    rw [hb]
    refine (iff_of_eq (congrArg (· = true) hx)).trans ?_
    refine iff_of_eq (congrArg (fun y : BitVec 8 => y.getLsbD (l % 8) = true) ?_)
    unfold r3
    rw [ofNat_eq (A := 256) (by omega), ofNat_eq (A := 192) (by omega)]
    unfold window
    refine congrArg σ.a5 ?_
    funext a
    match a with
    | ⟨0, _⟩ => rfl
    | ⟨1, _⟩ => exact Fin.ext (by show 32 * (u % 8) + 1 * i = 32 * u + i; omega)
    | ⟨2, _⟩ => exact Fin.ext (by show 0 + 1 * (16 * (k % 8) + l / 8) = 16 * k + l / 8; omega)
  · have hb : (bif Nat.blt k 8 then tMa (F := Ideal) (window σ.a5 (oMa u) S1x32x128.size (inMa u)) else tMb (F := Ideal) (window σ.a5 (oMb u) S1x32x64.size (inMb u)))
        = tMb (F := Ideal) (window σ.a5 (oMb u) S1x32x64.size (inMb u)) := by
      rw [show Nat.blt k 8 = false from by rw [Bool.eq_false_iff]; simpa [Nat.blt_eq] using h8]; rfl
    have hx := tMb_bit (window σ.a5 (oMb u) S1x32x64.size (inMb u)) (⟨i / 4, by omega⟩ : Fin 8) (⟨16 * (k % 8) + l / 8, by omega⟩ : Fin 128) hq ⟨i, hi⟩ (by show i = 4 * (i / 4) + (8 * (i % 4) + l % 8) / 8; omega) ⟨16 * (k % 8) + l / 8, by omega⟩ rfl
    rw [hm] at hx
    rw [hb]
    refine (iff_of_eq (congrArg (· = true) hx)).trans ?_
    refine iff_of_eq (congrArg (fun y : BitVec 8 => y.getLsbD (l % 8) = true) ?_)
    unfold r3
    rw [ofNat_eq (A := 256) (by omega), ofNat_eq (A := 192) (by omega)]
    unfold window
    refine congrArg σ.a5 ?_
    funext a
    match a with
    | ⟨0, _⟩ => rfl
    | ⟨1, _⟩ => exact Fin.ext (by show 32 * (u % 8) + 1 * i = 32 * u + i; omega)
    | ⟨2, _⟩ => exact Fin.ext (by show 128 + 1 * (16 * (k % 8) + l / 8) = 16 * k + l / 8; omega)

variable (m : (ℓ : Loc nD τ sig) → Buf (Elt Ideal) ℓ) (c : Dev nD)

/-- The kernel's mask is the inputs'. -/
theorem maskM (t : Fin cfg0.N) : ∀ ρ < 256, ∀ κ < 1536, eBit (sIn m c t) ρ κ ↔ (insM m c).bit (t.val / 8) (256 * (t.val % 8) + ρ) κ := by
  intro ρ hρ κ hκ
  unfold eBit
  rw [rowBit_iff _ (by omega) (by omega) (by omega) (by omega)]
  rw [show 32 * (ρ / 32) + ρ % 32 = ρ from by omega, show 16 * (κ / 128) + κ % 128 / 8 = κ / 8 from by omega, show κ % 128 % 8 = κ % 8 from by omega]
  rw [show (insM m c).bit (t.val / 8) (256 * (t.val % 8) + ρ) κ = mbit (q3 (A := 32) (B := 2048) (C := 192) (m ((c : Thread nD τ).loc main_arg3) : Vec Ideal S32x2048x192 .i8) (t.val / 8) (256 * (t.val % 8) + ρ) (κ / 8)) κ from rfl]
  rw [mbit_iff]
  refine iff_of_eq (congrArg (fun y : BitVec 8 => y.getLsbD (κ % 8) = true) ?_)
  refine (blk3 m c t hρ (by omega)).trans ?_
  rw [V_main_arg3]

end Cert.KernelIdeal.Hand

end
-- ==== Proof.Expo.lean ====
/-
  The exponent of a positive number below 2^126, found by bisection on the exponent field and by counting the powers of two up to it.
-/
module

public import Idealize.ShloMosaic.Lib.Pointwise

@[expose] public section

set_option maxRecDepth 16384

noncomputable section

namespace Cert.KernelIdeal.Hand

open Idealize.ShloMosaic

/-- The number whose exponent field is `w` and whose other bits are zero. -/
def powB (w : BitVec 32) : EReal := Ideal.ofBits .f32 (IntOp.shli .vector w 23#32)

theorem shl_toNat {n : ℕ} (h : n ≤ 255) : (IntOp.shli .vector (BitVec.ofNat 32 n) 23#32 : BitVec 32).toNat = n * 2 ^ 23 := by
  have e : (IntOp.shli .vector (BitVec.ofNat 32 n) 23#32 : BitVec 32) = BitVec.ofNat 32 n <<< 23 := rfl
  rw [e, BitVec.toNat_shiftLeft, BitVec.toNat_ofNat, Nat.shiftLeft_eq]
  omega
theorem shl_sign {n : ℕ} (h : n ≤ 255) : ((IntOp.shli .vector (BitVec.ofNat 32 n) 23#32 : BitVec 32).extractLsb' 31 1 == 1#1) = false := by
  rw [beq_eq_false_iff_ne]
  intro hc
  have hc := congrArg BitVec.toNat hc
  rw [BitVec.extractLsb'_toNat, shl_toNat h, Nat.shiftRight_eq_div_pow] at hc
  simp only [BitVec.toNat_ofNat] at hc
  omega
theorem shl_ex {n : ℕ} (h : n ≤ 255) : ((IntOp.shli .vector (BitVec.ofNat 32 n) 23#32 : BitVec 32).extractLsb' 23 8).toNat = n := by
  rw [BitVec.extractLsb'_toNat, shl_toNat h, Nat.shiftRight_eq_div_pow]
  omega
theorem shl_fr {n : ℕ} (h : n ≤ 255) : ((IntOp.shli .vector (BitVec.ofNat 32 n) 23#32 : BitVec 32).extractLsb' 0 23).toNat = 0 := by
  rw [BitVec.extractLsb'_toNat, shl_toNat h, Nat.shiftRight_eq_div_pow]
  omega

theorem ieee_of (b : BitVec 32) {n : ℕ} (ha : (b.extractLsb' 31 1 == 1#1) = false) (hb : (b.extractLsb' 23 8).toNat = n) (hc : (b.extractLsb' 0 23).toNat = 0) :
    Ideal.ieee 8 23 b = if n = 255 then ⊤ else if n = 0 then 0 else (((2 : ℝ) ^ ((n : ℤ) - 127) : ℝ) : EReal) := by
  unfold Ideal.ieee
  simp only [show 8 + 23 = 31 from rfl, ha, hb, hc]
  have h2 : (2 : ℝ) ≠ 0 := two_ne_zero
  norm_num
  refine if_congr Iff.rfl rfl (if_congr Iff.rfl rfl ?_)
  rw [← EReal.coe_mul, show (8388608 : ℝ) = (2 : ℝ) ^ (23 : ℤ) from by norm_num, ← zpow_add₀ h2]
  congr 2
  ring

theorem powB_mid {n : ℕ} (h1 : 1 ≤ n) (h2 : n ≤ 254) : powB (BitVec.ofNat 32 n) = (((2 : ℝ) ^ ((n : ℤ) - 127) : ℝ) : EReal) := by
  refine (ieee_of _ (shl_sign (by omega)) (shl_ex (by omega)) (shl_fr (by omega))).trans ?_
  rw [if_neg (by omega), if_neg (by omega)]
theorem powB_top : powB (BitVec.ofNat 32 255) = ⊤ := by
  refine (ieee_of _ (shl_sign (by omega)) (shl_ex (n := 255) (by omega)) (shl_fr (by omega))).trans ?_
  rw [if_pos rfl]

/-- A step of the bisection. -/
def kS (x : EReal) (s be : BitVec 32) : BitVec 32 :=
  Scalar.select (Ideal.cmp .oge x (powB (IntOp.addi be s))) (IntOp.addi be s) be
/-- The exponent field that the bisection ends with. -/
def kBe (x : EReal) : BitVec 32 := kS x 1#32 (kS x 2#32 (kS x 4#32 (kS x 8#32 (kS x 16#32 (kS x 32#32 (kS x 64#32 (kS x 128#32 0#32)))))))
/-- The exponent, of a field that is a number's. -/
def expW (be : BitVec 32) : BitVec 32 := Scalar.select (IntOp.ori (IntOp.cmpi .eq be 0#32) (IntOp.cmpi .eq be 255#32)) 0#32 (IntOp.subi be 126#32)

/-- The number of powers of two, from 2^-126 on, up to `x`. -/
def IsCount (x : EReal) (N : ℕ) : Prop := N ≤ 252 ∧ ∀ n, 1 ≤ n → n ≤ 255 → (powB (BitVec.ofNat 32 n) ≤ x ↔ n ≤ N)

theorem exists_count {x : ℝ} (hx : x < 2 ^ 126) : ∃ N, IsCount (x : EReal) N := by
  refine ⟨Nat.findGreatest (fun n => (2 : ℝ) ^ ((n : ℤ) - 127) ≤ x) 252, Nat.findGreatest_le _, fun n h1 h2 => ?_⟩
  have mono : ∀ {a b : ℕ}, a ≤ b → (2 : ℝ) ^ ((a : ℤ) - 127) ≤ (2 : ℝ) ^ ((b : ℤ) - 127) := fun h =>
    zpow_le_zpow_right₀ (by norm_num) (by omega)
  by_cases h255 : n = 255
  · subst h255
    rw [powB_top]
    constructor
    · intro h; exact absurd (top_le_iff.mp h) (EReal.coe_ne_top x)
    · intro h; have := Nat.findGreatest_le (P := fun n : ℕ => (2 : ℝ) ^ ((n : ℤ) - 127) ≤ x) 252; omega
  rw [powB_mid h1 (by omega), EReal.coe_le_coe_iff]
  constructor
  · intro h
    have hn : n ≤ 252 := by
      by_contra hc
      have h3 := (mono (show 253 ≤ n by omega)).trans h
      have : (2 : ℝ) ^ (((253 : ℕ) : ℤ) - 127) = 2 ^ 126 := by norm_num
      rw [this] at h3
      exact absurd hx (not_lt.mpr h3)
    exact Nat.le_findGreatest hn h
  · intro h
    have := Nat.findGreatest_of_ne_zero (P := fun n : ℕ => (2 : ℝ) ^ ((n : ℤ) - 127) ≤ x) (n := 252) rfl (by omega)
    exact (mono h).trans this

theorem kS_inv {x : EReal} {N : ℕ} (h : IsCount x N) {s b : ℕ} (hs : 1 ≤ s) (hb : b + s ≤ 255) (h1 : b ≤ N) (h2 : N < b + 2 * s) :
    ∃ b', kS x (BitVec.ofNat 32 s) (BitVec.ofNat 32 b) = BitVec.ofNat 32 b' ∧ b' ≤ N ∧ N < b' + s ∧ b' ≤ b + s := by
  have ha : IntOp.addi (BitVec.ofNat 32 b) (BitVec.ofNat 32 s) = BitVec.ofNat 32 (b + s) := (BitVec.ofNat_add b s).symm
  have hp := h.2 (b + s) (by omega) hb
  unfold kS
  rw [ha]
  by_cases hc : b + s ≤ N
  · refine ⟨b + s, ?_, hc, by omega, le_rfl⟩
    have : Ideal.cmp .oge x (powB (BitVec.ofNat 32 (b + s))) = 1#1 := by simp [Ideal.cmp, hp.mpr hc]
    rw [this]; rfl
  · refine ⟨b, ?_, h1, by omega, by omega⟩
    have : Ideal.cmp .oge x (powB (BitVec.ofNat 32 (b + s))) = 0#1 := by
      simp only [Ideal.cmp, decide_eq_false fun h' => hc (hp.mp h')]; rfl
    rw [this]; rfl

theorem kBe_eq {x : EReal} {N : ℕ} (h : IsCount x N) : kBe x = BitVec.ofNat 32 N := by
  have hN := h.1
  unfold kBe
  obtain ⟨b1, e1, l1, u1, m1⟩ := kS_inv h (s := 128) (b := 0) (by norm_num) (by norm_num) (by omega) (by omega)
  obtain ⟨b2, e2, l2, u2, m2⟩ := kS_inv h (s := 64) (b := b1) (by norm_num) (by omega) (by omega) (by omega)
  obtain ⟨b3, e3, l3, u3, m3⟩ := kS_inv h (s := 32) (b := b2) (by norm_num) (by omega) (by omega) (by omega)
  obtain ⟨b4, e4, l4, u4, m4⟩ := kS_inv h (s := 16) (b := b3) (by norm_num) (by omega) (by omega) (by omega)
  obtain ⟨b5, e5, l5, u5, m5⟩ := kS_inv h (s := 8) (b := b4) (by norm_num) (by omega) (by omega) (by omega)
  obtain ⟨b6, e6, l6, u6, m6⟩ := kS_inv h (s := 4) (b := b5) (by norm_num) (by omega) (by omega) (by omega)
  obtain ⟨b7, e7, l7, u7, m7⟩ := kS_inv h (s := 2) (b := b6) (by norm_num) (by omega) (by omega) (by omega)
  obtain ⟨b8, e8, l8, u8, m8⟩ := kS_inv h (s := 1) (b := b7) (by norm_num) (by omega) (by omega) (by omega)
  rw [show (0#32 : BitVec 32) = BitVec.ofNat 32 0 from rfl, e1, e2, e3, e4, e5, e6, e7, e8]
  congr 1; omega

/-- The count, as a sum of ones. -/
theorem card_words (p : Fin 254 → Bool) (s : Finset (Fin 254)) :
    Finset.fold IntOp.addi 0#32 (fun k => BitVec.setWidth 32 (BitVec.ofBool (p k))) s = BitVec.ofNat 32 (s.filter fun k => p k = true).card := by
  classical
  induction s using Finset.induction_on with
  | empty => rfl
  | insert a s ha ih =>
    rw [Finset.fold_insert ha, ih, Finset.filter_insert]
    cases hp : p a
    · simp [IntOp.addi]
    · rw [if_pos rfl, Finset.card_insert_of_notMem (fun h' => ha (Finset.mem_filter.mp h').1)]
      show (1#32 : BitVec 32) + BitVec.ofNat 32 _ = _
      rw [BitVec.ofNat_add]; exact BitVec.add_comm _ _

theorem count_eq {x : EReal} {N : ℕ} (h : IsCount x N) (p : Fin 254 → Bool) (hp : ∀ k : Fin 254, p k = true ↔ powB (BitVec.ofNat 32 (k.val + 1)) ≤ x) :
    Finset.fold IntOp.addi 0#32 (fun k => BitVec.setWidth 32 (BitVec.ofBool (p k))) Finset.univ = BitVec.ofNat 32 N := by
  have hN := h.1
  rw [card_words]
  congr 1
  have e : (Finset.univ.filter fun k : Fin 254 => p k = true) = Finset.univ.filter fun k : Fin 254 => k.val < N := by
    refine Finset.filter_congr fun k _ => ?_
    rw [hp, h.2 _ (by omega) (by omega)]; omega
  rw [e, Fin.card_filter_val_lt]
  omega

/-- The power of two that a count stands for. -/
def sc (N : ℕ) : ℝ := if N = 0 then 1 else 2 ^ ((N : ℤ) - 126)

theorem expW_zero : expW (BitVec.ofNat 32 0) = 0#32 := by decide
theorem expW_pos {N : ℕ} (h1 : 1 ≤ N) (h2 : N ≤ 252) : expW (BitVec.ofNat 32 N) = IntOp.subi (BitVec.ofNat 32 N) 126#32 := by
  have h : ∀ n : Fin 252, expW (BitVec.ofNat 32 (n.val + 1)) = IntOp.subi (BitVec.ofNat 32 (n.val + 1)) 126#32 := by decide
  have := h ⟨N - 1, by omega⟩
  rwa [show N - 1 + 1 = N from by omega] at this

theorem scale_up {N : ℕ} (hN : N ≤ 252) : powB (IntOp.addi (expW (BitVec.ofNat 32 N)) 127#32) = ((sc N : ℝ) : EReal) := by
  unfold sc
  by_cases h0 : N = 0
  · subst h0
    rw [expW_zero, if_pos rfl, show IntOp.addi 0#32 127#32 = BitVec.ofNat 32 127 from rfl, powB_mid (by norm_num) (by norm_num)]
    norm_num
  · have h : ∀ n : Fin 252, IntOp.addi (IntOp.subi (BitVec.ofNat 32 (n.val + 1)) 126#32) 127#32 = BitVec.ofNat 32 (n.val + 2) := by decide
    have hn := h ⟨N - 1, by omega⟩
    rw [show (⟨N - 1, by omega⟩ : Fin 252).val = N - 1 from rfl, show N - 1 + 1 = N from by omega, show N - 1 + 2 = N + 1 from by omega] at hn
    rw [expW_pos (by omega) hN, if_neg h0, hn, powB_mid (by omega) (by omega)]
    congr 2; push_cast; ring
theorem scale_down {N : ℕ} (hN : N ≤ 252) : powB (IntOp.subi 127#32 (expW (BitVec.ofNat 32 N))) = (((sc N)⁻¹ : ℝ) : EReal) := by
  unfold sc
  by_cases h0 : N = 0
  · subst h0
    rw [expW_zero, if_pos rfl, show IntOp.subi 127#32 0#32 = BitVec.ofNat 32 127 from rfl, powB_mid (by norm_num) (by norm_num)]
    norm_num
  · have h : ∀ n : Fin 252, IntOp.subi 127#32 (IntOp.subi (BitVec.ofNat 32 (n.val + 1)) 126#32) = BitVec.ofNat 32 (252 - n.val) := by decide
    have hn := h ⟨N - 1, by omega⟩
    rw [show (⟨N - 1, by omega⟩ : Fin 252).val = N - 1 from rfl, show N - 1 + 1 = N from by omega, show 252 - (N - 1) = 253 - N from by omega] at hn
    rw [expW_pos (by omega) hN, if_neg h0, hn, powB_mid (by omega) (by omega), ← zpow_neg]
    congr 2; rw [Nat.cast_sub (by omega)]; push_cast; ring

/-! ## By the exponential -/

theorem exp2_int (w : BitVec 32) : Ideal.exp2 (FloatOps.sitofp (F := Ideal) .f32 w) = (((2 : ℝ) ^ (w.toInt) : ℝ) : EReal) := by
  show ((Real.rpow 2 ((w.toInt : ℤ) : ℝ) : ℝ) : EReal) = _
  exact congrArg _ (Real.rpow_intCast 2 w.toInt)
theorem exp2_neg (w : BitVec 32) : Ideal.exp2 (0 - FloatOps.sitofp (F := Ideal) .f32 w) = (((2 : ℝ) ^ (-w.toInt) : ℝ) : EReal) := by
  have : (0 - FloatOps.sitofp (F := Ideal) .f32 w : EReal) = (((-w.toInt : ℤ) : ℝ) : EReal) := by
    rw [zero_sub]
    show -(((w.toInt : ℤ) : ℝ) : EReal) = _
    rw [← EReal.coe_neg]; push_cast; rfl
  rw [this]
  show ((Real.rpow 2 (((-w.toInt : ℤ)) : ℝ) : ℝ) : EReal) = _
  exact congrArg _ (Real.rpow_intCast 2 _)

/-- The exponent of a count. -/
def expR (w : BitVec 32) : BitVec 32 := Scalar.select (IntOp.cmpi .eq w 0#32) 0#32 (IntOp.subi w 126#32)

theorem expR_toInt {N : ℕ} (hN : N ≤ 252) : (expR (BitVec.ofNat 32 N)).toInt = if N = 0 then 0 else (N : ℤ) - 126 := by
  have h : ∀ n : Fin 253, (expR (BitVec.ofNat 32 n.val)).toInt = if n.val = 0 then 0 else (n.val : ℤ) - 126 := by decide
  exact h ⟨N, by omega⟩

theorem exp2_up {N : ℕ} (hN : N ≤ 252) : Ideal.exp2 (FloatOps.sitofp (F := Ideal) .f32 (expR (BitVec.ofNat 32 N))) = ((sc N : ℝ) : EReal) := by
  rw [exp2_int, expR_toInt hN]
  unfold sc
  split_ifs
  · simp
  · rfl
theorem exp2_down {N : ℕ} (hN : N ≤ 252) : Ideal.exp2 (0 - FloatOps.sitofp (F := Ideal) .f32 (expR (BitVec.ofNat 32 N))) = (((sc N)⁻¹ : ℝ) : EReal) := by
  rw [exp2_neg, expR_toInt hN]
  unfold sc
  split_ifs
  · simp
  · rw [zpow_neg]
theorem exp2_step (k : Fin 254) : FloatOps.exp2 (F := Ideal) (φ := .f32) (FloatOps.sitofp .f32 (IntOp.subi (BitVec.ofNat 32 k.val) 126#32)) = powB (BitVec.ofNat 32 (k.val + 1)) := by
  have h : ∀ k : Fin 254, (IntOp.subi (BitVec.ofNat 32 k.val) 126#32).toInt = (k.val : ℤ) - 126 := by decide
  refine (exp2_int _).trans ?_
  rw [h, powB_mid (by omega) (by omega)]
  congr 2; push_cast; ring

end Cert.KernelIdeal.Hand

end
-- ==== Proof.Scale.lean ====
/-
  The kernel's row scales, read at a row.
-/
module

public import proofs.«01_k».proof.Proof.Expo
public import proofs.«01_k».proof.Proof.Struct
public import proofs.«01_k».proof.Proof.Tiles
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe

theorem max_rows (v : FVec Ideal S128x128 .f32) (hr : S128x128.Reduces [0] S128) (hφ) (ha) (l : Fin 128) :
    multiReduction .maximumf [0] S128 v 0xFF800000#32 hr hφ ha (ix1 l) = (Finset.univ : Finset (Fin 128)).fold max (⊥ : EReal) fun k => v (ix2 k l) := by
  have e : (FloatOps.ofBits (F := Ideal) .f32 0xFF800000#32 : EReal) = ⊥ := by simp [FloatOps.ofBits, Ideal.ofBits, Ideal.ieee]
  rw [Ideal.multiReduction_maximumf_single, e]
  refine Finset.fold_congr fun k _ => congrArg v ?_
  funext a
  match a with
  | ⟨0, _⟩ => rfl
  | ⟨1, _⟩ => rfl

theorem half_max (v : FVec Ideal S128x128 .f32) (w : FVec Ideal S128x128 .f32) (hw : ∀ k l, w (ix2 k l) = v (ix2 l k)) (hr : S128x128.Reduces [0] S128) (hφ) (ha) (l : Fin 128) :
    (shapeCast S1x128 (multiReduction .maximumf [0] S128 w 0xFF800000#32 hr hφ ha) shapeCasts_S128_S1x128 (ix2 0 l) : EReal) = (Finset.univ : Finset (Fin 128)).fold max (⊥ : EReal) fun k => v (ix2 l k) := by
  have h := max_rows w hr hφ ha l
  generalize multiReduction .maximumf [0] S128 w 0xFF800000#32 hr hφ ha = u at h ⊢
  have e : shapeCast S1x128 u shapeCasts_S128_S1x128 (ix2 0 l) = u (ix1 l) := by pointwise
  refine e.trans (h.trans (Finset.fold_congr fun k _ => hw k l))

theorem pay1499_ix (am : Vec Ideal S256x128 .f32) (ρ : Fin 256) :
    k0_pay1499 am (ix2 0 ρ) = ((Finset.univ : Finset (Fin 128)).fold max (⊥ : EReal) fun k => am (ix2 ρ k)) * Ideal.ofBits .f32 0x3F8E38E4#32 * Ideal.ofBits .f32 0x37924925#32 := by
  unfold k0_pay1499
  dsimp only
  refine congrArg (fun y : EReal => y * Ideal.ofBits .f32 0x3F8E38E4#32 * Ideal.ofBits .f32 0x37924925#32) ?_
  by_cases h : ρ.val < 128
  · refine (concatenate_pair_apply_left (t := S1x256) (s₁ := S1x128) (s₂ := S1x128) 1 _ _ _ _ rfl (ix2 0 ⟨ρ.val, h⟩) fun b => ?_).trans ?_
    · match b with
      | ⟨0, _⟩ => rfl
      | ⟨1, _⟩ => rfl
    · refine (half_max (extractStridedSlice S128x128 ![0, 0] am slices_S256x128_o0_0_S128x128) _ (fun k l => by pointwise) _ _ _ _).trans (Finset.fold_congr fun k _ => ?_)
      pointwise
  · refine (concatenate_pair_apply_right (t := S1x256) (s₁ := S1x128) (s₂ := S1x128) 1 _ _ _ _ rfl rfl (ix2 0 ⟨ρ.val - 128, by omega⟩) (fun b hb => ?_) ?_).trans ?_
    · match b with
      | ⟨0, _⟩ => rfl
      | ⟨1, _⟩ => exact absurd rfl hb
    · show ρ.val - 128 + 128 = ρ.val; omega
    · refine (half_max (extractStridedSlice S128x128 ![128, 0] am slices_S256x128_o128_0_S128x128) _ (fun k l => by pointwise) _ _ _ _).trans (Finset.fold_congr fun k _ => ?_)
      pointwise
      exact congrArg (fun r => am (ix2 r k)) (Fin.ext (by show 128 + (ρ.val - 128) = ρ.val; omega))

theorem pay1500_ix (am : Vec Ideal S256x128 .f32) (i : S1x256.Idx) : k0_pay1500 am i = kS (k0_pay1499 am i) 128#32 0#32 := by
  unfold k0_pay1500 kS powB
  generalize k0_pay1499 am = x
  pointwise
  all_goals rfl
theorem pay1501_ix (am : Vec Ideal S256x128 .f32) (i : S1x256.Idx) : k0_pay1501 am i = Ideal.cmp .oge (k0_pay1499 am i) (powB (IntOp.addi (k0_pay1500 am i) 64#32)) := rfl
theorem pay1503_ix (x : FVec Ideal S1x256 .f32) (b : IVec S1x256 32) (p : IVec S1x256 1) (s : IVec S1x256 32) (i : S1x256.Idx) :
    k0_pay1503 x b p s i = kS (x i) 4#32 (kS (x i) 8#32 (kS (x i) 16#32 (kS (x i) 32#32 (Scalar.select (p i) (IntOp.addi (b i) (s i)) (b i))))) := rfl
theorem pay1504_ix (x : FVec Ideal S1x256 .f32) (b : IVec S1x256 32) (p : IVec S1x256 1) (s : IVec S1x256 32) (i : S1x256.Idx) :
    k0_pay1504 x b p s i = Ideal.cmp .oge (x i) (powB (IntOp.addi (k0_pay1503 x b p s i) 2#32)) := rfl
theorem pay1506_ix (x : FVec Ideal S1x256 .f32) (b : IVec S1x256 32) (p : IVec S1x256 1) (s : IVec S1x256 32) (i : S1x256.Idx) :
    k0_pay1506 x b p s i = expW (kS (x i) 1#32 (Scalar.select (p i) (IntOp.addi (b i) (s i)) (b i))) := rfl

theorem pE_ix (am : Vec Ideal S256x128 .f32) (i : S1x256.Idx) : k0_pay1506 (k0_pay1499 am) (pE1 am) (pE2 am) k0_pay1505 i = expW (kBe (k0_pay1499 am i)) := by
  have h2 : Scalar.select (pE2 am i) (IntOp.addi (pE1 am i) (k0_pay1505 i)) (pE1 am i) = kS (k0_pay1499 am i) 2#32 (pE1 am i) := by
    unfold pE2
    rw [pay1504_ix]; rfl
  have h1 : Scalar.select (k0_pay1501 am i) (IntOp.addi (k0_pay1500 am i) (k0_pay1502 i)) (k0_pay1500 am i) = kS (k0_pay1499 am i) 64#32 (kS (k0_pay1499 am i) 128#32 0#32) := by
    rw [pay1501_ix, pay1500_ix]; rfl
  rw [pay1506_ix, h2]
  unfold pE1
  rw [pay1503_ix, h1]
  rfl

theorem pScale_ix (am : Vec Ideal S256x128 .f32) (i : S1x256.Idx) : pScale am i = powB (IntOp.addi (expW (kBe (k0_pay1499 am i))) 127#32) := by
  rw [← pE_ix]; rfl

theorem pay1508_ix (x : FVec Ideal S1x256 .f32) (b : IVec S1x256 32) (p : IVec S1x256 1) (s : IVec S1x256 32) (ρ : Fin 256) (l : Fin 128) :
    k0_pay1508 x b p s (ix2 ρ l) = powB (IntOp.subi 127#32 (k0_pay1506 x b p s (ix2 0 ρ))) * Ideal.ofBits .f32 0x3F8E38E4#32 := by
  unfold k0_pay1508 powB
  generalize k0_pay1506 x b p s = e
  pointwise
  split
  · rfl
  · rw [show (⟨128 + (ρ.val - 128), by omega⟩ : Fin 256) = ρ from Fin.ext (by show 128 + (ρ.val - 128) = ρ.val; omega)]

theorem pQs_ix (am : Vec Ideal S256x128 .f32) (ρ : Fin 256) (l : Fin 128) :
    pQs am (ix2 ρ l) = powB (IntOp.subi 127#32 (expW (kBe (k0_pay1499 am (ix2 0 ρ))))) * Ideal.ofBits .f32 0x3F8E38E4#32 := by
  rw [← pE_ix, ← pay1508_ix _ _ _ _ ρ l]
  unfold pQs k0_pay1509
  rw [shapeCast_self]

end Cert.KernelIdeal.Hand

end
-- ==== Proof.Bound.lean ====
/-
  The size of the gradient when the inputs are bounded, and its largest element in a row.
-/
module

public import proofs.«01_k».proof.Proof.Alg
public import proofs.«01_k».proof.Proof.Expo

@[expose] public section

set_option maxRecDepth 16384

noncomputable section

namespace Cert.KernelIdeal.Hand

open Idealize.ShloMosaic
open Finset (range)

/-- Every input is of size at most 2^16. -/
structure Ins.Small (D : Ins) : Prop where
  c : ∀ b n κ, |D.c b n κ| ≤ 2 ^ 16
  s : ∀ b n, |D.s b n| ≤ 2 ^ 16
  res : ∀ b n κ, |D.res b n κ| ≤ 2 ^ 16
  h : ∀ b n κ, |D.h b n κ| ≤ 2 ^ 16
  mu : ∀ b n, |D.mu b n| ≤ 2 ^ 16
  r : ∀ b n, |D.r b n| ≤ 2 ^ 16
  g : ∀ κ, |D.g κ| ≤ 2 ^ 16

theorem abs_mul_le {x y a b : ℝ} (hx : |x| ≤ a) (hy : |y| ≤ b) : |x * y| ≤ a * b := by
  rw [abs_mul]
  exact mul_le_mul hx hy (abs_nonneg y) ((abs_nonneg x).trans hx)
theorem abs_sub_le' {x y a b : ℝ} (hx : |x| ≤ a) (hy : |y| ≤ b) : |x - y| ≤ a + b := (abs_sub x y).trans (add_le_add hx hy)
theorem abs_add_le' {x y a b : ℝ} (hx : |x| ≤ a) (hy : |y| ≤ b) : |x + y| ≤ a + b := (abs_add_le x y).trans (add_le_add hx hy)
theorem abs_sum_le {N : ℕ} {f : ℕ → ℝ} {B : ℝ} (h : ∀ k, |f k| ≤ B) : |∑ k ∈ range N, f k| ≤ N * B := by
  refine (Finset.abs_sum_le_sum_abs _ _).trans ?_
  refine (Finset.sum_le_card_nsmul _ _ B fun k _ => h k).trans ?_
  rw [Finset.card_range, nsmul_eq_mul]

theorem Ins.Small.dh {D : Ins} (H : D.Small) (b n κ : ℕ) : |D.dh b n κ| ≤ 2 ^ 132 := by
  have hdy : ∀ κ, |D.dy b n κ| ≤ 2 ^ 16 * 2 ^ 16 := fun κ => abs_mul_le (H.c b n κ) (H.s b n)
  have hgg : ∀ κ, |D.gg b n κ| ≤ 2 ^ 16 * 2 ^ 16 * 2 ^ 16 := fun κ => abs_mul_le (hdy κ) (H.g κ)
  have hxh : ∀ κ, |D.xh b n κ| ≤ (2 ^ 16 + 2 ^ 16) * 2 ^ 16 := fun κ => abs_mul_le (abs_sub_le' (H.h b n κ) (H.mu b n)) (H.r b n)
  have h1 : |D.s1 b n| ≤ (1536 : ℕ) * (2 ^ 16 * 2 ^ 16 * 2 ^ 16) := abs_sum_le hgg
  have h2 : |D.s2 b n| ≤ (1536 : ℕ) * (2 ^ 16 * 2 ^ 16 * 2 ^ 16 * ((2 ^ 16 + 2 ^ 16) * 2 ^ 16)) := abs_sum_le fun κ => abs_mul_le (hgg κ) (hxh κ)
  have hi : |iD| ≤ 1 / 2 ^ 10 := by unfold iD; rw [abs_of_nonneg (by norm_num)]; norm_num
  have := abs_add_le' (abs_mul_le (H.r b n) (abs_sub_le' (abs_sub_le' (hgg κ) (abs_mul_le h1 hi)) (abs_mul_le (hxh κ) (abs_mul_le h2 hi)))) (H.res b n κ)
  refine le_trans this ?_
  norm_num

theorem Ins.Small.dm {D : Ins} (H : D.Small) (b n κ : ℕ) : |D.dm b n κ| ≤ 2 ^ 132 := by
  unfold Ins.dm
  split_ifs
  · exact H.dh b n κ
  · rw [abs_zero]; norm_num

/-- `A` is the largest size in row `n` of batch `b`. -/
def Ins.IsMax (D : Ins) (b n : ℕ) (A : ℝ) : Prop := (∀ κ < 1536, |D.dm b n κ| ≤ A) ∧ ∃ κ < 1536, |D.dm b n κ| = A

theorem Ins.exists_max (D : Ins) (b n : ℕ) : ∃ A, D.IsMax b n A := by
  obtain ⟨κ, hκ, h⟩ := Finset.exists_max_image (range 1536) (fun κ => |D.dm b n κ|) ⟨0, Finset.mem_range.mpr (by norm_num)⟩
  exact ⟨_, fun κ' h' => h κ' (Finset.mem_range.mpr h'), κ, Finset.mem_range.mp hκ, rfl⟩

theorem Ins.Small.exists_count {D : Ins} (H : D.Small) {b n : ℕ} {A : ℝ} (hA : D.IsMax b n A) : ∃ N, IsCount ((A * ks * qc : ℝ) : EReal) N := by
  refine Hand.exists_count ?_
  obtain ⟨κ, -, rfl⟩ := hA.2
  have h := H.dm b n κ
  calc |D.dm b n κ| * ks * qc ≤ 2 ^ 132 * ks * qc := by
        refine mul_le_mul_of_nonneg_right (mul_le_mul_of_nonneg_right h ?_) ?_
        · unfold ks; norm_num
        · unfold qc; norm_num
    _ < 2 ^ 126 := by unfold ks qc; norm_num

theorem max_abs (x : ℝ) : max (x : EReal) (-(x : EReal)) = ((|x| : ℝ) : EReal) := by
  rw [← EReal.coe_neg, abs_eq_max_neg]
  exact (EReal.coe_strictMono.monotone.map_max (a := x) (b := -x)).symm

theorem fold_max_eq {ι : Type} (s : Finset ι) (f : ι → EReal) (v : EReal) (hub : ∀ k ∈ s, f k ≤ v) (h : ∃ k ∈ s, v ≤ f k) : s.fold max (⊥ : EReal) f = v := by
  refine le_antisymm (Finset.fold_max_le v |>.mpr ⟨bot_le, hub⟩) ?_
  exact (Finset.le_fold_max v).mpr (Or.inr h)

end Cert.KernelIdeal.Hand

end
-- ==== Proof.Quant.lean ====
/-
  The kernel's row scales and codes as the plain formulas.
-/
module

public import proofs.«01_k».proof.Proof.Mask
public import proofs.«01_k».proof.Proof.Scale
public import proofs.«01_k».proof.Proof.Bound

@[expose] public section

set_option maxRecDepth 16384

noncomputable section

namespace Cert.KernelIdeal.Hand

open Cert.KernelIdeal Cert.KernelIdeal.Gen
open Idealize.ShloMosaic Idealize.ShloMosaic.TcCoe Idealize.ShloMosaic.VecWindow
open Finset (range)

variable (m : (ℓ : Loc nD τ sig) → Buf (Elt Ideal) ℓ) (c : Dev nD) [Cert.Pre_tame.Facts]

theorem smallM (hT : TameM m c) : (insM m c).Small := by
  obtain ⟨t0, t1, t2, t4, t5, t6, t7⟩ := tame_spec _ _ _ _ _ _ _ _ hT
  have e : (65536 : ℝ) = 2 ^ 16 := by norm_num
  rw [e] at t0 t1 t2 t4 t5 t6 t7
  exact ⟨fun b n κ => (t0 _).abs_le, fun b n => (t1 _).abs_le, fun b n κ => (t2 _).abs_le, fun b n κ => (t4 _).abs_le, fun b n => (t5 _).abs_le,
    fun b n => (t6 _).abs_le, fun κ => (t7 _).abs_le⟩

/-- The row's largest size, in the kernel's order. -/
theorem am_val (hT : TameM m c) {b n : ℕ} (hb : b < 32) (hn : n < 2048) {A : ℝ} (hA : (insM m c).IsMax b n A) (ρ : Fin 256) (hρ : ρ.val = n % 256) :
    ((Finset.univ : Finset (Fin 128)).fold max (⊥ : EReal) fun l => gAm m c (pt (8 * b + n / 256)) (ix2 ρ l)) = (A : EReal) := by
  have hv : ∀ κ < 1536, max (gDM m c (pt (8 * b + n / 256)) (n % 256) κ) (-(gDM m c (pt (8 * b + n / 256)) (n % 256) κ)) = ((|(insM m c).dm b n κ| : ℝ) : EReal) := fun κ hκ => by
    rw [dm_val m c (insM m c) (holdsM m c hT) (maskM m c) hb hn hκ, max_abs]
  have hl : ∀ l : Fin 128, gAm m c (pt (8 * b + n / 256)) (ix2 ρ l) = (range 12).sup fun k => ((|(insM m c).dm b n (128 * k + l.val)| : ℝ) : EReal) := fun l => by
    unfold gAm
    refine Finset.sup_congr rfl fun k hk => ?_
    have hk := Finset.mem_range.mp hk
    rw [← hv (128 * k + l.val) (by omega)]
    show max (gDM m c _ ρ.val _) (-(gDM m c _ ρ.val _)) = _
    rw [hρ]
    rfl
  refine fold_max_eq _ _ _ (fun l _ => ?_) ?_
  · rw [hl]
    refine Finset.sup_le fun k hk => ?_
    have hk := Finset.mem_range.mp hk
    exact EReal.coe_le_coe_iff.mpr (hA.1 _ (by omega))
  · obtain ⟨κ, hκ, e⟩ := hA.2
    refine ⟨⟨κ % 128, Nat.mod_lt _ (by norm_num)⟩, Finset.mem_univ _, ?_⟩
    rw [hl, ← e]
    have := Finset.le_sup (f := fun k => ((|(insM m c).dm b n (128 * k + κ % 128)| : ℝ) : EReal)) (Finset.mem_range.mpr (show κ / 128 < 12 by omega))
    rwa [show 128 * (κ / 128) + κ % 128 = κ from by omega] at this

theorem x_val (hT : TameM m c) {b n : ℕ} (hb : b < 32) (hn : n < 2048) {A : ℝ} (hA : (insM m c).IsMax b n A) (ρ : Fin 256) (hρ : ρ.val = n % 256) :
    k0_pay1499 (gAm m c (pt (8 * b + n / 256))) (ix2 0 ρ) = ((A * ks * qc : ℝ) : EReal) := by
  rw [pay1499_ix, am_val m c hT hb hn hA ρ hρ, qc_eq, show Ideal.ofBits .f32 0x3F8E38E4#32 = ((ks : ℝ) : EReal) from keepS_eq, ← EReal.coe_mul, ← EReal.coe_mul]

theorem das_val (hT : TameM m c) {b n : ℕ} (hb : b < 32) (hn : n < 2048) {A : ℝ} (hA : (insM m c).IsMax b n A) {N : ℕ} (hN : IsCount ((A * ks * qc : ℝ) : EReal) N) :
    r2 (A := 1) (B := 256) (pScale (gAm m c (pt (8 * b + n / 256)))) 0 (n % 256) = ((sc N : ℝ) : EReal) := by
  unfold r2
  rw [ofNat_eq (A := 256) (Nat.mod_lt n (by norm_num)), pScale_ix]
  rw [show (ix2 (Fin.ofNat 1 0) (⟨n % 256, Nat.mod_lt n (by norm_num)⟩ : Fin 256) : S1x256.Idx) = ix2 0 (⟨n % 256, Nat.mod_lt n (by norm_num)⟩ : Fin 256) from rfl]
  rw [x_val m c hT hb hn hA _ rfl, kBe_eq hN, scale_up hN.1]

theorem da_val (hT : TameM m c) {b n κ : ℕ} (hb : b < 32) (hn : n < 2048) (hκ : κ < 1536) {A : ℝ} (hA : (insM m c).IsMax b n A) {N : ℕ} (hN : IsCount ((A * ks * qc : ℝ) : EReal) N) :
    gDM m c (pt (8 * b + n / 256)) (n % 256) κ * r2 (pQs (gAm m c (pt (8 * b + n / 256)))) (n % 256) 0 = (((insM m c).da b n κ * (sc N)⁻¹ : ℝ) : EReal) := by
  unfold r2
  rw [ofNat_eq (A := 256) (Nat.mod_lt n (by norm_num)), pQs_ix, x_val m c hT hb hn hA _ rfl, kBe_eq hN, scale_down hN.1,
    show Ideal.ofBits .f32 0x3F8E38E4#32 = ((ks : ℝ) : EReal) from keepS_eq, dm_val m c (insM m c) (holdsM m c hT) (maskM m c) hb hn hκ, ← EReal.coe_mul, ← EReal.coe_mul]
  refine congrArg _ ?_
  unfold Ins.da
  ring

end Cert.KernelIdeal.Hand

end
-- ==== Proof.Results.lean ====
/-
  The six results over the reals: what both programs end with.
-/
module

public import proofs.«01_k».proof.Proof.Bound

@[expose] public section

set_option maxRecDepth 16384

noncomputable section

namespace Cert.KernelIdeal.Hand

open Idealize.ShloMosaic

/-- The largest size in a row. -/
def Ins.amax (D : Ins) (b n : ℕ) : ℝ := (D.exists_max b n).choose
theorem Ins.amax_spec (D : Ins) (b n : ℕ) : D.IsMax b n (D.amax b n) := (D.exists_max b n).choose_spec

/-- The count of powers of two up to a row's largest quotient. -/
def Ins.Small.count {D : Ins} (H : D.Small) (b n : ℕ) : ℕ := (H.exists_count (D.amax_spec b n)).choose
theorem Ins.Small.count_spec {D : Ins} (H : D.Small) (b n : ℕ) : IsCount ((D.amax b n * ks * qc : ℝ) : EReal) (H.count b n) :=
  (H.exists_count (D.amax_spec b n)).choose_spec

/-- The gradient of the layer norm's input. -/
def vDx (D : Ins) (y : (⟨3, ![32, 2048, 1536]⟩ : Shape).Idx) : EReal := ((D.dh (y 0).val (y 1).val (y 2).val : ℝ) : EReal)
/-- A row of sums. -/
def vRow (f : ℕ → ℝ) (y : (⟨2, ![1, 1536]⟩ : Shape).Idx) : EReal := ((f (y 1).val : ℝ) : EReal)
/-- The codes. -/
def vDa {D : Ins} (H : D.Small) (y : (⟨3, ![32, 2048, 1536]⟩ : Shape).Idx) : EReal :=
  min (Ideal.ofBits .f32 0x47600000#32) (max (Ideal.ofBits .f32 0xC7600000#32) ((D.da (y 0).val (y 1).val (y 2).val * (sc (H.count (y 0).val (y 1).val))⁻¹ : ℝ) : EReal))
/-- The scales. -/
def vDas {D : Ins} (H : D.Small) (y : (⟨2, ![32, 2048]⟩ : Shape).Idx) : EReal := ((sc (H.count (y 0).val (y 1).val) : ℝ) : EReal)

theorem agree3 {A B C : ℕ} (x z : (⟨3, ![A, B, C]⟩ : Shape).Idx → EReal) (h : ∀ (a : Fin A) (b : Fin B) (c : Fin C), x (ix3 a b c) = z (ix3 a b c)) : x = z := by
  funext y
  have e : y = ix3 (y 0) (y 1) (y 2) := by
    funext a
    match a with
    | ⟨0, _⟩ => rfl
    | ⟨1, _⟩ => rfl
    | ⟨2, _⟩ => rfl
  rw [e]; exact h _ _ _
theorem agree2 {A B : ℕ} (x z : (⟨2, ![A, B]⟩ : Shape).Idx → EReal) (h : ∀ (a : Fin A) (b : Fin B), x (ix2 a b) = z (ix2 a b)) : x = z := by
  funext y
  have e : y = ix2 (y 0) (y 1) := by
    funext a
    match a with
    | ⟨0, _⟩ => rfl
    | ⟨1, _⟩ => rfl
  rw [e]; exact h _ _

end Cert.KernelIdeal.Hand

end
-- ==== Proof.KFin.lean ====
/-
  What the kernel's run leaves in the six result arrays.
-/
module

public import proofs.«01_k».proof.Proof.Quant
public import proofs.«01_k».proof.Proof.Results

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (RDat)
open Finset (range)

variable {m : (ℓ : Loc nD τ sig) → Buf (Elt Ideal) ℓ} [Cert.Pre_tame.Facts]
variable {r : PUnit × MemSt nD τ sig (Elt Ideal)} (h : RDat.FramePost (cfgs 0) (fun c => rdat m c) (V m) r) (c : Dev nD) (hT : TameM m c)

theorem fin_q3 {A B C : ℕ} [NeZero A] [NeZero B] [NeZero C] {α : Type} (x : (⟨3, ![A, B, C]⟩ : Shape).Idx → α) (a : Fin A) (b : Fin B) (k : Fin C) :
    x (ix3 a b k) = q3 x a.val b.val k.val := by
  unfold q3
  rw [ofNat_eq a.isLt, ofNat_eq b.isLt, ofNat_eq k.isLt]
theorem fin_r2 {A B : ℕ} [NeZero A] [NeZero B] {α : Type} (x : (⟨2, ![A, B]⟩ : Shape).Idx → α) (a : Fin A) (b : Fin B) :
    x (ix2 a b) = r2 x a.val b.val := by
  unfold r2
  rw [ofNat_eq a.isLt, ofNat_eq b.isLt]
theorem fin_row {B : ℕ} [NeZero B] {α : Type} (x : (⟨2, ![1, B]⟩ : Shape).Idx → α) (a : Fin 1) (b : Fin B) : x (ix2 a b) = r2 x 0 b.val := by
  rw [Subsingleton.elim a 0]; exact fin_r2 x 0 b

include h hT in
theorem k_dx : (r.2.mem ((c.tc : Thread nD τ).loc main_v2_0) : Vec Ideal S32x2048x1536 .bf16) = vDx (insM m c) :=
  agree3 _ _ fun b n k => (fin_q3 _ b n k).trans ((out_dx h c b.isLt n.isLt k.isLt).trans (dx_val m c _ (holdsM m c hT) b.isLt n.isLt k.isLt))
include h hT in
theorem k_dgamma : (r.2.mem ((c.tc : Thread nD τ).loc main_v2_1) : Vec Ideal S1x1536 .f32) = vRow (insM m c).dgamma :=
  agree2 _ _ fun a k => (fin_row _ a k).trans ((out_dgamma h c k.isLt).trans (dgamma_val m c _ (holdsM m c hT) k.isLt))
include h hT in
theorem k_dbeta : (r.2.mem ((c.tc : Thread nD τ).loc main_v2_2) : Vec Ideal S1x1536 .f32) = vRow (insM m c).dbeta :=
  agree2 _ _ fun a k => (fin_row _ a k).trans ((out_dbeta h c k.isLt).trans (dbeta_val m c _ (holdsM m c hT) k.isLt))
include h hT in
theorem k_dbias : (r.2.mem ((c.tc : Thread nD τ).loc main_v2_3) : Vec Ideal S1x1536 .f32) = vRow (insM m c).dbias :=
  agree2 _ _ fun a k => (fin_row _ a k).trans ((out_dbias h c k.isLt).trans (dbias_val m c _ (holdsM m c hT) (maskM m c) k.isLt))
include h hT in
theorem k_da : (r.2.mem ((c.tc : Thread nD τ).loc main_v2_4) : Vec Ideal S32x2048x1536 .fp8e5m2) = vDa (smallM m c hT) :=
  agree3 _ _ fun b n k => (fin_q3 _ b n k).trans ((out_da h c b.isLt n.isLt k.isLt).trans (congrArg (fun z : EReal => min (Ideal.ofBits .f32 0x47600000#32) (max (Ideal.ofBits .f32 0xC7600000#32) z))
    (da_val m c hT b.isLt n.isLt k.isLt ((insM m c).amax_spec b.val n.val) ((smallM m c hT).count_spec b.val n.val))))
include h hT in
theorem k_das : (r.2.mem ((c.tc : Thread nD τ).loc main_v2_5) : Vec Ideal S32x2048 .f32) = vDas (smallM m c hT) :=
  agree2 _ _ fun b n => (fin_r2 _ b n).trans ((out_das h c b.isLt n.isLt).trans
    (das_val m c hT b.isLt n.isLt ((insM m c).amax_spec b.val n.val) ((smallM m c hT).count_spec b.val n.val)))

end Cert.KernelIdeal.Hand

end
-- ==== Proof.RefPay.lean ====
/-
  What the plain formulas compute, element by element, over the extended reals.
-/
module

public import proofs.«01_k».proof.Proof.Gen.ReferenceIdeal.Frame
public import Idealize.ShloMosaic.Lib.Pointwise

@[expose] public section

set_option maxRecDepth 16384

noncomputable section

namespace Cert.ReferenceIdeal.Hand

open Cert.ReferenceIdeal Cert.ReferenceIdeal.Gen
open Idealize.ShloMosaic

variable (c : Vec Ideal S32x2048x1536 .fp8e5m2) (s : Vec Ideal S32x2048 .f32) (r : Vec Ideal S32x2048 .f32)
  (h : Vec Ideal S32x2048x1536 .bf16) (μ : Vec Ideal S32x2048 .f32) (g : Vec Ideal S1536 .f32) (res : Vec Ideal S32x2048x1536 .bf16)
  (mk : Vec Ideal S32x2048x192 .i8)

theorem pay4_ix (b : Fin 32) (n : Fin 2048) (k : Fin 1536) : k0_pay4 c s (ix3 b n k) = (c (ix3 b n k) : EReal) * s (ix2 b n) := by
  pointwise [k0_pay4]
theorem pay6_ix (b : Fin 32) (n : Fin 2048) (k : Fin 1536) : k0_pay6 r h μ (ix3 b n k) = ((h (ix3 b n k) : EReal) - μ (ix2 b n)) * r (ix2 b n) := by
  pointwise [k0_pay6, k0_pay5]
theorem pay7_ix (b : Fin 32) (n : Fin 2048) (k : Fin 1536) : k0_pay7 c s r h μ g res (ix3 b n k)
    = (r (ix2 b n) : EReal) * (k0_pay4 c s (ix3 b n k) * g (ix1 k)
        - (∑ k' : Fin 1536, (k0_pay4 c s (ix3 b n k') : EReal) * g (ix1 k')) * Ideal.ofBits .f32 0x3A2AAAAB#32
        - k0_pay6 r h μ (ix3 b n k) * ((∑ k' : Fin 1536, (k0_pay4 c s (ix3 b n k') : EReal) * g (ix1 k') * k0_pay6 r h μ (ix3 b n k')) * Ideal.ofBits .f32 0x3A2AAAAB#32))
      + res (ix3 b n k) := by
  pointwise [k0_pay7, k0_pay5]
theorem pay8_ix (v : FVec Ideal S32x2048x1536 .f32) (b : Fin 32) (n : Fin 2048) (k : Fin 1536) : k0_pay8 v (ix3 b n k) = v (ix3 b n k) := by
  pointwise [k0_pay8]
/-- A sum over the first two axes. -/
theorem redAdd01 (hr : S32x2048x1536.Reduces [0, 1] S1536) (v : S32x2048x1536.Idx → EReal) (k : Fin 1536) :
    Ideal.reduceAdd hr v (ix1 k) = ∑ b : Fin 32, ∑ n : Fin 2048, v (ix3 b n k) := by
  refine (Finset.sum_filter_eq_sum_of_fiber _ (fun p : Fin 32 × Fin 2048 => ix3 p.1 p.2 k)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨p, rfl⟩
      funext b
      match b with
      | ⟨0, _⟩ => rfl
  · simp only [Fintype.sum_prod_type]

/-- The byte that holds a column's bit. -/
theorem octet_lt (k : Fin 1536) : k.val / 8 < 192 := by omega

theorem pay10_ix (u v : FVec Ideal S32x2048x1536 .f32) (k : Fin 1536) : k0_pay10 u v (ix2 0 k) = ∑ b : Fin 32, ∑ n : Fin 2048, (u (ix3 b n k) : EReal) * v (ix3 b n k) := by
  pointwise [k0_pay10]
  exact redAdd01 _ _ _
theorem pay11_ix (u : FVec Ideal S32x2048x1536 .f32) (k : Fin 1536) : k0_pay11 u (ix2 0 k) = ∑ b : Fin 32, ∑ n : Fin 2048, (u (ix3 b n k) : EReal) := by
  pointwise [k0_pay11]
  exact redAdd01 _ _ _
theorem pay12_ix (u : FVec Ideal S32x2048x1536 .f32) (k : Fin 1536) : k0_pay12 u mk (ix2 0 k) = ∑ b : Fin 32, ∑ n : Fin 2048, (k0_pay9 u mk (ix3 b n k) : EReal) := by
  pointwise [k0_pay12]
  exact redAdd01 _ _ _
open Classical in
theorem pay9_ix (u : FVec Ideal S32x2048x1536 .f32) (b : Fin 32) (n : Fin 2048) (k : Fin 1536) : k0_pay9 u mk (ix3 b n k)
    = if IntOp.andi (IntOp.shrsi ArithUnit.vector (BitVec.setWidth 32 (mk (ix3 b n ⟨k.val / 8, octet_lt k⟩))) (BitVec.ofNat 32 (k.val % 8))) 1#32 ≠ 0#32
      then (u (ix3 b n k) : EReal) * Ideal.ofBits .f32 1066285284#32 else 0 := by
  have e : k0_pay9 u mk (ix3 b n k) = Scalar.select (IntOp.cmpi .ne (IntOp.andi (IntOp.shrsi ArithUnit.vector (BitVec.setWidth 32 (mk (ix3 b n ⟨k.val / 8, octet_lt k⟩))) (BitVec.ofNat 32 (k.val % 8))) 1#32) 0#32)
      ((u (ix3 b n k) : EReal) * Ideal.ofBits .f32 1066285284#32) (0 : EReal) := by
    pointwise [k0_pay9]
  rw [e]
  generalize IntOp.andi (IntOp.shrsi ArithUnit.vector (BitVec.setWidth 32 (mk (ix3 b n ⟨k.val / 8, octet_lt k⟩))) (BitVec.ofNat 32 (k.val % 8))) 1#32 = w
  unfold Scalar.select
  by_cases h0 : w = 0#32
  · subst h0; simp [IntOp.cmpi]
  · have h1 : (w != 0#32) = true := by simpa using h0
    rw [if_pos h0]
    simp only [IntOp.cmpi, h1]
    rfl
theorem lift2 (hr : S32x2048x1536.Reduces [2] S32x2048) (b : Fin 32) (n : Fin 2048) (k : Fin 1536) : hr.lift (ix2 b n) k = ix3 b n k := by
  funext a
  match a with
  | ⟨0, _⟩ => rfl
  | ⟨1, _⟩ => rfl
  | ⟨2, _⟩ => rfl
theorem max2 (v : FVec Ideal S32x2048x1536 .f32) (hr : S32x2048x1536.Reduces [2] S32x2048) (hφ) (ha) (b : Fin 32) (n : Fin 2048) :
    multiReduction .maximumf [2] S32x2048 v 0xFF800000#32 hr hφ ha (ix2 b n) = (Finset.univ : Finset (Fin 1536)).fold max (⊥ : EReal) fun k => v (ix3 b n k) := by
  have e : (FloatOps.ofBits (F := Ideal) .f32 0xFF800000#32 : EReal) = ⊥ := by simp [FloatOps.ofBits, Ideal.ofBits, Ideal.ieee]
  rw [Ideal.multiReduction_maximumf_single, e]
  refine Finset.fold_congr fun k _ => ?_
  exact congrArg v (lift2 hr b n k)
theorem absf_ix (w : FVec Ideal S32x2048x1536 .f32) (i : S32x2048x1536.Idx) : absf w i = max (w i : EReal) (-(w i : EReal)) := rfl
theorem maxabs (w : FVec Ideal S32x2048x1536 .f32) (b : Fin 32) (n : Fin 2048) :
    ((Finset.univ : Finset (Fin 1536)).fold max (⊥ : EReal) fun k => absf w (ix3 b n k)) = (Finset.univ : Finset (Fin 1536)).fold max (⊥ : EReal) fun k => max (w (ix3 b n k) : EReal) (-(w (ix3 b n k) : EReal)) :=
  Finset.fold_congr fun k _ => absf_ix w _
theorem pay13_ix (u : FVec Ideal S32x2048x1536 .f32) (b : Fin 32) (n : Fin 2048) : k0_pay13 u mk (ix2 b n)
    = (Finset.univ : Finset (Fin 1536)).fold max (⊥ : EReal) fun k => max (k0_pay9 u mk (ix3 b n k) : EReal) (-(k0_pay9 u mk (ix3 b n k) : EReal)) := by
  unfold k0_pay13
  generalize k0_pay9 u mk = w
  dsimp only
  exact (max2 (absf w) _ _ _ b n).trans (maxabs w b n)

/-- The number of powers of two, from 2^-126 on, up to `y`. -/
def cnt (y : EReal) : BitVec 32 :=
  Finset.fold IntOp.addi 0#32 (fun x_1 : Fin 254 => BitVec.setWidth 32 (BitVec.ofBool (decide ((FloatOps.exp2 (F := Ideal) (φ := .f32) (FloatOps.sitofp .f32 (IntOp.subi (BitVec.ofNat 32 ↑x_1) 126#32)) : EReal) ≤ y)))) Finset.univ
theorem pay1_ix (x : FVec Ideal S32x2048 .f32) (b : Fin 32) (n : Fin 2048) : k0_pay1 x k0_pay14 k0_pay15 (ix2 b n)
    = FloatOps.sitofp (F := Ideal) .f32 (Scalar.select (IntOp.cmpi .eq (cnt ((x (ix2 b n) : EReal) * Ideal.ofBits .f32 932333861#32)) 0#32) 0#32 (IntOp.subi (cnt ((x (ix2 b n) : EReal) * Ideal.ofBits .f32 932333861#32)) 126#32)) := by
  unfold cnt
  pointwise [k0_pay1, k0_pay14, k0_pay15]
theorem pay2_ix (x : FVec Ideal S32x2048 .f32) (b : Fin 32) (n : Fin 2048) : k0_pay2 x k0_pay14 k0_pay15 (ix2 b n) = Ideal.exp2 (k0_pay1 x k0_pay14 k0_pay15 (ix2 b n)) := by
  pointwise [k0_pay2]
  all_goals rfl
theorem pay3_ix (d : FVec Ideal S32x2048x1536 .f32) (x : FVec Ideal S32x2048 .f32) (b : Fin 32) (n : Fin 2048) (k : Fin 1536) : k0_pay3 d x k0_pay14 k0_pay15 (ix3 b n k)
   = min (Ideal.ofBits .f32 0x47600000#32) (max (Ideal.ofBits .f32 0xC7600000#32) ((d (ix3 b n k) : EReal) * Ideal.exp2 (0 - k0_pay1 x k0_pay14 k0_pay15 (ix2 b n)))) := by
  pointwise [k0_pay3]
  rfl

end Cert.ReferenceIdeal.Hand

end
-- ==== Proof.RefVal.lean ====
/-
  The plain formulas' payloads as the same formulas over the reals, when the inputs are real numbers.
-/
module

public import proofs.«01_k».proof.Proof.Alg
public import proofs.«01_k».proof.Proof.RefPay

@[expose] public section

set_option maxRecDepth 16384

noncomputable section

namespace Cert.ReferenceIdeal.Hand

open Cert.ReferenceIdeal Cert.ReferenceIdeal.Gen
open Idealize.ShloMosaic
open Cert.KernelIdeal.Hand (Ins iD ks qc coe_sum invD_eq keepS_eq qc_eq)
open Finset (range)

/-- The whole arrays hold the inputs. -/
structure Holds (D : Ins) (c : Vec Ideal S32x2048x1536 .fp8e5m2) (s r : Vec Ideal S32x2048 .f32) (h : Vec Ideal S32x2048x1536 .bf16)
    (μ : Vec Ideal S32x2048 .f32) (g : Vec Ideal S1536 .f32) (res : Vec Ideal S32x2048x1536 .bf16) : Prop where
  c : ∀ (b : Fin 32) (n : Fin 2048) (k : Fin 1536), c (ix3 b n k) = ((D.c b n k : ℝ) : EReal)
  s : ∀ (b : Fin 32) (n : Fin 2048), s (ix2 b n) = ((D.s b n : ℝ) : EReal)
  r : ∀ (b : Fin 32) (n : Fin 2048), r (ix2 b n) = ((D.r b n : ℝ) : EReal)
  h : ∀ (b : Fin 32) (n : Fin 2048) (k : Fin 1536), h (ix3 b n k) = ((D.h b n k : ℝ) : EReal)
  mu : ∀ (b : Fin 32) (n : Fin 2048), μ (ix2 b n) = ((D.mu b n : ℝ) : EReal)
  g : ∀ k : Fin 1536, g (ix1 k) = ((D.g k : ℝ) : EReal)
  res : ∀ (b : Fin 32) (n : Fin 2048) (k : Fin 1536), res (ix3 b n k) = ((D.res b n k : ℝ) : EReal)

theorem fin_sum (N : ℕ) (f : Fin N → EReal) (F : ℕ → ℝ) (h : ∀ k : Fin N, f k = ((F k : ℝ) : EReal)) : ∑ k, f k = ((∑ k ∈ range N, F k : ℝ) : EReal) := by
  rw [coe_sum, Finset.sum_range]
  exact Finset.sum_congr rfl fun k _ => h k
theorem fin_sum2 (N M : ℕ) (f : Fin N → Fin M → EReal) (F : ℕ → ℕ → ℝ) (h : ∀ k l, f k l = ((F k l : ℝ) : EReal)) :
    ∑ k, ∑ l, f k l = ((∑ k ∈ range N, ∑ l ∈ range M, F k l : ℝ) : EReal) :=
  fin_sum N _ (fun k => ∑ l ∈ range M, F k l) fun k => fin_sum M _ (F k) (h k)

variable {D : Ins} {c : Vec Ideal S32x2048x1536 .fp8e5m2} {s r : Vec Ideal S32x2048 .f32} {h : Vec Ideal S32x2048x1536 .bf16}
    {μ : Vec Ideal S32x2048 .f32} {g : Vec Ideal S1536 .f32} {res : Vec Ideal S32x2048x1536 .bf16} (H : Holds D c s r h μ g res)
include H

theorem Holds.dy (b : Fin 32) (n : Fin 2048) (k : Fin 1536) : k0_pay4 c s (ix3 b n k) = ((D.dy b n k : ℝ) : EReal) := by
  rw [pay4_ix, H.c, H.s, ← EReal.coe_mul]; rfl
theorem Holds.xh (b : Fin 32) (n : Fin 2048) (k : Fin 1536) : k0_pay6 r h μ (ix3 b n k) = ((D.xh b n k : ℝ) : EReal) := by
  rw [pay6_ix, H.h, H.mu, H.r, ← EReal.coe_sub, ← EReal.coe_mul]; rfl
theorem Holds.gg (b : Fin 32) (n : Fin 2048) (k : Fin 1536) : (k0_pay4 c s (ix3 b n k) : EReal) * g (ix1 k) = ((D.gg b n k : ℝ) : EReal) := by
  rw [H.dy, H.g, ← EReal.coe_mul]; rfl
theorem Holds.dh (b : Fin 32) (n : Fin 2048) (k : Fin 1536) : k0_pay7 c s r h μ g res (ix3 b n k) = ((D.dh b n k : ℝ) : EReal) := by
  have e1 : (∑ k' : Fin 1536, (k0_pay4 c s (ix3 b n k') : EReal) * g (ix1 k')) = ((D.s1 b n : ℝ) : EReal) := fin_sum 1536 _ (fun k => D.gg b n k) fun k => H.gg b n k
  have e2 : (∑ k' : Fin 1536, (k0_pay4 c s (ix3 b n k') : EReal) * g (ix1 k') * k0_pay6 r h μ (ix3 b n k')) = ((D.s2 b n : ℝ) : EReal) :=
    fin_sum 1536 _ (fun k => D.gg b n k * D.xh b n k) fun k => by rw [H.gg, H.xh, ← EReal.coe_mul]
  have e3 : Ideal.ofBits .f32 0x3A2AAAAB#32 = ((iD : ℝ) : EReal) := invD_eq
  rw [pay7_ix, e1, e2, e3, H.gg, H.xh, H.r, H.res]
  simp only [← EReal.coe_mul, ← EReal.coe_sub, ← EReal.coe_add]
  rfl
theorem Holds.dgamma (k : Fin 1536) : k0_pay10 (k0_pay4 c s) (k0_pay6 r h μ) (ix2 0 k) = ((D.dgamma k : ℝ) : EReal) := by
  rw [pay10_ix]
  exact fin_sum2 32 2048 _ (fun b n => D.dy b n k * D.xh b n k) fun b n => by rw [H.dy, H.xh, ← EReal.coe_mul]
theorem Holds.dbeta (k : Fin 1536) : k0_pay11 (k0_pay4 c s) (ix2 0 k) = ((D.dbeta k : ℝ) : EReal) := by
  rw [pay11_ix]
  exact fin_sum2 32 2048 _ (fun b n => D.dy b n k) fun b n => H.dy b n k

section mask
variable {mk : Vec Ideal S32x2048x192 .i8}
    (M : ∀ (b : Fin 32) (n : Fin 2048) (k : Fin 1536), D.bit b n k ↔ IntOp.andi (IntOp.shrsi ArithUnit.vector (BitVec.setWidth 32 (mk (ix3 b n ⟨k.val / 8, octet_lt k⟩))) (BitVec.ofNat 32 (k.val % 8))) 1#32 ≠ 0#32)
include M

theorem Holds.da (b : Fin 32) (n : Fin 2048) (k : Fin 1536) : k0_pay9 (k0_pay7 c s r h μ g res) mk (ix3 b n k) = ((D.da b n k : ℝ) : EReal) := by
  have e3 : Ideal.ofBits .f32 1066285284#32 = ((ks : ℝ) : EReal) := keepS_eq
  rw [pay9_ix, H.dh, e3, ← EReal.coe_mul]
  unfold Ins.da Ins.dm
  by_cases hb : D.bit b n k
  · rw [if_pos ((M b n k).mp hb), if_pos hb]
  · rw [if_neg fun h' => hb ((M b n k).mpr h'), if_neg hb, zero_mul]; rfl
theorem Holds.dbias (k : Fin 1536) : k0_pay12 (k0_pay7 c s r h μ g res) mk (ix2 0 k) = ((D.dbias k : ℝ) : EReal) := by
  rw [pay12_ix]
  exact fin_sum2 32 2048 _ (fun b n => D.da b n k) fun b n => H.da M b n k
end mask

end Cert.ReferenceIdeal.Hand

end
-- ==== Proof.Ref.lean ====
/-
  What the result arrays of the plain formulas' program hold: each is the payload of the whole argument arrays.
-/
module

public import proofs.«01_k».proof.Proof.RefPay
public import proofs.«01_k».proof.Proof.Gen.ReferenceIdeal.Value
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

theorem idx0 : ∀ t : Fin cfg0.N, win0_0.index t = ![0, 0, 0] := (by decide : ∀ t : Fin grid0.N, win0_0.index t = ![0, 0, 0])
theorem idx1 : ∀ t : Fin cfg0.N, win0_1.index t = ![0, 0] := (by decide : ∀ t : Fin grid0.N, win0_1.index t = ![0, 0])
theorem idx2 : ∀ t : Fin cfg0.N, win0_2.index t = ![0, 0, 0] := (by decide : ∀ t : Fin grid0.N, win0_2.index t = ![0, 0, 0])
theorem idx3 : ∀ t : Fin cfg0.N, win0_3.index t = ![0, 0, 0] := (by decide : ∀ t : Fin grid0.N, win0_3.index t = ![0, 0, 0])
theorem idx4 : ∀ t : Fin cfg0.N, win0_4.index t = ![0, 0, 0] := (by decide : ∀ t : Fin grid0.N, win0_4.index t = ![0, 0, 0])
theorem idx5 : ∀ t : Fin cfg0.N, win0_5.index t = ![0, 0] := (by decide : ∀ t : Fin grid0.N, win0_5.index t = ![0, 0])
theorem idx6 : ∀ t : Fin cfg0.N, win0_6.index t = ![0, 0] := (by decide : ∀ t : Fin grid0.N, win0_6.index t = ![0, 0])
theorem idx7 : ∀ t : Fin cfg0.N, win0_7.index t = ![0] := (by decide : ∀ t : Fin grid0.N, win0_7.index t = ![0])

theorem blk0 (t : Fin cfg0.N) : (iblk m c 0 t : Vec Ideal S32x2048x1536 .fp8e5m2) = V m c main_v0 := by
  funext y; blk_ext [iblk, idx0]
theorem blk1 (t : Fin cfg0.N) : (iblk m c 1 t : Vec Ideal S32x2048 .f32) = V m c main_arg1 := by
  funext y; blk_ext [iblk, idx1]
theorem blk2 (t : Fin cfg0.N) : (iblk m c 2 t : Vec Ideal S32x2048x1536 .bf16) = V m c main_arg2 := by
  funext y; blk_ext [iblk, idx2]
theorem blk3 (t : Fin cfg0.N) : (iblk m c 3 t : Vec Ideal S32x2048x192 .i8) = V m c main_arg3 := by
  funext y; blk_ext [iblk, idx3]
theorem blk4 (t : Fin cfg0.N) : (iblk m c 4 t : Vec Ideal S32x2048x1536 .bf16) = V m c main_arg4 := by
  funext y; blk_ext [iblk, idx4]
theorem blk5 (t : Fin cfg0.N) : (iblk m c 5 t : Vec Ideal S32x2048 .f32) = V m c main_arg5 := by
  funext y; blk_ext [iblk, idx5]
theorem blk6 (t : Fin cfg0.N) : (iblk m c 6 t : Vec Ideal S32x2048 .f32) = V m c main_arg6 := by
  funext y; blk_ext [iblk, idx6]
theorem blk7 (t : Fin cfg0.N) : (iblk m c 7 t : Vec Ideal S1536 .f32) = V m c main_arg7 := by
  funext y; blk_ext [iblk, idx7]

theorem V_v0 : (V m c main_v0 : Vec Ideal S32x2048x1536 .fp8e5m2) = bitcastToFloat (F := Ideal) (s := S32x2048x1536) .fp8e5m2 (m ((c.tc : Thread nD τ).loc main_arg0) : Vec Ideal S32x2048x1536 .i8) := by
  show StableHlo.after hostOps0 _ _ = _
  unfold hostOps0
  after_results

theorem zero3 : (![0, 0, 0] : Fin 3 → ℕ) = fun _ => 0 := by funext a; fin_cases a <;> rfl
theorem zero2 : (![0, 0] : Fin 2 → ℕ) = fun _ => 0 := by funext a; fin_cases a <;> rfl
theorem zero1 : (![0] : Fin 1 → ℕ) = fun _ => 0 := by funext a; fin_cases a; rfl

theorem canon0 {e : EltTy} (p : Vec Ideal S32x2048x1536 e) : View.canon [(⟨r0_0, p⟩ : View.Piece (Elt Ideal) S32x2048x1536 e)] = p :=
  View.canon_cons_unit_zero zero3 _ p []
theorem canon1 (p : Vec Ideal S32x2048 .f32) : View.canon [(⟨r0_1, p⟩ : View.Piece (Elt Ideal) S32x2048 .f32)] = p :=
  View.canon_cons_unit_zero zero2 _ p []
theorem canon4 (p : Vec Ideal S1x1536 .f32) : View.canon [(⟨r0_4, p⟩ : View.Piece (Elt Ideal) S1x1536 .f32)] = p :=
  View.canon_cons_unit_zero zero2 _ p []
theorem ld0 {e : EltTy} (x : Vec Ideal S32x2048x1536 e) : (View.ld x r0_0 : Vec Ideal S32x2048x1536 e) = x := View.ld_unit_zero zero3 _ x
theorem ld1 (x : Vec Ideal S32x2048 .f32) : (View.ld x r0_1 : Vec Ideal S32x2048 .f32) = x := View.ld_unit_zero zero2 _ x
theorem ld2 (x : Vec Ideal S1536 .f32) : (View.ld x r0_2 : Vec Ideal S1536 .f32) = x := View.ld_unit_zero zero1 _ x
theorem ld3 (x : Vec Ideal S32x2048x192 .i8) : (View.ld x r0_3 : Vec Ideal S32x2048x192 .i8) = x := View.ld_unit_zero zero3 _ x

/-- The only point. -/
def t0 : Fin cfg0.N := ⟨0, by decide⟩

theorem whole8 : (cfg0.win 8).WholeAt t0 := by decide +kernel
theorem whole9 : (cfg0.win 9).WholeAt t0 := by decide +kernel
theorem whole10 : (cfg0.win 10).WholeAt t0 := by decide +kernel
theorem whole11 : (cfg0.win 11).WholeAt t0 := by decide +kernel
theorem whole12 : (cfg0.win 12).WholeAt t0 := by decide +kernel
theorem whole13 : (cfg0.win 13).WholeAt t0 := by decide +kernel

/-- The gradient `dh` of the whole arrays. -/
def rDh : FVec Ideal S32x2048x1536 .f32 := k0_pay7 (V m c main_v0) (V m c main_arg1) (V m c main_arg6) (V m c main_arg4) (V m c main_arg5) (V m c main_arg7) (V m c main_arg2)

/-- The gradient `dy` and the normalised activations. -/
def rDy : FVec Ideal S32x2048x1536 .f32 := k0_pay4 (V m c main_v0) (V m c main_arg1)
def rXh : FVec Ideal S32x2048x1536 .f32 := k0_pay6 (V m c main_arg6) (V m c main_arg4) (V m c main_arg5)

theorem arr8_of (P : Vec Ideal S32x2048x1536 .bf16) (h : (dats m 0 c).after 8 t0 = P) : (dats m 0 c).arrAt 8 cfg0.N = P :=
  (dats m 0 c).arrAt_eq_of_after_last 8 t0 whole8 P (fun j => by rw [h]; rfl)
theorem arr8 : (dats m 0 c).arrAt 8 cfg0.N = (k0_pay8 (rDh m c) : Vec Ideal S32x2048x1536 .bf16) := by
  refine arr8_of m c _ ?_
  rw [after0_8, out0_8, canon0, k0_pay17, rDh]
  simp only [ld0, ld1, ld2, ld3]
  rw [blk0, blk1, blk2, blk4, blk5, blk6, blk7]
theorem arr9_of (P : Vec Ideal S1x1536 .f32) (h : (dats m 0 c).after 9 t0 = P) : (dats m 0 c).arrAt 9 cfg0.N = P :=
  (dats m 0 c).arrAt_eq_of_after_last 9 t0 whole9 P (fun j => by rw [h]; rfl)
theorem arr9 : (dats m 0 c).arrAt 9 cfg0.N = (k0_pay10 (rDy m c) (rXh m c) : Vec Ideal S1x1536 .f32) := by
  refine arr9_of m c _ ?_
  rw [after0_9, out0_9, canon4, k0_pay16, rDy, rXh]
  simp only [ld0, ld1, ld2, ld3]
  rw [blk0, blk1, blk4, blk5, blk6]
theorem arr10_of (P : Vec Ideal S1x1536 .f32) (h : (dats m 0 c).after 10 t0 = P) : (dats m 0 c).arrAt 10 cfg0.N = P :=
  (dats m 0 c).arrAt_eq_of_after_last 10 t0 whole10 P (fun j => by rw [h]; rfl)
theorem arr10 : (dats m 0 c).arrAt 10 cfg0.N = (k0_pay11 (rDy m c) : Vec Ideal S1x1536 .f32) := by
  refine arr10_of m c _ ?_
  rw [after0_10, out0_10, canon4, k0_pay16, rDy]
  simp only [ld0, ld1, ld2, ld3]
  rw [blk0, blk1]
theorem arr11_of (P : Vec Ideal S1x1536 .f32) (h : (dats m 0 c).after 11 t0 = P) : (dats m 0 c).arrAt 11 cfg0.N = P :=
  (dats m 0 c).arrAt_eq_of_after_last 11 t0 whole11 P (fun j => by rw [h]; rfl)
theorem arr11 : (dats m 0 c).arrAt 11 cfg0.N = (k0_pay12 (rDh m c) (V m c main_arg3) : Vec Ideal S1x1536 .f32) := by
  refine arr11_of m c _ ?_
  rw [after0_11, out0_11, canon4, k0_pay17, rDh]
  simp only [ld0, ld1, ld2, ld3]
  rw [blk0, blk1, blk2, blk3, blk4, blk5, blk6, blk7]
theorem arr12_of (P : Vec Ideal S32x2048x1536 .fp8e5m2) (h : (dats m 0 c).after 12 t0 = P) : (dats m 0 c).arrAt 12 cfg0.N = P :=
  (dats m 0 c).arrAt_eq_of_after_last 12 t0 whole12 P (fun j => by rw [h]; rfl)
theorem arr12 : (dats m 0 c).arrAt 12 cfg0.N = (k0_pay3 (k0_pay9 (rDh m c) (V m c main_arg3)) (k0_pay13 (rDh m c) (V m c main_arg3)) k0_pay14 k0_pay15 : Vec Ideal S32x2048x1536 .fp8e5m2) := by
  refine arr12_of m c _ ?_
  rw [after0_12, out0_12, canon0, k0_pay20, k0_pay19, k0_pay18, k0_pay17, rDh]
  simp only [ld0, ld1, ld2, ld3]
  rw [blk0, blk1, blk2, blk3, blk4, blk5, blk6, blk7]
theorem arr13_of (P : Vec Ideal S32x2048 .f32) (h : (dats m 0 c).after 13 t0 = P) : (dats m 0 c).arrAt 13 cfg0.N = P :=
  (dats m 0 c).arrAt_eq_of_after_last 13 t0 whole13 P (fun j => by rw [h]; rfl)
theorem arr13 : (dats m 0 c).arrAt 13 cfg0.N = (k0_pay2 (k0_pay13 (rDh m c) (V m c main_arg3)) k0_pay14 k0_pay15 : Vec Ideal S32x2048 .f32) := by
  refine arr13_of m c _ ?_
  rw [after0_13, out0_13, canon1, k0_pay20, k0_pay19, k0_pay18, k0_pay17, rDh]
  simp only [ld0, ld1, ld2, ld3]
  rw [blk0, blk1, blk2, blk3, blk4, blk5, blk6, blk7]

end Cert.ReferenceIdeal.Hand

end
-- ==== Proof.RFin.lean ====
/-
  What the plain formulas' run leaves in the six result arrays.
-/
module

public import proofs.«01_k».proof.Proof.RefVal
public import proofs.«01_k».proof.Proof.Ref
public import proofs.«01_k».proof.Proof.Mask
public import proofs.«01_k».proof.Proof.Results

@[expose] public section

set_option maxRecDepth 16384

noncomputable section

namespace Cert.ReferenceIdeal.Hand

open Cert.ReferenceIdeal Cert.ReferenceIdeal.Gen
open Idealize.ShloMosaic Idealize.ShloMosaic.TcCoe
open Cert.KernelIdeal.Hand (Ins insOf iD ks qc coe_sum keepS_eq qc_eq tame_spec Sm mbit q3 r2 ofNat_eq vDx vRow vDa vDas agree3 agree2 IsCount sc kBe expR exp2_up exp2_down exp2_step count_eq powB max_abs fold_max_eq)
open Finset (range)

variable (m : (ℓ : Loc nD τ sig) → Buf (Elt Ideal) ℓ) (c : Dev nD) [Cert.Pre_tame.Facts]

/-- The inputs of a core. -/
def insM : Ins := insOf (m ((c.tc : Thread nD τ).loc main_arg0)) (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6)) (m ((c.tc : Thread nD τ).loc main_arg7))

/-- The precondition of a core's inputs. -/
def TameM : Prop := Cert.Pre_tame.fn (F := Ideal) (m ((c.tc : Thread nD τ).loc main_arg0)) (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6)) (m ((c.tc : Thread nD τ).loc main_arg7)) = fun _ => 1#1

theorem at3 {A B C : ℕ} [NeZero A] [NeZero B] [NeZero C] {α : Type} (x : (⟨3, ![A, B, C]⟩ : Shape).Idx → α) (a : Fin A) (b : Fin B) (k : Fin C) :
    x (ix3 a b k) = q3 x a.val b.val k.val := by
  unfold q3
  rw [ofNat_eq a.isLt, ofNat_eq b.isLt, ofNat_eq k.isLt]
theorem at2 {A B : ℕ} [NeZero A] [NeZero B] {α : Type} (x : (⟨2, ![A, B]⟩ : Shape).Idx → α) (a : Fin A) (b : Fin B) :
    x (ix2 a b) = r2 x a.val b.val := by
  unfold r2
  rw [ofNat_eq a.isLt, ofNat_eq b.isLt]
theorem at1 {A : ℕ} [NeZero A] {α : Type} (x : (⟨1, ![A]⟩ : Shape).Idx → α) (a : Fin A) : x (ix1 a) = x (ix1 (Fin.ofNat A a.val)) := by
  rw [ofNat_eq a.isLt]

theorem holdsM (hT : TameM m c) : Holds (insM m c) (V m c main_v0) (V m c main_arg1) (V m c main_arg6) (V m c main_arg4) (V m c main_arg5) (V m c main_arg7) (V m c main_arg2) := by
  obtain ⟨t0, t1, t2, t4, t5, t6, t7⟩ := tame_spec _ _ _ _ _ _ _ _ hT
  constructor
  · intro b n k
    rw [V_v0]
    refine (at3 (A := 32) (B := 2048) (C := 1536) _ b n k).trans ?_
    exact (t0 _).toReal
  · intro b n
    rw [V_main_arg1]
    exact (at2 (A := 32) (B := 2048) _ b n).trans (t1 _).toReal
  · intro b n
    rw [V_main_arg6]
    exact (at2 (A := 32) (B := 2048) _ b n).trans (t6 _).toReal
  · intro b n k
    rw [V_main_arg4]
    exact (at3 (A := 32) (B := 2048) (C := 1536) _ b n k).trans (t4 _).toReal
  · intro b n
    rw [V_main_arg5]
    exact (at2 (A := 32) (B := 2048) _ b n).trans (t5 _).toReal
  · intro k
    rw [V_main_arg7]
    exact (at1 (A := 1536) _ k).trans (t7 _).toReal
  · intro b n k
    rw [V_main_arg2]
    exact (at3 (A := 32) (B := 2048) (C := 1536) _ b n k).trans (t2 _).toReal

theorem maskM (b : Fin 32) (n : Fin 2048) (k : Fin 1536) : (insM m c).bit b n k ↔ IntOp.andi (IntOp.shrsi ArithUnit.vector (BitVec.setWidth 32 ((V m c main_arg3 : Vec Ideal S32x2048x192 .i8) (ix3 b n ⟨k.val / 8, octet_lt k⟩))) (BitVec.ofNat 32 (k.val % 8))) 1#32 ≠ 0#32 := by
  rw [V_main_arg3]
  refine iff_of_eq (congrArg (fun z => mbit z k.val) ?_)
  exact (at3 (A := 32) (B := 2048) (C := 192) _ b n ⟨k.val / 8, octet_lt k⟩).symm

theorem r_dx (hT : TameM m c) : ((dats m 0 c).arrAt 8 cfg0.N : Vec Ideal S32x2048x1536 .bf16) = vDx (insM m c) := by
  rw [arr8]
  refine agree3 _ _ fun b n k => ?_
  exact (pay8_ix _ b n k).trans ((holdsM m c hT).dh b n k)
theorem r_dgamma (hT : TameM m c) : ((dats m 0 c).arrAt 9 cfg0.N : Vec Ideal S1x1536 .f32) = vRow (insM m c).dgamma := by
  rw [arr9]
  refine agree2 _ _ fun a k => ?_
  rw [Subsingleton.elim a 0]
  exact (holdsM m c hT).dgamma k
theorem r_dbeta (hT : TameM m c) : ((dats m 0 c).arrAt 10 cfg0.N : Vec Ideal S1x1536 .f32) = vRow (insM m c).dbeta := by
  rw [arr10]
  refine agree2 _ _ fun a k => ?_
  rw [Subsingleton.elim a 0]
  exact (holdsM m c hT).dbeta k
theorem r_dbias (hT : TameM m c) : ((dats m 0 c).arrAt 11 cfg0.N : Vec Ideal S1x1536 .f32) = vRow (insM m c).dbias := by
  rw [arr11]
  refine agree2 _ _ fun a k => ?_
  rw [Subsingleton.elim a 0]
  exact (holdsM m c hT).dbias (maskM m c) k

/-- The row's largest size. -/
theorem am_val (hT : TameM m c) (b : Fin 32) (n : Fin 2048) {A : ℝ} (hA : (insM m c).IsMax b n A) :
    k0_pay13 (rDh m c) (V m c main_arg3) (ix2 b n) = ((A * ks : ℝ) : EReal) := by
  have hks : (0 : ℝ) ≤ ks := by unfold ks; norm_num
  have hv : ∀ k : Fin 1536, max (k0_pay9 (rDh m c) (V m c main_arg3) (ix3 b n k) : EReal) (-(k0_pay9 (rDh m c) (V m c main_arg3) (ix3 b n k) : EReal)) = ((|(insM m c).dm b n k| * ks : ℝ) : EReal) := fun k => by
    have := (holdsM m c hT).da (maskM m c) b n k
    unfold rDh
    rw [this, max_abs]
    unfold Ins.da
    rw [abs_mul, abs_of_nonneg hks]
  rw [pay13_ix]
  refine fold_max_eq _ _ _ (fun k _ => ?_) ?_
  · rw [hv]
    exact EReal.coe_le_coe_iff.mpr (mul_le_mul_of_nonneg_right (hA.1 _ k.isLt) hks)
  · obtain ⟨κ, hκ, e⟩ := hA.2
    refine ⟨⟨κ, hκ⟩, Finset.mem_univ _, ?_⟩
    rw [hv, ← e]

theorem cnt_val {y : EReal} {N : ℕ} (h : IsCount y N) : cnt y = BitVec.ofNat 32 N :=
  count_eq h (fun k => decide ((FloatOps.exp2 (F := Ideal) (φ := .f32) (FloatOps.sitofp .f32 (IntOp.subi (BitVec.ofNat 32 k) 126#32)) : EReal) ≤ y)) fun k => by
    rw [decide_eq_true_iff, exp2_step]

theorem exp_val (hT : TameM m c) (b : Fin 32) (n : Fin 2048) {A : ℝ} (hA : (insM m c).IsMax b n A) {N : ℕ} (hN : IsCount ((A * ks * qc : ℝ) : EReal) N) :
    k0_pay1 (k0_pay13 (rDh m c) (V m c main_arg3)) k0_pay14 k0_pay15 (ix2 b n) = FloatOps.sitofp (F := Ideal) .f32 (expR (BitVec.ofNat 32 N)) := by
  have e : (k0_pay13 (rDh m c) (V m c main_arg3) (ix2 b n) : EReal) * Ideal.ofBits .f32 932333861#32 = ((A * ks * qc : ℝ) : EReal) := by
    rw [am_val m c hT b n hA, show Ideal.ofBits .f32 932333861#32 = ((qc : ℝ) : EReal) from qc_eq, ← EReal.coe_mul]
  rw [pay1_ix, e, cnt_val hN]
  rfl

theorem r_da (hT : TameM m c) (H : (insM m c).Small) : ((dats m 0 c).arrAt 12 cfg0.N : Vec Ideal S32x2048x1536 .fp8e5m2) = vDa H := by
  rw [arr12]
  refine agree3 _ _ fun b n k => ?_
  refine (pay3_ix _ _ b n k).trans (congrArg (fun z : EReal => min (Ideal.ofBits .f32 0x47600000#32) (max (Ideal.ofBits .f32 0xC7600000#32) z)) ?_)
  have hd : (k0_pay9 (rDh m c) (V m c main_arg3) (ix3 b n k) : EReal) = (((insM m c).da b n k : ℝ) : EReal) := (holdsM m c hT).da (maskM m c) b n k
  rw [exp_val m c hT b n ((insM m c).amax_spec b n) (H.count_spec b n), exp2_down (H.count_spec b n).1, hd, ← EReal.coe_mul]
  rfl
theorem r_das (hT : TameM m c) (H : (insM m c).Small) : ((dats m 0 c).arrAt 13 cfg0.N : Vec Ideal S32x2048 .f32) = vDas H := by
  rw [arr13]
  refine agree2 _ _ fun b n => ?_
  refine (pay2_ix _ b n).trans ?_
  rw [exp_val m c hT b n ((insM m c).amax_spec b n) (H.count_spec b n), exp2_up (H.count_spec b n).1]
  rfl

end Cert.ReferenceIdeal.Hand

end
-- ==== Proof.lean ====
/-
  The certificate: the frames of the kernel, of its idealization and of the reference, and that the last two leave the same six arrays.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_tame
public import Idealize.ShloMosaic.Adequacy
public import Idealize.ShloMosaic.Init

public import proofs.«01_k».proof.Proof.Gen.ReferenceIdeal.Value
public import proofs.«01_k».proof.Proof.KernelFrame
public import proofs.«01_k».proof.Proof.Launch
public import proofs.«01_k».proof.Proof.KFin
public import proofs.«01_k».proof.Proof.RFin

@[expose] public section

noncomputable section

namespace Cert.Proof

open Idealize.ShloMosaic Idealize.SL.Sem Cert.Kernel

open Cert.KernelIdeal.Hand (vDx vRow vDa vDas Ins)

/-- The idealized kernel ends, its arguments are kept and every counter is zero. -/
theorem frame_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0) :=
  (θ_run _ _ _).mono (fun r h => ⟨fun c => Cert.KernelIdeal.Hand.args_kept h.1 c, h.2⟩) (Cert.KernelIdeal.Hand.run_main m g)

theorem vDa_congr {D D' : Ins} (e : D = D') (H : D.Small) (H' : D'.Small) : vDa H = vDa H' := by
  subst e; rfl
theorem vDas_congr {D D' : Ins} (e : D = D') (H : D.Small) (H' : D'.Small) : vDas H = vDas H' := by
  subst e; rfl

/-- Both programs end with the same six arrays, those of `Results`. -/
theorem same [Cert.Pre_tame.Facts] : algebraic_KernelIdeal_ReferenceIdeal_pre_tame := by
  intro m g m' g' hP hA
  have eI : ∀ c, Cert.ReferenceIdeal.Hand.insM m' c = Cert.KernelIdeal.Hand.insM m c := fun c => by
    obtain ⟨a0, a1, a2, a3, a4, a5, a6, a7⟩ := hA c
    unfold Cert.ReferenceIdeal.Hand.insM Cert.KernelIdeal.Hand.insM
    rw [a0, a1, a2, a3, a4, a5, a6, a7]
  have tK : ∀ c, Cert.KernelIdeal.Hand.TameM m c := hP
  have tR : ∀ c, Cert.ReferenceIdeal.Hand.TameM m' c := fun c => by
    obtain ⟨a0, a1, a2, a3, a4, a5, a6, a7⟩ := hA c
    unfold Cert.ReferenceIdeal.Hand.TameM
    rw [a0, a1, a2, a3, a4, a5, a6, a7]
    exact tK c
  have HK : ∀ c, (Cert.KernelIdeal.Hand.insM m c).Small := fun c => Cert.KernelIdeal.Hand.smallM m c (tK c)
  have HR : ∀ c, (Cert.ReferenceIdeal.Hand.insM m' c).Small := fun c => (eI c).symm ▸ HK c
  refine ⟨fun c => vDx (Cert.KernelIdeal.Hand.insM m c), fun c => vRow (Cert.KernelIdeal.Hand.insM m c).dgamma, fun c => vRow (Cert.KernelIdeal.Hand.insM m c).dbeta,
    fun c => vRow (Cert.KernelIdeal.Hand.insM m c).dbias, fun c => vDa (HK c), fun c => vDas (HK c), ?_, ?_⟩
  · refine (θ_run _ _ _).mono (fun r h c => ?_) (Cert.KernelIdeal.Hand.run_main m g)
    exact ⟨Cert.KernelIdeal.Hand.k_dx h.1 c (tK c), Cert.KernelIdeal.Hand.k_dgamma h.1 c (tK c), Cert.KernelIdeal.Hand.k_dbeta h.1 c (tK c),
      Cert.KernelIdeal.Hand.k_dbias h.1 c (tK c), Cert.KernelIdeal.Hand.k_da h.1 c (tK c), Cert.KernelIdeal.Hand.k_das h.1 c (tK c),
      Cert.KernelIdeal.Hand.args_kept h.1 c⟩
  · refine (θ_run _ _ _).mono (fun r h c => ?_) (Cert.ReferenceIdeal.Value.run_blocks m' g')
    obtain ⟨h0, h1, h2, h3, h4, h5, hk⟩ := h c
    exact ⟨h0.trans ((Cert.ReferenceIdeal.Hand.r_dx m' c (tR c)).trans (congrArg vDx (eI c))),
      h1.trans ((Cert.ReferenceIdeal.Hand.r_dgamma m' c (tR c)).trans (congrArg (fun D : Ins => vRow D.dgamma) (eI c))),
      h2.trans ((Cert.ReferenceIdeal.Hand.r_dbeta m' c (tR c)).trans (congrArg (fun D : Ins => vRow D.dbeta) (eI c))),
      h3.trans ((Cert.ReferenceIdeal.Hand.r_dbias m' c (tR c)).trans (congrArg (fun D : Ins => vRow D.dbias) (eI c))),
      h4.trans ((Cert.ReferenceIdeal.Hand.r_da m' c (tR c) (HR c)).trans (vDa_congr (eI c) _ _)),
      h5.trans ((Cert.ReferenceIdeal.Hand.r_das m' c (tR c) (HR c)).trans (vDas_congr (eI c) _ _)), hk⟩

theorem claim : Cert.Claim := ⟨Cert.Kernel.Gen.facts, Cert.KernelIdeal.Gen.facts, Cert.ReferenceIdeal.Gen.facts, Cert.Pre_tame.Gen.facts,
  fun m g _ => Cert.Kernel.Gen.frame m g, fun m g _ => frame_ideal m g, fun m g _ => frame_ideal m g,
  fun m g _ => Cert.ReferenceIdeal.Gen.frame m g, fun m g _ => Cert.ReferenceIdeal.Gen.frame m g, trivial,
  letI := Cert.Pre_tame.Gen.facts; same⟩

end Cert.Proof

end
